-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1440) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S8x1024x16x64 : Shape := ⟨4, ![8, 1024, 16, 64]⟩
abbrev S1024x64 : Shape := ⟨2, ![1024, 64]⟩
abbrev S1024x1024 : Shape := ⟨2, ![1024, 1024]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1024 : Shape := ⟨1, ![1024]⟩
abbrev S64x64 : Shape := ⟨2, ![64, 64]⟩
abbrev S192x64 : Shape := ⟨2, ![192, 64]⟩
abbrev S192 : Shape := ⟨1, ![192]⟩
abbrev S256x1024 : Shape := ⟨2, ![256, 1024]⟩
abbrev S2x256 : Shape := ⟨2, ![2, 256]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x1024x16x64 .f32) (main_arg1 : FVec F S1024x64 .f32) (main_arg2 : FVec F S1024x1024 .f32) (main_arg3 : FVec F S64x256 .f32) (main_arg4 : FVec F S256 .f32) (main_arg5 : FVec F S256x64 .f32) (main_arg6 : FVec F S64 .f32) (main_arg7 : FVec F S1024x64 .f32) (main_arg8 : FVec F S1024 .f32) (main_arg9 : FVec F S64x64 .f32) (main_arg10 : FVec F S64 .f32) (main_arg11 : FVec F S192x64 .f32) (main_arg12 : FVec F S192x64 .f32) (main_arg13 : FVec F S192 .f32) (main_arg14 : FVec F S192 .f32) (main_arg15 : FVec F S192x64 .f32) (main_arg16 : FVec F S192x64 .f32) (main_arg17 : FVec F S192 .f32) (main_arg18 : FVec F S192 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64 .f32) (main_arg28 : FVec F S64 .f32) (main_arg29 : FVec F S256x1024 .f32) (main_arg30 : FVec F S256 .f32) (main_arg31 : FVec F S2x256 .f32) (main_arg32 : IVec S_ 32) : IVec S_ 1 :=
  let main_v0 : FVec F S64x64 .f32 := Host.absf main_arg19
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64 .f32 := Host.absf main_arg20
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg21
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg22
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x1024x16x64 : Shape := ⟨4, ![8, 1024, 16, 64]⟩
abbrev S1024x64 : Shape := ⟨2, ![1024, 64]⟩
abbrev S1024x1024 : Shape := ⟨2, ![1024, 1024]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1024 : Shape := ⟨1, ![1024]⟩
abbrev S64x64 : Shape := ⟨2, ![64, 64]⟩
abbrev S192x64 : Shape := ⟨2, ![192, 64]⟩
abbrev S192 : Shape := ⟨1, ![192]⟩
abbrev S256x1024 : Shape := ⟨2, ![256, 1024]⟩
abbrev S2x256 : Shape := ⟨2, ![2, 256]⟩
abbrev S_ : Shape := ⟨0, ![]⟩
abbrev S64x1024 : Shape := ⟨2, ![64, 1024]⟩
abbrev S1x1024 : Shape := ⟨2, ![1, 1024]⟩
abbrev S8x1024x1024 : Shape := ⟨3, ![8, 1024, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x256 : Shape := ⟨2, ![1, 256]⟩
abbrev S16x8x1024x64 : Shape := ⟨4, ![16, 8, 1024, 64]⟩
abbrev S1x1024x512 : Shape := ⟨3, ![1, 1024, 512]⟩
abbrev S8x1x1024x64 : Shape := ⟨4, ![8, 1, 1024, 64]⟩
abbrev S1024x512 : Shape := ⟨2, ![1024, 512]⟩
abbrev S1024x256 : Shape := ⟨2, ![1024, 256]⟩
abbrev S1024x2048 : Shape := ⟨2, ![1024, 2048]⟩
abbrev S1x1x1024x64 : Shape := ⟨4, ![1, 1, 1024, 64]⟩
abbrev S16x8192x64 : Shape := ⟨3, ![16, 8192, 64]⟩
abbrev S64x192 : Shape := ⟨2, ![64, 192]⟩
abbrev S1x192 : Shape := ⟨2, ![1, 192]⟩
abbrev S16x512x64 : Shape := ⟨3, ![16, 512, 64]⟩
abbrev S8192x64 : Shape := ⟨2, ![8192, 64]⟩
abbrev S8192x192 : Shape := ⟨2, ![8192, 192]⟩
abbrev S16x512x192 : Shape := ⟨3, ![16, 512, 192]⟩
abbrev S512x64 : Shape := ⟨2, ![512, 64]⟩
abbrev S512x192 : Shape := ⟨2, ![512, 192]⟩
abbrev S1x512x192 : Shape := ⟨3, ![1, 512, 192]⟩
abbrev S512x128 : Shape := ⟨2, ![512, 128]⟩
abbrev S1x512x64 : Shape := ⟨3, ![1, 512, 64]⟩
abbrev S8192x16x64 : Shape := ⟨3, ![8192, 16, 64]⟩
abbrev S16 : Shape := ⟨1, ![16]⟩
abbrev S16x1 : Shape := ⟨2, ![16, 1]⟩
abbrev S16x64 : Shape := ⟨2, ![16, 64]⟩
abbrev S64x1 : Shape := ⟨2, ![64, 1]⟩
abbrev S256x2 : Shape := ⟨2, ![256, 2]⟩
abbrev S8192x2 : Shape := ⟨2, ![8192, 2]⟩
abbrev S256x16x64 : Shape := ⟨3, ![256, 16, 64]⟩
abbrev S4096x64 : Shape := ⟨2, ![4096, 64]⟩
abbrev S4096x16 : Shape := ⟨2, ![4096, 16]⟩
abbrev S256x16x16 : Shape := ⟨3, ![256, 16, 16]⟩
abbrev S1x16x64 : Shape := ⟨3, ![1, 16, 64]⟩
abbrev S256x16 : Shape := ⟨2, ![256, 16]⟩
abbrev S256x16x1 : Shape := ⟨3, ![256, 16, 1]⟩
abbrev S4096 : Shape := ⟨1, ![4096]⟩
abbrev S4096x1 : Shape := ⟨2, ![4096, 1]⟩
abbrev S256x1x64 : Shape := ⟨3, ![256, 1, 64]⟩
abbrev S256x256 : Shape := ⟨2, ![256, 256]⟩

abbrev nBuf : Space → Nat
  | .hbm => 167
  | .vmem => 47
  | .smem => 0
  | _ => 0

abbrev hbmTy0_0 (i : Nat) : BufTy := match i % 128 with
  | 0 => ⟨S8x1024x16x64, .f32⟩
  | 1 => ⟨S1024x64, .f32⟩
  | 2 => ⟨S1024x1024, .f32⟩
  | 3 => ⟨S64x256, .f32⟩
  | 4 => ⟨S256, .f32⟩
  | 5 => ⟨S256x64, .f32⟩
  | 6 => ⟨S64, .f32⟩
  | 7 => ⟨S1024x64, .f32⟩
  | 8 => ⟨S1024, .f32⟩
  | 9 => ⟨S64x64, .f32⟩
  | 10 => ⟨S64, .f32⟩
  | 11 => ⟨S192x64, .f32⟩
  | 12 => ⟨S192x64, .f32⟩
  | 13 => ⟨S192, .f32⟩
  | 14 => ⟨S192, .f32⟩
  | 15 => ⟨S192x64, .f32⟩
  | 16 => ⟨S192x64, .f32⟩
  | 17 => ⟨S192, .f32⟩
  | 18 => ⟨S192, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S64x64, .f32⟩
  | 26 => ⟨S64, .f32⟩
  | 27 => ⟨S64, .f32⟩
  | 28 => ⟨S64, .f32⟩
  | 29 => ⟨S256x1024, .f32⟩
  | 30 => ⟨S256, .f32⟩
  | 31 => ⟨S2x256, .f32⟩
  | 32 => ⟨S_, .i32⟩
  | 33 => ⟨S64x1024, .f32⟩
  | 34 => ⟨S64x1024, .bf16⟩
  | 35 => ⟨S1x1024, .f32⟩
  | 36 => ⟨S1024x1024, .bf16⟩
  | 37 => ⟨S8x1024x1024, .f32⟩
  | 38 => ⟨S1x64, .f32⟩
  | 39 => ⟨S8x64, .f32⟩
  | 40 => ⟨S512, .f32⟩
  | 41 => ⟨S1x512, .f32⟩
  | 42 => ⟨S_, .f32⟩
  | 43 => ⟨S1x512, .f32⟩
  | 44 => ⟨S1x512, .f32⟩
  | 45 => ⟨S1024x1024, .bf16⟩
  | 46 => ⟨S64x256, .bf16⟩
  | 47 => ⟨S1x256, .f32⟩
  | 48 => ⟨S256x64, .bf16⟩
  | 49 => ⟨S64x64, .f32⟩
  | 50 => ⟨S64x64, .bf16⟩
  | 51 => ⟨S1x64, .f32⟩
  | 52 => ⟨S16x8x1024x64, .bf16⟩
  | 53 => ⟨S16x8192x64, .bf16⟩
  | 54 => ⟨S64x192, .f32⟩
  | 55 => ⟨S64x192, .bf16⟩
  | 56 => ⟨S1x192, .f32⟩
  | 57 => ⟨S64x192, .f32⟩
  | 58 => ⟨S64x192, .bf16⟩
  | 59 => ⟨S64x192, .f32⟩
  | 60 => ⟨S64x192, .bf16⟩
  | 61 => ⟨S1x192, .f32⟩
  | 62 => ⟨S1x192, .f32⟩
  | 63 => ⟨S64x192, .f32⟩
  | 64 => ⟨S64x192, .bf16⟩
  | 65 => ⟨S1x192, .f32⟩
  | 66 => ⟨S16x8192x64, .f32⟩
  | 67 => ⟨S8192x16x64, .f32⟩
  | 68 => ⟨S16, .i32⟩
  | 69 => ⟨S64, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S64, .i32⟩
  | 77 => ⟨S64, .i32⟩
  | 78 => ⟨S_, .i32⟩
  | 79 => ⟨S64, .i32⟩
  | 80 => ⟨S64, .i1⟩
  | 81 => ⟨S_, .i32⟩
  | 82 => ⟨S64, .i32⟩
  | 83 => ⟨S64, .i1⟩
  | 84 => ⟨S_, .i32⟩
  | 85 => ⟨S_, .i1⟩
  | 86 => ⟨S64, .i1⟩
  | 87 => ⟨S64, .i1⟩
  | 88 => ⟨S64, .i1⟩
  | 89 => ⟨S64, .i32⟩
  | 90 => ⟨S64, .i32⟩
  | 91 => ⟨S64, .i32⟩
  | 92 => ⟨S1x64, .i32⟩
  | 93 => ⟨S16x1, .i32⟩
  | 94 => ⟨S16x64, .i32⟩
  | 95 => ⟨S16x64, .i32⟩
  | 96 => ⟨S16x64, .i1⟩
  | 97 => ⟨S_, .f32⟩
  | 98 => ⟨S_, .f32⟩
  | 99 => ⟨S16x64, .f32⟩
  | 100 => ⟨S16x64, .f32⟩
  | 101 => ⟨S16x64, .f32⟩
  | 102 => ⟨S16x64, .f32⟩
  | 103 => ⟨S64, .i32⟩
  | 104 => ⟨S64x1, .i32⟩
  | 105 => ⟨S_, .i32⟩
  | 106 => ⟨S_, .i32⟩
  | 107 => ⟨S64x1, .i32⟩
  | 108 => ⟨S64x1, .i32⟩
  | 109 => ⟨S64x1, .i32⟩
  | 110 => ⟨S_, .i32⟩
  | 111 => ⟨S64x1, .i32⟩
  | 112 => ⟨S64x1, .i1⟩
  | 113 => ⟨S64x1, .i32⟩
  | 114 => ⟨S64x1, .i32⟩
  | 115 => ⟨S_, .i32⟩
  | 116 => ⟨S64x1, .i32⟩
  | 117 => ⟨S64x1, .i1⟩
  | 118 => ⟨S64x1, .i1⟩
  | 119 => ⟨S_, .i32⟩
  | 120 => ⟨S64x1, .i32⟩
  | 121 => ⟨S64x1, .i32⟩
  | 122 => ⟨S64x1, .i32⟩
  | 123 => ⟨S64, .i32⟩
  | 124 => ⟨S1x64, .i32⟩
  | 125 => ⟨S_, .i32⟩
  | 126 => ⟨S_, .i32⟩
  | 127 => ⟨S1x64, .i32⟩
  | _ => ⟨S8x1024x16x64, .f32⟩

abbrev hbmTy0_1 (i : Nat) : BufTy := match i % 128 with
  | 0 => ⟨S1x64, .i32⟩
  | 1 => ⟨S1x64, .i32⟩
  | 2 => ⟨S_, .i32⟩
  | 3 => ⟨S1x64, .i32⟩
  | 4 => ⟨S1x64, .i1⟩
  | 5 => ⟨S1x64, .i32⟩
  | 6 => ⟨S1x64, .i32⟩
  | 7 => ⟨S_, .i32⟩
  | 8 => ⟨S1x64, .i32⟩
  | 9 => ⟨S1x64, .i1⟩
  | 10 => ⟨S1x64, .i1⟩
  | 11 => ⟨S_, .i32⟩
  | 12 => ⟨S1x64, .i32⟩
  | 13 => ⟨S1x64, .i32⟩
  | 14 => ⟨S1x64, .i32⟩
  | 15 => ⟨S64x64, .i32⟩
  | 16 => ⟨S64x64, .i32⟩
  | 17 => ⟨S64x64, .i1⟩
  | 18 => ⟨S64x64, .bf16⟩
  | 19 => ⟨S64x64, .f32⟩
  | 20 => ⟨S64x64, .bf16⟩
  | 21 => ⟨S1x64, .f32⟩
  | 22 => ⟨S64x64, .f32⟩
  | 23 => ⟨S64x64, .bf16⟩
  | 24 => ⟨S1x64, .f32⟩
  | 25 => ⟨S64x64, .f32⟩
  | 26 => ⟨S64x64, .bf16⟩
  | 27 => ⟨S1x64, .f32⟩
  | 28 => ⟨S64x64, .f32⟩
  | 29 => ⟨S64x64, .bf16⟩
  | 30 => ⟨S1x64, .f32⟩
  | 31 => ⟨S1x64, .f32⟩
  | 32 => ⟨S1x64, .f32⟩
  | 33 => ⟨S1024x256, .f32⟩
  | 34 => ⟨S1024x256, .bf16⟩
  | 35 => ⟨S1x256, .f32⟩
  | 36 => ⟨S256x2, .f32⟩
  | 37 => ⟨S256x2, .bf16⟩
  | 38 => ⟨S8192x2, .f32⟩
  | _ => ⟨S8x1024x16x64, .f32⟩

abbrev hbmTy (i : Nat) : BufTy := match i / 128 with
  | 0 => hbmTy0_0 i
  | 1 => hbmTy0_1 i
  | _ => ⟨S8x1024x16x64, .f32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S64x1024, .bf16⟩
  | .local _ .vmem, ⟨2, _⟩ => ⟨S1x1024, .f32⟩
  | .local _ .vmem, ⟨3, _⟩ => ⟨S1024x1024, .bf16⟩
  | .local _ .vmem, ⟨4, _⟩ => ⟨S1x1024x512, .f32⟩
  | .local _ .vmem, ⟨5, _⟩ => ⟨S1x1024x512, .f32⟩
  | .local _ .vmem, ⟨6, _⟩ => ⟨S1024x1024, .bf16⟩
  | .local _ .vmem, ⟨7, _⟩ => ⟨S1024x1024, .bf16⟩
  | .local _ .vmem, ⟨8, _⟩ => ⟨S64x256, .bf16⟩
  | .local _ .vmem, ⟨9, _⟩ => ⟨S1x256, .f32⟩
  | .local _ .vmem, ⟨10, _⟩ => ⟨S256x64, .bf16⟩
  | .local _ .vmem, ⟨11, _⟩ => ⟨S1x512, .f32⟩
  | .local _ .vmem, ⟨12, _⟩ => ⟨S64x64, .bf16⟩
  | .local _ .vmem, ⟨13, _⟩ => ⟨S1x64, .f32⟩
  | .local _ .vmem, ⟨14, _⟩ => ⟨S8x1x1024x64, .bf16⟩
  | .local _ .vmem, ⟨15, _⟩ => ⟨S8x1x1024x64, .bf16⟩
  | .local _ .vmem, ⟨16, _⟩ => ⟨S16x512x64, .bf16⟩
  | .local _ .vmem, ⟨17, _⟩ => ⟨S16x512x64, .bf16⟩
  | .local _ .vmem, ⟨18, _⟩ => ⟨S64x192, .bf16⟩
  | .local _ .vmem, ⟨19, _⟩ => ⟨S1x192, .f32⟩
  | .local _ .vmem, ⟨20, _⟩ => ⟨S64x192, .bf16⟩
  | .local _ .vmem, ⟨21, _⟩ => ⟨S64x192, .bf16⟩
  | .local _ .vmem, ⟨22, _⟩ => ⟨S1x192, .f32⟩
  | .local _ .vmem, ⟨23, _⟩ => ⟨S1x192, .f32⟩
  | .local _ .vmem, ⟨24, _⟩ => ⟨S64x192, .bf16⟩
  | .local _ .vmem, ⟨25, _⟩ => ⟨S1x192, .f32⟩
  | .local _ .vmem, ⟨26, _⟩ => ⟨S16x512x64, .f32⟩
  | .local _ .vmem, ⟨27, _⟩ => ⟨S16x512x64, .f32⟩
  | .local _ .vmem, ⟨28, _⟩ => ⟨S256x16x64, .f32⟩
  | .local _ .vmem, ⟨29, _⟩ => ⟨S256x16x64, .f32⟩
  | .local _ .vmem, ⟨30, _⟩ => ⟨S64x64, .bf16⟩
  | .local _ .vmem, ⟨31, _⟩ => ⟨S1x64, .f32⟩
  | .local _ .vmem, ⟨32, _⟩ => ⟨S64x64, .bf16⟩
  | .local _ .vmem, ⟨33, _⟩ => ⟨S1x64, .f32⟩
  | .local _ .vmem, ⟨34, _⟩ => ⟨S64x64, .bf16⟩
  | .local _ .vmem, ⟨35, _⟩ => ⟨S1x64, .f32⟩
  | .local _ .vmem, ⟨36, _⟩ => ⟨S64x64, .bf16⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S1024x256, .bf16⟩
  | .local _ .vmem, ⟨41, _⟩ => ⟨S1x256, .f32⟩
  | .local _ .vmem, ⟨42, _⟩ => ⟨S256x2, .bf16⟩
  | .local _ .vmem, ⟨43, _⟩ => ⟨S16x64, .f32⟩
  | .local _ .vmem, ⟨44, _⟩ => ⟨S64x64, .bf16⟩
  | .local _ .vmem, ⟨45, _⟩ => ⟨S256x2, .f32⟩
  | .local _ .vmem, ⟨46, _⟩ => ⟨S256x2, .f32⟩
  | _, _ => ⟨S8x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_c_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_1 : Ref sig .tc := ⟨.hbm, 78, rfl⟩
abbrev main_call0_v5 : Ref sig .tc := ⟨.hbm, 79, rfl⟩
abbrev main_call0_v6 : Ref sig .tc := ⟨.hbm, 80, rfl⟩
abbrev main_call0_c_2 : Ref sig .tc := ⟨.hbm, 81, rfl⟩
abbrev main_call0_v7 : Ref sig .tc := ⟨.hbm, 82, rfl⟩
abbrev main_call0_v8 : Ref sig .tc := ⟨.hbm, 83, rfl⟩
abbrev main_call0_c_3 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_v12 : Ref sig .tc := ⟨.hbm, 88, rfl⟩
abbrev main_call0_v13 : Ref sig .tc := ⟨.hbm, 89, rfl⟩
abbrev main_call0_v14 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_cst_0 : Ref sig .tc := ⟨.hbm, 97, rfl⟩
abbrev main_cst_1 : Ref sig .tc := ⟨.hbm, 98, rfl⟩
abbrev main_call1_v0 : Ref sig .tc := ⟨.hbm, 99, rfl⟩
abbrev main_call1_v1 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_c_2 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_v8 : Ref sig .tc := ⟨.hbm, 114, rfl⟩
abbrev main_call2_c : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_0 : Ref sig .tc := ⟨.hbm, 119, rfl⟩
abbrev main_call2_v12 : Ref sig .tc := ⟨.hbm, 120, rfl⟩
abbrev main_call2_v13 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_c_3 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_v7 : Ref sig .tc := ⟨.hbm, 133, rfl⟩
abbrev main_call3_v8 : Ref sig .tc := ⟨.hbm, 134, rfl⟩
abbrev main_call3_c : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_0 : Ref sig .tc := ⟨.hbm, 139, rfl⟩
abbrev main_call3_v12 : Ref sig .tc := ⟨.hbm, 140, rfl⟩
abbrev main_call3_v13 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg9_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc3_stg14_0 : Ref sig .tc := ⟨.vmem, 43, rfl⟩
abbrev cc3_stg15_0 : Ref sig .tc := ⟨.vmem, 44, rfl⟩
abbrev cc3_stg16_0 : Ref sig .tc := ⟨.vmem, 45, rfl⟩
abbrev cc3_stg16_1 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem9_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem12_0 : DmaSem sig := 41
abbrev cc3_sem13_0 : DmaSem sig := 42
abbrev cc3_sem14_0 : DmaSem sig := 43
abbrev cc3_sem15_0 : DmaSem sig := 44
abbrev cc3_sem16_0 : DmaSem sig := 45
abbrev cc3_sem16_1 : DmaSem sig := 46

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S8x1x1024x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x192 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x192 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x192 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x192 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x192 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S16x512x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x16x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1024x256 .bf16 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S256x2 .bf16 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S16x64 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S64x64 .bf16 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 2 → Memref sig .tc .vmem S256x2 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]
-- ==== KernelIdeal.lean ====
variable {F : FTy → Type} [FloatOps F] [Named F]
def κ : String → Option EReal := fun
  | "mask" => some ⊥
  | _ => none
-- ==== ReferenceIdeal.lean ====
abbrev S8x1024x16x64 : Shape := ⟨4, ![8, 1024, 16, 64]⟩
abbrev S1024x64 : Shape := ⟨2, ![1024, 64]⟩
abbrev S1024x1024 : Shape := ⟨2, ![1024, 1024]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1024 : Shape := ⟨1, ![1024]⟩
abbrev S64x64 : Shape := ⟨2, ![64, 64]⟩
abbrev S192x64 : Shape := ⟨2, ![192, 64]⟩
abbrev S192 : Shape := ⟨1, ![192]⟩
abbrev S256x1024 : Shape := ⟨2, ![256, 1024]⟩
abbrev S2x256 : Shape := ⟨2, ![2, 256]⟩
abbrev S_ : Shape := ⟨0, ![]⟩
abbrev S64x1024 : Shape := ⟨2, ![64, 1024]⟩
abbrev S1x1024 : Shape := ⟨2, ![1, 1024]⟩
abbrev S8x16x1024x64 : Shape := ⟨4, ![8, 16, 1024, 64]⟩
abbrev S8x16x1024x256 : Shape := ⟨4, ![8, 16, 1024, 256]⟩
abbrev S1024x8x16x256 : Shape := ⟨4, ![1024, 8, 16, 256]⟩
abbrev S1x256 : Shape := ⟨2, ![1, 256]⟩
abbrev S1x1x256 : Shape := ⟨3, ![1, 1, 256]⟩
abbrev S1x1x1x256 : Shape := ⟨4, ![1, 1, 1, 256]⟩
abbrev S1024x8x16x64 : Shape := ⟨4, ![1024, 8, 16, 64]⟩
abbrev S1x64 : Shape := ⟨2, ![1, 64]⟩
abbrev S1x1x64 : Shape := ⟨3, ![1, 1, 64]⟩
abbrev S1x1x1x64 : Shape := ⟨4, ![1, 1, 1, 64]⟩
abbrev S8192x16x64 : Shape := ⟨3, ![8192, 16, 64]⟩
abbrev S8192x64 : Shape := ⟨2, ![8192, 64]⟩
abbrev S8192x1x64 : Shape := ⟨3, ![8192, 1, 64]⟩
abbrev S64x192 : Shape := ⟨2, ![64, 192]⟩
abbrev S8192x192 : Shape := ⟨2, ![8192, 192]⟩
abbrev S1x192 : Shape := ⟨2, ![1, 192]⟩
abbrev S8192x16x4x16 : Shape := ⟨4, ![8192, 16, 4, 16]⟩
abbrev S8192x4x16x16 : Shape := ⟨4, ![8192, 4, 16, 16]⟩
abbrev S16x16 : Shape := ⟨2, ![16, 16]⟩
abbrev S1x1x16x16 : Shape := ⟨4, ![1, 1, 16, 16]⟩
abbrev S8192x4x16 : Shape := ⟨3, ![8192, 4, 16]⟩
abbrev S8192x4x16x1 : Shape := ⟨4, ![8192, 4, 16, 1]⟩
abbrev S8192x16 : Shape := ⟨2, ![8192, 16]⟩
abbrev S8192x16x1 : Shape := ⟨3, ![8192, 16, 1]⟩
abbrev S8192x1024 : Shape := ⟨2, ![8192, 1024]⟩
abbrev S1024x256 : Shape := ⟨2, ![1024, 256]⟩
abbrev S8192x256 : Shape := ⟨2, ![8192, 256]⟩
abbrev S256x2 : Shape := ⟨2, ![256, 2]⟩
abbrev S8192x2 : Shape := ⟨2, ![8192, 2]⟩

abbrev nBuf : Space → Nat
  | .hbm => 1684
  | .vmem => 0
  | .smem => 0
  | _ => 0

abbrev hbmTy0_0 (i : Nat) : BufTy := match i % 128 with
  | 0 => ⟨S8x1024x16x64, .f32⟩
  | 1 => ⟨S1024x64, .f32⟩
  | 2 => ⟨S1024x1024, .f32⟩
  | 3 => ⟨S64x256, .f32⟩
  | 4 => ⟨S256, .f32⟩
  | 5 => ⟨S256x64, .f32⟩
  | 6 => ⟨S64, .f32⟩
  | 7 => ⟨S1024x64, .f32⟩
  | 8 => ⟨S1024, .f32⟩
  | 9 => ⟨S64x64, .f32⟩
  | 10 => ⟨S64, .f32⟩
  | 11 => ⟨S192x64, .f32⟩
  | 12 => ⟨S192x64, .f32⟩
  | 13 => ⟨S192, .f32⟩
  | 14 => ⟨S192, .f32⟩
  | 15 => ⟨S192x64, .f32⟩
  | 16 => ⟨S192x64, .f32⟩
  | 17 => ⟨S192, .f32⟩
  | 18 => ⟨S192, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S64x64, .f32⟩
  | 26 => ⟨S64, .f32⟩
  | 27 => ⟨S64, .f32⟩
  | 28 => ⟨S64, .f32⟩
  | 29 => ⟨S256x1024, .f32⟩
  | 30 => ⟨S256, .f32⟩
  | 31 => ⟨S2x256, .f32⟩
  | 32 => ⟨S_, .i32⟩
  | 33 => ⟨S64x1024, .f32⟩
  | 34 => ⟨S1024x1024, .f32⟩
  | 35 => ⟨S1x1024, .f32⟩
  | 36 => ⟨S1024x1024, .f32⟩
  | 37 => ⟨S1024x1024, .f32⟩
  | 38 => ⟨S8x16x1024x64, .f32⟩
  | 39 => ⟨S8x16x1024x256, .f32⟩
  | 40 => ⟨S1024x8x16x256, .f32⟩
  | 41 => ⟨S1x256, .f32⟩
  | 42 => ⟨S8x16x1024x256, .f32⟩
  | 43 => ⟨S1x1x256, .f32⟩
  | 44 => ⟨S1x1x1x256, .f32⟩
  | 45 => ⟨S8x16x1024x256, .f32⟩
  | 46 => ⟨S8x16x1024x256, .f32⟩
  | 47 => ⟨S_, .f32⟩
  | 48 => ⟨S8x16x1024x256, .f32⟩
  | 49 => ⟨S8x16x1024x256, .f32⟩
  | 50 => ⟨S8x16x1024x64, .f32⟩
  | 51 => ⟨S1024x8x16x64, .f32⟩
  | 52 => ⟨S1x64, .f32⟩
  | 53 => ⟨S8x16x1024x64, .f32⟩
  | 54 => ⟨S1x1x64, .f32⟩
  | 55 => ⟨S1x1x1x64, .f32⟩
  | 56 => ⟨S8x16x1024x64, .f32⟩
  | 57 => ⟨S8x16x1024x64, .f32⟩
  | 58 => ⟨S8x16x1024x256, .f32⟩
  | 59 => ⟨S1024x8x16x256, .f32⟩
  | 60 => ⟨S1x256, .f32⟩
  | 61 => ⟨S8x16x1024x256, .f32⟩
  | 62 => ⟨S1x1x256, .f32⟩
  | 63 => ⟨S1x1x1x256, .f32⟩
  | 64 => ⟨S8x16x1024x256, .f32⟩
  | 65 => ⟨S8x16x1024x256, .f32⟩
  | 66 => ⟨S_, .f32⟩
  | 67 => ⟨S8x16x1024x256, .f32⟩
  | 68 => ⟨S8x16x1024x256, .f32⟩
  | 69 => ⟨S8x16x1024x64, .f32⟩
  | 70 => ⟨S1024x8x16x64, .f32⟩
  | 71 => ⟨S1x64, .f32⟩
  | 72 => ⟨S8x16x1024x64, .f32⟩
  | 73 => ⟨S1x1x64, .f32⟩
  | 74 => ⟨S1x1x1x64, .f32⟩
  | 75 => ⟨S8x16x1024x64, .f32⟩
  | 76 => ⟨S8x16x1024x64, .f32⟩
  | 77 => ⟨S8x16x1024x64, .f32⟩
  | 78 => ⟨S8x1024x16x64, .f32⟩
  | 79 => ⟨S64x64, .f32⟩
  | 80 => ⟨S8x1024x16x64, .f32⟩
  | 81 => ⟨S1x1x1x64, .f32⟩
  | 82 => ⟨S8x1024x16x64, .f32⟩
  | 83 => ⟨S8x1024x16x64, .f32⟩
  | 84 => ⟨S8192x16x64, .f32⟩
  | 85 => ⟨S_, .f32⟩
  | 86 => ⟨S8192x64, .f32⟩
  | 87 => ⟨S8192x1x64, .f32⟩
  | 88 => ⟨S8192x64, .f32⟩
  | 89 => ⟨S64x192, .f32⟩
  | 90 => ⟨S8192x192, .f32⟩
  | 91 => ⟨S1x192, .f32⟩
  | 92 => ⟨S8192x192, .f32⟩
  | 93 => ⟨S8192x192, .f32⟩
  | 94 => ⟨S64x192, .f32⟩
  | 95 => ⟨S8192x192, .f32⟩
  | 96 => ⟨S1x192, .f32⟩
  | 97 => ⟨S8192x192, .f32⟩
  | 98 => ⟨S8192x192, .f32⟩
  | 99 => ⟨S8192x64, .f32⟩
  | 100 => ⟨S8192x64, .f32⟩
  | 101 => ⟨S8192x64, .f32⟩
  | 102 => ⟨S8192x64, .f32⟩
  | 103 => ⟨S8192x64, .f32⟩
  | 104 => ⟨S_, .f32⟩
  | 105 => ⟨S8192x64, .f32⟩
  | 106 => ⟨S8192x64, .f32⟩
  | 107 => ⟨S_, .f32⟩
  | 108 => ⟨S8192x64, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S8192x64, .f32⟩
  | 115 => ⟨S_, .f32⟩
  | 116 => ⟨S8192x64, .f32⟩
  | 117 => ⟨S8192x64, .f32⟩
  | 118 => ⟨S_, .f32⟩
  | 119 => ⟨S8192x64, .f32⟩
  | 120 => ⟨S8192x64, .f32⟩
  | 121 => ⟨S8192x64, .f32⟩
  | 122 => ⟨S8192x64, .f32⟩
  | 123 => ⟨S8192x64, .f32⟩
  | 124 => ⟨S8192x64, .f32⟩
  | 125 => ⟨S8192x64, .f32⟩
  | 126 => ⟨S_, .f32⟩
  | 127 => ⟨S8192x64, .f32⟩
  | _ => ⟨S8x1024x16x64, .f32⟩

abbrev hbmTy0_1 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S8192x1x64, .f32⟩
  | 5 => ⟨S8192x64, .f32⟩
  | 6 => ⟨S64x192, .f32⟩
  | 7 => ⟨S8192x192, .f32⟩
  | 8 => ⟨S1x192, .f32⟩
  | 9 => ⟨S8192x192, .f32⟩
  | 10 => ⟨S8192x192, .f32⟩
  | 11 => ⟨S64x192, .f32⟩
  | 12 => ⟨S8192x192, .f32⟩
  | 13 => ⟨S1x192, .f32⟩
  | 14 => ⟨S8192x192, .f32⟩
  | 15 => ⟨S8192x192, .f32⟩
  | 16 => ⟨S8192x64, .f32⟩
  | 17 => ⟨S8192x64, .f32⟩
  | 18 => ⟨S8192x64, .f32⟩
  | 19 => ⟨S8192x64, .f32⟩
  | 20 => ⟨S8192x64, .f32⟩
  | 21 => ⟨S_, .f32⟩
  | 22 => ⟨S8192x64, .f32⟩
  | 23 => ⟨S8192x64, .f32⟩
  | 24 => ⟨S_, .f32⟩
  | 25 => ⟨S8192x64, .f32⟩
  | 26 => ⟨S8192x64, .f32⟩
  | 27 => ⟨S8192x64, .f32⟩
  | 28 => ⟨S8192x64, .f32⟩
  | 29 => ⟨S8192x64, .f32⟩
  | 30 => ⟨S8192x64, .f32⟩
  | 31 => ⟨S8192x64, .f32⟩
  | 32 => ⟨S_, .f32⟩
  | 33 => ⟨S8192x64, .f32⟩
  | 34 => ⟨S8192x64, .f32⟩
  | 35 => ⟨S_, .f32⟩
  | 36 => ⟨S8192x64, .f32⟩
  | 37 => ⟨S8192x64, .f32⟩
  | 38 => ⟨S8192x64, .f32⟩
  | 39 => ⟨S8192x64, .f32⟩
  | 40 => ⟨S8192x64, .f32⟩
  | 41 => ⟨S8192x64, .f32⟩
  | 42 => ⟨S8192x64, .f32⟩
  | 43 => ⟨S_, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S8192x1x64, .f32⟩
  | 50 => ⟨S8192x64, .f32⟩
  | 51 => ⟨S64x192, .f32⟩
  | 52 => ⟨S8192x192, .f32⟩
  | 53 => ⟨S1x192, .f32⟩
  | 54 => ⟨S8192x192, .f32⟩
  | 55 => ⟨S8192x192, .f32⟩
  | 56 => ⟨S64x192, .f32⟩
  | 57 => ⟨S8192x192, .f32⟩
  | 58 => ⟨S1x192, .f32⟩
  | 59 => ⟨S8192x192, .f32⟩
  | 60 => ⟨S8192x192, .f32⟩
  | 61 => ⟨S8192x64, .f32⟩
  | 62 => ⟨S8192x64, .f32⟩
  | 63 => ⟨S8192x64, .f32⟩
  | 64 => ⟨S8192x64, .f32⟩
  | 65 => ⟨S8192x64, .f32⟩
  | 66 => ⟨S_, .f32⟩
  | 67 => ⟨S8192x64, .f32⟩
  | 68 => ⟨S8192x64, .f32⟩
  | 69 => ⟨S_, .f32⟩
  | 70 => ⟨S8192x64, .f32⟩
  | 71 => ⟨S8192x64, .f32⟩
  | 72 => ⟨S8192x64, .f32⟩
  | 73 => ⟨S8192x64, .f32⟩
  | 74 => ⟨S8192x64, .f32⟩
  | 75 => ⟨S8192x64, .f32⟩
  | 76 => ⟨S8192x64, .f32⟩
  | 77 => ⟨S_, .f32⟩
  | 78 => ⟨S8192x64, .f32⟩
  | 79 => ⟨S8192x64, .f32⟩
  | 80 => ⟨S_, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S8192x64, .f32⟩
  | 87 => ⟨S8192x64, .f32⟩
  | 88 => ⟨S_, .f32⟩
  | 89 => ⟨S8192x64, .f32⟩
  | 90 => ⟨S8192x64, .f32⟩
  | 91 => ⟨S8192x64, .f32⟩
  | 92 => ⟨S8192x64, .f32⟩
  | 93 => ⟨S8192x64, .f32⟩
  | 94 => ⟨S8192x1x64, .f32⟩
  | 95 => ⟨S8192x64, .f32⟩
  | 96 => ⟨S64x192, .f32⟩
  | 97 => ⟨S8192x192, .f32⟩
  | 98 => ⟨S1x192, .f32⟩
  | 99 => ⟨S8192x192, .f32⟩
  | 100 => ⟨S8192x192, .f32⟩
  | 101 => ⟨S64x192, .f32⟩
  | 102 => ⟨S8192x192, .f32⟩
  | 103 => ⟨S1x192, .f32⟩
  | 104 => ⟨S8192x192, .f32⟩
  | 105 => ⟨S8192x192, .f32⟩
  | 106 => ⟨S8192x64, .f32⟩
  | 107 => ⟨S8192x64, .f32⟩
  | 108 => ⟨S8192x64, .f32⟩
  | 109 => ⟨S8192x64, .f32⟩
  | 110 => ⟨S8192x64, .f32⟩
  | 111 => ⟨S_, .f32⟩
  | 112 => ⟨S8192x64, .f32⟩
  | 113 => ⟨S8192x64, .f32⟩
  | 114 => ⟨S_, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S8192x64, .f32⟩
  | 121 => ⟨S8192x64, .f32⟩
  | 122 => ⟨S_, .f32⟩
  | 123 => ⟨S8192x64, .f32⟩
  | 124 => ⟨S8192x64, .f32⟩
  | 125 => ⟨S_, .f32⟩
  | 126 => ⟨S8192x64, .f32⟩
  | 127 => ⟨S8192x64, .f32⟩
  | _ => ⟨S8x1024x16x64, .f32⟩

abbrev hbmTy0_2 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S8192x64, .f32⟩
  | 5 => ⟨S_, .f32⟩
  | 6 => ⟨S8192x64, .f32⟩
  | 7 => ⟨S8192x64, .f32⟩
  | 8 => ⟨S8192x64, .f32⟩
  | 9 => ⟨S8192x64, .f32⟩
  | 10 => ⟨S8192x64, .f32⟩
  | 11 => ⟨S8192x1x64, .f32⟩
  | 12 => ⟨S8192x64, .f32⟩
  | 13 => ⟨S64x192, .f32⟩
  | 14 => ⟨S8192x192, .f32⟩
  | 15 => ⟨S1x192, .f32⟩
  | 16 => ⟨S8192x192, .f32⟩
  | 17 => ⟨S8192x192, .f32⟩
  | 18 => ⟨S64x192, .f32⟩
  | 19 => ⟨S8192x192, .f32⟩
  | 20 => ⟨S1x192, .f32⟩
  | 21 => ⟨S8192x192, .f32⟩
  | 22 => ⟨S8192x192, .f32⟩
  | 23 => ⟨S8192x64, .f32⟩
  | 24 => ⟨S8192x64, .f32⟩
  | 25 => ⟨S8192x64, .f32⟩
  | 26 => ⟨S8192x64, .f32⟩
  | 27 => ⟨S8192x64, .f32⟩
  | 28 => ⟨S_, .f32⟩
  | 29 => ⟨S8192x64, .f32⟩
  | 30 => ⟨S8192x64, .f32⟩
  | 31 => ⟨S_, .f32⟩
  | 32 => ⟨S8192x64, .f32⟩
  | 33 => ⟨S8192x64, .f32⟩
  | 34 => ⟨S8192x64, .f32⟩
  | 35 => ⟨S8192x64, .f32⟩
  | 36 => ⟨S8192x64, .f32⟩
  | 37 => ⟨S8192x64, .f32⟩
  | 38 => ⟨S8192x64, .f32⟩
  | 39 => ⟨S_, .f32⟩
  | 40 => ⟨S8192x64, .f32⟩
  | 41 => ⟨S8192x64, .f32⟩
  | 42 => ⟨S_, .f32⟩
  | 43 => ⟨S8192x64, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S8192x64, .f32⟩
  | 50 => ⟨S_, .f32⟩
  | 51 => ⟨S8192x64, .f32⟩
  | 52 => ⟨S8192x64, .f32⟩
  | 53 => ⟨S8192x64, .f32⟩
  | 54 => ⟨S8192x64, .f32⟩
  | 55 => ⟨S8192x64, .f32⟩
  | 56 => ⟨S8192x1x64, .f32⟩
  | 57 => ⟨S8192x64, .f32⟩
  | 58 => ⟨S64x192, .f32⟩
  | 59 => ⟨S8192x192, .f32⟩
  | 60 => ⟨S1x192, .f32⟩
  | 61 => ⟨S8192x192, .f32⟩
  | 62 => ⟨S8192x192, .f32⟩
  | 63 => ⟨S64x192, .f32⟩
  | 64 => ⟨S8192x192, .f32⟩
  | 65 => ⟨S1x192, .f32⟩
  | 66 => ⟨S8192x192, .f32⟩
  | 67 => ⟨S8192x192, .f32⟩
  | 68 => ⟨S8192x64, .f32⟩
  | 69 => ⟨S8192x64, .f32⟩
  | 70 => ⟨S8192x64, .f32⟩
  | 71 => ⟨S8192x64, .f32⟩
  | 72 => ⟨S8192x64, .f32⟩
  | 73 => ⟨S_, .f32⟩
  | 74 => ⟨S8192x64, .f32⟩
  | 75 => ⟨S8192x64, .f32⟩
  | 76 => ⟨S_, .f32⟩
  | 77 => ⟨S8192x64, .f32⟩
  | 78 => ⟨S8192x64, .f32⟩
  | 79 => ⟨S8192x64, .f32⟩
  | 80 => ⟨S8192x64, .f32⟩
  | 81 => ⟨S8192x64, .f32⟩
  | 82 => ⟨S8192x64, .f32⟩
  | 83 => ⟨S8192x64, .f32⟩
  | 84 => ⟨S_, .f32⟩
  | 85 => ⟨S8192x64, .f32⟩
  | 86 => ⟨S8192x64, .f32⟩
  | 87 => ⟨S_, .f32⟩
  | 88 => ⟨S8192x64, .f32⟩
  | 89 => ⟨S8192x64, .f32⟩
  | 90 => ⟨S8192x64, .f32⟩
  | 91 => ⟨S8192x64, .f32⟩
  | 92 => ⟨S8192x64, .f32⟩
  | 93 => ⟨S8192x64, .f32⟩
  | 94 => ⟨S8192x64, .f32⟩
  | 95 => ⟨S_, .f32⟩
  | 96 => ⟨S8192x64, .f32⟩
  | 97 => ⟨S8192x64, .f32⟩
  | 98 => ⟨S8192x64, .f32⟩
  | 99 => ⟨S8192x64, .f32⟩
  | 100 => ⟨S8192x64, .f32⟩
  | 101 => ⟨S8192x1x64, .f32⟩
  | 102 => ⟨S8192x64, .f32⟩
  | 103 => ⟨S64x192, .f32⟩
  | 104 => ⟨S8192x192, .f32⟩
  | 105 => ⟨S1x192, .f32⟩
  | 106 => ⟨S8192x192, .f32⟩
  | 107 => ⟨S8192x192, .f32⟩
  | 108 => ⟨S64x192, .f32⟩
  | 109 => ⟨S8192x192, .f32⟩
  | 110 => ⟨S1x192, .f32⟩
  | 111 => ⟨S8192x192, .f32⟩
  | 112 => ⟨S8192x192, .f32⟩
  | 113 => ⟨S8192x64, .f32⟩
  | 114 => ⟨S8192x64, .f32⟩
  | 115 => ⟨S8192x64, .f32⟩
  | 116 => ⟨S8192x64, .f32⟩
  | 117 => ⟨S8192x64, .f32⟩
  | 118 => ⟨S_, .f32⟩
  | 119 => ⟨S8192x64, .f32⟩
  | 120 => ⟨S8192x64, .f32⟩
  | 121 => ⟨S_, .f32⟩
  | 122 => ⟨S8192x64, .f32⟩
  | 123 => ⟨S8192x64, .f32⟩
  | 124 => ⟨S8192x64, .f32⟩
  | 125 => ⟨S8192x64, .f32⟩
  | 126 => ⟨S8192x64, .f32⟩
  | 127 => ⟨S8192x64, .f32⟩
  | _ => ⟨S8x1024x16x64, .f32⟩

abbrev hbmTy0_3 (i : Nat) : BufTy := match i % 128 with
  | 0 => ⟨S8192x64, .f32⟩
  | 1 => ⟨S_, .f32⟩
  | 2 => ⟨S8192x64, .f32⟩
  | 3 => ⟨S8192x64, .f32⟩
  | 4 => ⟨S_, .f32⟩
  | 5 => ⟨S8192x64, .f32⟩
  | 6 => ⟨S8192x64, .f32⟩
  | 7 => ⟨S8192x64, .f32⟩
  | 8 => ⟨S8192x64, .f32⟩
  | 9 => ⟨S8192x64, .f32⟩
  | 10 => ⟨S8192x64, .f32⟩
  | 11 => ⟨S8192x64, .f32⟩
  | 12 => ⟨S_, .f32⟩
  | 13 => ⟨S8192x64, .f32⟩
  | 14 => ⟨S8192x64, .f32⟩
  | 15 => ⟨S8192x64, .f32⟩
  | 16 => ⟨S8192x64, .f32⟩
  | 17 => ⟨S8192x64, .f32⟩
  | 18 => ⟨S8192x1x64, .f32⟩
  | 19 => ⟨S8192x64, .f32⟩
  | 20 => ⟨S64x192, .f32⟩
  | 21 => ⟨S8192x192, .f32⟩
  | 22 => ⟨S1x192, .f32⟩
  | 23 => ⟨S8192x192, .f32⟩
  | 24 => ⟨S8192x192, .f32⟩
  | 25 => ⟨S64x192, .f32⟩
  | 26 => ⟨S8192x192, .f32⟩
  | 27 => ⟨S1x192, .f32⟩
  | 28 => ⟨S8192x192, .f32⟩
  | 29 => ⟨S8192x192, .f32⟩
  | 30 => ⟨S8192x64, .f32⟩
  | 31 => ⟨S8192x64, .f32⟩
  | 32 => ⟨S8192x64, .f32⟩
  | 33 => ⟨S8192x64, .f32⟩
  | 34 => ⟨S8192x64, .f32⟩
  | 35 => ⟨S_, .f32⟩
  | 36 => ⟨S8192x64, .f32⟩
  | 37 => ⟨S8192x64, .f32⟩
  | 38 => ⟨S_, .f32⟩
  | 39 => ⟨S8192x64, .f32⟩
  | 40 => ⟨S8192x64, .f32⟩
  | 41 => ⟨S8192x64, .f32⟩
  | 42 => ⟨S8192x64, .f32⟩
  | 43 => ⟨S8192x64, .f32⟩
  | 44 => ⟨S8192x64, .f32⟩
  | 45 => ⟨S8192x64, .f32⟩
  | 46 => ⟨S_, .f32⟩
  | 47 => ⟨S8192x64, .f32⟩
  | 48 => ⟨S8192x64, .f32⟩
  | 49 => ⟨S_, .f32⟩
  | 50 => ⟨S8192x64, .f32⟩
  | 51 => ⟨S8192x64, .f32⟩
  | 52 => ⟨S8192x64, .f32⟩
  | 53 => ⟨S8192x64, .f32⟩
  | 54 => ⟨S8192x64, .f32⟩
  | 55 => ⟨S8192x64, .f32⟩
  | 56 => ⟨S8192x64, .f32⟩
  | 57 => ⟨S_, .f32⟩
  | 58 => ⟨S8192x64, .f32⟩
  | 59 => ⟨S8192x64, .f32⟩
  | 60 => ⟨S8192x64, .f32⟩
  | 61 => ⟨S8192x64, .f32⟩
  | 62 => ⟨S8192x64, .f32⟩
  | 63 => ⟨S8192x1x64, .f32⟩
  | 64 => ⟨S8192x64, .f32⟩
  | 65 => ⟨S64x192, .f32⟩
  | 66 => ⟨S8192x192, .f32⟩
  | 67 => ⟨S1x192, .f32⟩
  | 68 => ⟨S8192x192, .f32⟩
  | 69 => ⟨S8192x192, .f32⟩
  | 70 => ⟨S64x192, .f32⟩
  | 71 => ⟨S8192x192, .f32⟩
  | 72 => ⟨S1x192, .f32⟩
  | 73 => ⟨S8192x192, .f32⟩
  | 74 => ⟨S8192x192, .f32⟩
  | 75 => ⟨S8192x64, .f32⟩
  | 76 => ⟨S8192x64, .f32⟩
  | 77 => ⟨S8192x64, .f32⟩
  | 78 => ⟨S8192x64, .f32⟩
  | 79 => ⟨S8192x64, .f32⟩
  | 80 => ⟨S_, .f32⟩
  | 81 => ⟨S8192x64, .f32⟩
  | 82 => ⟨S8192x64, .f32⟩
  | 83 => ⟨S_, .f32⟩
  | 84 => ⟨S8192x64, .f32⟩
  | 85 => ⟨S8192x64, .f32⟩
  | 86 => ⟨S8192x64, .f32⟩
  | 87 => ⟨S8192x64, .f32⟩
  | 88 => ⟨S8192x64, .f32⟩
  | 89 => ⟨S8192x64, .f32⟩
  | 90 => ⟨S8192x64, .f32⟩
  | 91 => ⟨S_, .f32⟩
  | 92 => ⟨S8192x64, .f32⟩
  | 93 => ⟨S8192x64, .f32⟩
  | 94 => ⟨S_, .f32⟩
  | 95 => ⟨S8192x64, .f32⟩
  | 96 => ⟨S8192x64, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S_, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S8192x1x64, .f32⟩
  | 109 => ⟨S8192x64, .f32⟩
  | 110 => ⟨S64x192, .f32⟩
  | 111 => ⟨S8192x192, .f32⟩
  | 112 => ⟨S1x192, .f32⟩
  | 113 => ⟨S8192x192, .f32⟩
  | 114 => ⟨S8192x192, .f32⟩
  | 115 => ⟨S64x192, .f32⟩
  | 116 => ⟨S8192x192, .f32⟩
  | 117 => ⟨S1x192, .f32⟩
  | 118 => ⟨S8192x192, .f32⟩
  | 119 => ⟨S8192x192, .f32⟩
  | 120 => ⟨S8192x64, .f32⟩
  | 121 => ⟨S8192x64, .f32⟩
  | 122 => ⟨S8192x64, .f32⟩
  | 123 => ⟨S8192x64, .f32⟩
  | 124 => ⟨S8192x64, .f32⟩
  | 125 => ⟨S_, .f32⟩
  | 126 => ⟨S8192x64, .f32⟩
  | 127 => ⟨S8192x64, .f32⟩
  | _ => ⟨S8x1024x16x64, .f32⟩

abbrev hbmTy0_4 (i : Nat) : BufTy := match i % 128 with
  | 0 => ⟨S_, .f32⟩
  | 1 => ⟨S8192x64, .f32⟩
  | 2 => ⟨S8192x64, .f32⟩
  | 3 => ⟨S8192x64, .f32⟩
  | 4 => ⟨S8192x64, .f32⟩
  | 5 => ⟨S8192x64, .f32⟩
  | 6 => ⟨S8192x64, .f32⟩
  | 7 => ⟨S8192x64, .f32⟩
  | 8 => ⟨S_, .f32⟩
  | 9 => ⟨S8192x64, .f32⟩
  | 10 => ⟨S8192x64, .f32⟩
  | 11 => ⟨S_, .f32⟩
  | 12 => ⟨S8192x64, .f32⟩
  | 13 => ⟨S8192x64, .f32⟩
  | 14 => ⟨S8192x64, .f32⟩
  | 15 => ⟨S8192x64, .f32⟩
  | 16 => ⟨S8192x64, .f32⟩
  | 17 => ⟨S8192x64, .f32⟩
  | 18 => ⟨S8192x64, .f32⟩
  | 19 => ⟨S_, .f32⟩
  | 20 => ⟨S8192x64, .f32⟩
  | 21 => ⟨S8192x64, .f32⟩
  | 22 => ⟨S8192x64, .f32⟩
  | 23 => ⟨S8192x64, .f32⟩
  | 24 => ⟨S8192x64, .f32⟩
  | 25 => ⟨S8192x1x64, .f32⟩
  | 26 => ⟨S8192x64, .f32⟩
  | 27 => ⟨S64x192, .f32⟩
  | 28 => ⟨S8192x192, .f32⟩
  | 29 => ⟨S1x192, .f32⟩
  | 30 => ⟨S8192x192, .f32⟩
  | 31 => ⟨S8192x192, .f32⟩
  | 32 => ⟨S64x192, .f32⟩
  | 33 => ⟨S8192x192, .f32⟩
  | 34 => ⟨S1x192, .f32⟩
  | 35 => ⟨S8192x192, .f32⟩
  | 36 => ⟨S8192x192, .f32⟩
  | 37 => ⟨S8192x64, .f32⟩
  | 38 => ⟨S8192x64, .f32⟩
  | 39 => ⟨S8192x64, .f32⟩
  | 40 => ⟨S8192x64, .f32⟩
  | 41 => ⟨S8192x64, .f32⟩
  | 42 => ⟨S_, .f32⟩
  | 43 => ⟨S8192x64, .f32⟩
  | 44 => ⟨S8192x64, .f32⟩
  | 45 => ⟨S_, .f32⟩
  | 46 => ⟨S8192x64, .f32⟩
  | 47 => ⟨S8192x64, .f32⟩
  | 48 => ⟨S8192x64, .f32⟩
  | 49 => ⟨S8192x64, .f32⟩
  | 50 => ⟨S8192x64, .f32⟩
  | 51 => ⟨S8192x64, .f32⟩
  | 52 => ⟨S8192x64, .f32⟩
  | 53 => ⟨S_, .f32⟩
  | 54 => ⟨S8192x64, .f32⟩
  | 55 => ⟨S8192x64, .f32⟩
  | 56 => ⟨S_, .f32⟩
  | 57 => ⟨S8192x64, .f32⟩
  | 58 => ⟨S8192x64, .f32⟩
  | 59 => ⟨S8192x64, .f32⟩
  | 60 => ⟨S8192x64, .f32⟩
  | 61 => ⟨S8192x64, .f32⟩
  | 62 => ⟨S8192x64, .f32⟩
  | 63 => ⟨S8192x64, .f32⟩
  | 64 => ⟨S_, .f32⟩
  | 65 => ⟨S8192x64, .f32⟩
  | 66 => ⟨S8192x64, .f32⟩
  | 67 => ⟨S8192x64, .f32⟩
  | 68 => ⟨S8192x64, .f32⟩
  | 69 => ⟨S8192x64, .f32⟩
  | 70 => ⟨S8192x1x64, .f32⟩
  | 71 => ⟨S8192x64, .f32⟩
  | 72 => ⟨S64x192, .f32⟩
  | 73 => ⟨S8192x192, .f32⟩
  | 74 => ⟨S1x192, .f32⟩
  | 75 => ⟨S8192x192, .f32⟩
  | 76 => ⟨S8192x192, .f32⟩
  | 77 => ⟨S64x192, .f32⟩
  | 78 => ⟨S8192x192, .f32⟩
  | 79 => ⟨S1x192, .f32⟩
  | 80 => ⟨S8192x192, .f32⟩
  | 81 => ⟨S8192x192, .f32⟩
  | 82 => ⟨S8192x64, .f32⟩
  | 83 => ⟨S8192x64, .f32⟩
  | 84 => ⟨S8192x64, .f32⟩
  | 85 => ⟨S8192x64, .f32⟩
  | 86 => ⟨S8192x64, .f32⟩
  | 87 => ⟨S_, .f32⟩
  | 88 => ⟨S8192x64, .f32⟩
  | 89 => ⟨S8192x64, .f32⟩
  | 90 => ⟨S_, .f32⟩
  | 91 => ⟨S8192x64, .f32⟩
  | 92 => ⟨S8192x64, .f32⟩
  | 93 => ⟨S8192x64, .f32⟩
  | 94 => ⟨S8192x64, .f32⟩
  | 95 => ⟨S8192x64, .f32⟩
  | 96 => ⟨S8192x64, .f32⟩
  | 97 => ⟨S8192x64, .f32⟩
  | 98 => ⟨S_, .f32⟩
  | 99 => ⟨S8192x64, .f32⟩
  | 100 => ⟨S8192x64, .f32⟩
  | 101 => ⟨S_, .f32⟩
  | 102 => ⟨S8192x64, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S8192x64, .f32⟩
  | 109 => ⟨S_, .f32⟩
  | 110 => ⟨S8192x64, .f32⟩
  | 111 => ⟨S8192x64, .f32⟩
  | 112 => ⟨S8192x64, .f32⟩
  | 113 => ⟨S8192x64, .f32⟩
  | 114 => ⟨S8192x64, .f32⟩
  | 115 => ⟨S8192x1x64, .f32⟩
  | 116 => ⟨S8192x64, .f32⟩
  | 117 => ⟨S64x192, .f32⟩
  | 118 => ⟨S8192x192, .f32⟩
  | 119 => ⟨S1x192, .f32⟩
  | 120 => ⟨S8192x192, .f32⟩
  | 121 => ⟨S8192x192, .f32⟩
  | 122 => ⟨S64x192, .f32⟩
  | 123 => ⟨S8192x192, .f32⟩
  | 124 => ⟨S1x192, .f32⟩
  | 125 => ⟨S8192x192, .f32⟩
  | 126 => ⟨S8192x192, .f32⟩
  | 127 => ⟨S8192x64, .f32⟩
  | _ => ⟨S8x1024x16x64, .f32⟩

abbrev hbmTy0_5 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S_, .f32⟩
  | 5 => ⟨S8192x64, .f32⟩
  | 6 => ⟨S8192x64, .f32⟩
  | 7 => ⟨S_, .f32⟩
  | 8 => ⟨S8192x64, .f32⟩
  | 9 => ⟨S8192x64, .f32⟩
  | 10 => ⟨S8192x64, .f32⟩
  | 11 => ⟨S8192x64, .f32⟩
  | 12 => ⟨S8192x64, .f32⟩
  | 13 => ⟨S8192x64, .f32⟩
  | 14 => ⟨S8192x64, .f32⟩
  | 15 => ⟨S_, .f32⟩
  | 16 => ⟨S8192x64, .f32⟩
  | 17 => ⟨S8192x64, .f32⟩
  | 18 => ⟨S_, .f32⟩
  | 19 => ⟨S8192x64, .f32⟩
  | 20 => ⟨S8192x64, .f32⟩
  | 21 => ⟨S8192x64, .f32⟩
  | 22 => ⟨S8192x64, .f32⟩
  | 23 => ⟨S8192x64, .f32⟩
  | 24 => ⟨S8192x64, .f32⟩
  | 25 => ⟨S8192x64, .f32⟩
  | 26 => ⟨S_, .f32⟩
  | 27 => ⟨S8192x64, .f32⟩
  | 28 => ⟨S8192x64, .f32⟩
  | 29 => ⟨S8192x64, .f32⟩
  | 30 => ⟨S8192x64, .f32⟩
  | 31 => ⟨S8192x64, .f32⟩
  | 32 => ⟨S8192x1x64, .f32⟩
  | 33 => ⟨S8192x64, .f32⟩
  | 34 => ⟨S64x192, .f32⟩
  | 35 => ⟨S8192x192, .f32⟩
  | 36 => ⟨S1x192, .f32⟩
  | 37 => ⟨S8192x192, .f32⟩
  | 38 => ⟨S8192x192, .f32⟩
  | 39 => ⟨S64x192, .f32⟩
  | 40 => ⟨S8192x192, .f32⟩
  | 41 => ⟨S1x192, .f32⟩
  | 42 => ⟨S8192x192, .f32⟩
  | 43 => ⟨S8192x192, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S_, .f32⟩
  | 50 => ⟨S8192x64, .f32⟩
  | 51 => ⟨S8192x64, .f32⟩
  | 52 => ⟨S_, .f32⟩
  | 53 => ⟨S8192x64, .f32⟩
  | 54 => ⟨S8192x64, .f32⟩
  | 55 => ⟨S8192x64, .f32⟩
  | 56 => ⟨S8192x64, .f32⟩
  | 57 => ⟨S8192x64, .f32⟩
  | 58 => ⟨S8192x64, .f32⟩
  | 59 => ⟨S8192x64, .f32⟩
  | 60 => ⟨S_, .f32⟩
  | 61 => ⟨S8192x64, .f32⟩
  | 62 => ⟨S8192x64, .f32⟩
  | 63 => ⟨S_, .f32⟩
  | 64 => ⟨S8192x64, .f32⟩
  | 65 => ⟨S8192x64, .f32⟩
  | 66 => ⟨S8192x64, .f32⟩
  | 67 => ⟨S8192x64, .f32⟩
  | 68 => ⟨S8192x64, .f32⟩
  | 69 => ⟨S8192x64, .f32⟩
  | 70 => ⟨S8192x64, .f32⟩
  | 71 => ⟨S_, .f32⟩
  | 72 => ⟨S8192x64, .f32⟩
  | 73 => ⟨S8192x64, .f32⟩
  | 74 => ⟨S8192x64, .f32⟩
  | 75 => ⟨S8192x64, .f32⟩
  | 76 => ⟨S8192x64, .f32⟩
  | 77 => ⟨S8192x1x64, .f32⟩
  | 78 => ⟨S8192x64, .f32⟩
  | 79 => ⟨S64x192, .f32⟩
  | 80 => ⟨S8192x192, .f32⟩
  | 81 => ⟨S1x192, .f32⟩
  | 82 => ⟨S8192x192, .f32⟩
  | 83 => ⟨S8192x192, .f32⟩
  | 84 => ⟨S64x192, .f32⟩
  | 85 => ⟨S8192x192, .f32⟩
  | 86 => ⟨S1x192, .f32⟩
  | 87 => ⟨S8192x192, .f32⟩
  | 88 => ⟨S8192x192, .f32⟩
  | 89 => ⟨S8192x64, .f32⟩
  | 90 => ⟨S8192x64, .f32⟩
  | 91 => ⟨S8192x64, .f32⟩
  | 92 => ⟨S8192x64, .f32⟩
  | 93 => ⟨S8192x64, .f32⟩
  | 94 => ⟨S_, .f32⟩
  | 95 => ⟨S8192x64, .f32⟩
  | 96 => ⟨S8192x64, .f32⟩
  | 97 => ⟨S_, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S8192x64, .f32⟩
  | 104 => ⟨S8192x64, .f32⟩
  | 105 => ⟨S_, .f32⟩
  | 106 => ⟨S8192x64, .f32⟩
  | 107 => ⟨S8192x64, .f32⟩
  | 108 => ⟨S_, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S_, .f32⟩
  | 117 => ⟨S8192x64, .f32⟩
  | 118 => ⟨S8192x64, .f32⟩
  | 119 => ⟨S8192x64, .f32⟩
  | 120 => ⟨S8192x64, .f32⟩
  | 121 => ⟨S8192x64, .f32⟩
  | 122 => ⟨S8192x1x64, .f32⟩
  | 123 => ⟨S8192x64, .f32⟩
  | 124 => ⟨S64x192, .f32⟩
  | 125 => ⟨S8192x192, .f32⟩
  | 126 => ⟨S1x192, .f32⟩
  | 127 => ⟨S8192x192, .f32⟩
  | _ => ⟨S8x1024x16x64, .f32⟩

abbrev hbmTy0_6 (i : Nat) : BufTy := match i % 128 with
  | 0 => ⟨S8192x192, .f32⟩
  | 1 => ⟨S64x192, .f32⟩
  | 2 => ⟨S8192x192, .f32⟩
  | 3 => ⟨S1x192, .f32⟩
  | 4 => ⟨S8192x192, .f32⟩
  | 5 => ⟨S8192x192, .f32⟩
  | 6 => ⟨S8192x64, .f32⟩
  | 7 => ⟨S8192x64, .f32⟩
  | 8 => ⟨S8192x64, .f32⟩
  | 9 => ⟨S8192x64, .f32⟩
  | 10 => ⟨S8192x64, .f32⟩
  | 11 => ⟨S_, .f32⟩
  | 12 => ⟨S8192x64, .f32⟩
  | 13 => ⟨S8192x64, .f32⟩
  | 14 => ⟨S_, .f32⟩
  | 15 => ⟨S8192x64, .f32⟩
  | 16 => ⟨S8192x64, .f32⟩
  | 17 => ⟨S8192x64, .f32⟩
  | 18 => ⟨S8192x64, .f32⟩
  | 19 => ⟨S8192x64, .f32⟩
  | 20 => ⟨S8192x64, .f32⟩
  | 21 => ⟨S8192x64, .f32⟩
  | 22 => ⟨S_, .f32⟩
  | 23 => ⟨S8192x64, .f32⟩
  | 24 => ⟨S8192x64, .f32⟩
  | 25 => ⟨S_, .f32⟩
  | 26 => ⟨S8192x64, .f32⟩
  | 27 => ⟨S8192x64, .f32⟩
  | 28 => ⟨S8192x64, .f32⟩
  | 29 => ⟨S8192x64, .f32⟩
  | 30 => ⟨S8192x64, .f32⟩
  | 31 => ⟨S8192x64, .f32⟩
  | 32 => ⟨S8192x64, .f32⟩
  | 33 => ⟨S_, .f32⟩
  | 34 => ⟨S8192x64, .f32⟩
  | 35 => ⟨S8192x64, .f32⟩
  | 36 => ⟨S8192x64, .f32⟩
  | 37 => ⟨S8192x64, .f32⟩
  | 38 => ⟨S8192x64, .f32⟩
  | 39 => ⟨S8192x1x64, .f32⟩
  | 40 => ⟨S8192x1x64, .f32⟩
  | 41 => ⟨S8192x1x64, .f32⟩
  | 42 => ⟨S8192x1x64, .f32⟩
  | 43 => ⟨S8192x1x64, .f32⟩
  | 44 => ⟨S8192x1x64, .f32⟩
  | 45 => ⟨S8192x1x64, .f32⟩
  | 46 => ⟨S8192x1x64, .f32⟩
  | 47 => ⟨S8192x1x64, .f32⟩
  | 48 => ⟨S8192x1x64, .f32⟩
  | 49 => ⟨S8192x1x64, .f32⟩
  | 50 => ⟨S8192x1x64, .f32⟩
  | 51 => ⟨S8192x1x64, .f32⟩
  | 52 => ⟨S8192x1x64, .f32⟩
  | 53 => ⟨S8192x1x64, .f32⟩
  | 54 => ⟨S8192x1x64, .f32⟩
  | 55 => ⟨S8192x16x64, .f32⟩
  | 56 => ⟨S_, .f32⟩
  | 57 => ⟨S8192x64, .f32⟩
  | 58 => ⟨S8192x1x64, .f32⟩
  | 59 => ⟨S8192x64, .f32⟩
  | 60 => ⟨S64x192, .f32⟩
  | 61 => ⟨S8192x192, .f32⟩
  | 62 => ⟨S1x192, .f32⟩
  | 63 => ⟨S8192x192, .f32⟩
  | 64 => ⟨S8192x192, .f32⟩
  | 65 => ⟨S64x192, .f32⟩
  | 66 => ⟨S8192x192, .f32⟩
  | 67 => ⟨S1x192, .f32⟩
  | 68 => ⟨S8192x192, .f32⟩
  | 69 => ⟨S8192x192, .f32⟩
  | 70 => ⟨S8192x64, .f32⟩
  | 71 => ⟨S8192x64, .f32⟩
  | 72 => ⟨S8192x64, .f32⟩
  | 73 => ⟨S8192x64, .f32⟩
  | 74 => ⟨S8192x64, .f32⟩
  | 75 => ⟨S_, .f32⟩
  | 76 => ⟨S8192x64, .f32⟩
  | 77 => ⟨S8192x64, .f32⟩
  | 78 => ⟨S_, .f32⟩
  | 79 => ⟨S8192x64, .f32⟩
  | 80 => ⟨S8192x64, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S_, .f32⟩
  | 87 => ⟨S8192x64, .f32⟩
  | 88 => ⟨S8192x64, .f32⟩
  | 89 => ⟨S_, .f32⟩
  | 90 => ⟨S8192x64, .f32⟩
  | 91 => ⟨S8192x64, .f32⟩
  | 92 => ⟨S8192x64, .f32⟩
  | 93 => ⟨S8192x64, .f32⟩
  | 94 => ⟨S8192x64, .f32⟩
  | 95 => ⟨S8192x64, .f32⟩
  | 96 => ⟨S8192x64, .f32⟩
  | 97 => ⟨S_, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S8192x1x64, .f32⟩
  | 104 => ⟨S8192x64, .f32⟩
  | 105 => ⟨S64x192, .f32⟩
  | 106 => ⟨S8192x192, .f32⟩
  | 107 => ⟨S1x192, .f32⟩
  | 108 => ⟨S8192x192, .f32⟩
  | 109 => ⟨S8192x192, .f32⟩
  | 110 => ⟨S64x192, .f32⟩
  | 111 => ⟨S8192x192, .f32⟩
  | 112 => ⟨S1x192, .f32⟩
  | 113 => ⟨S8192x192, .f32⟩
  | 114 => ⟨S8192x192, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S_, .f32⟩
  | 121 => ⟨S8192x64, .f32⟩
  | 122 => ⟨S8192x64, .f32⟩
  | 123 => ⟨S_, .f32⟩
  | 124 => ⟨S8192x64, .f32⟩
  | 125 => ⟨S8192x64, .f32⟩
  | 126 => ⟨S8192x64, .f32⟩
  | 127 => ⟨S8192x64, .f32⟩
  | _ => ⟨S8x1024x16x64, .f32⟩

abbrev hbmTy0_7 (i : Nat) : BufTy := match i % 128 with
  | 0 => ⟨S8192x64, .f32⟩
  | 1 => ⟨S8192x64, .f32⟩
  | 2 => ⟨S8192x64, .f32⟩
  | 3 => ⟨S_, .f32⟩
  | 4 => ⟨S8192x64, .f32⟩
  | 5 => ⟨S8192x64, .f32⟩
  | 6 => ⟨S_, .f32⟩
  | 7 => ⟨S8192x64, .f32⟩
  | 8 => ⟨S8192x64, .f32⟩
  | 9 => ⟨S8192x64, .f32⟩
  | 10 => ⟨S8192x64, .f32⟩
  | 11 => ⟨S8192x64, .f32⟩
  | 12 => ⟨S8192x64, .f32⟩
  | 13 => ⟨S8192x64, .f32⟩
  | 14 => ⟨S_, .f32⟩
  | 15 => ⟨S8192x64, .f32⟩
  | 16 => ⟨S8192x64, .f32⟩
  | 17 => ⟨S8192x64, .f32⟩
  | 18 => ⟨S8192x64, .f32⟩
  | 19 => ⟨S8192x64, .f32⟩
  | 20 => ⟨S8192x1x64, .f32⟩
  | 21 => ⟨S8192x64, .f32⟩
  | 22 => ⟨S64x192, .f32⟩
  | 23 => ⟨S8192x192, .f32⟩
  | 24 => ⟨S1x192, .f32⟩
  | 25 => ⟨S8192x192, .f32⟩
  | 26 => ⟨S8192x192, .f32⟩
  | 27 => ⟨S64x192, .f32⟩
  | 28 => ⟨S8192x192, .f32⟩
  | 29 => ⟨S1x192, .f32⟩
  | 30 => ⟨S8192x192, .f32⟩
  | 31 => ⟨S8192x192, .f32⟩
  | 32 => ⟨S8192x64, .f32⟩
  | 33 => ⟨S8192x64, .f32⟩
  | 34 => ⟨S8192x64, .f32⟩
  | 35 => ⟨S8192x64, .f32⟩
  | 36 => ⟨S8192x64, .f32⟩
  | 37 => ⟨S_, .f32⟩
  | 38 => ⟨S8192x64, .f32⟩
  | 39 => ⟨S8192x64, .f32⟩
  | 40 => ⟨S_, .f32⟩
  | 41 => ⟨S8192x64, .f32⟩
  | 42 => ⟨S8192x64, .f32⟩
  | 43 => ⟨S8192x64, .f32⟩
  | 44 => ⟨S8192x64, .f32⟩
  | 45 => ⟨S8192x64, .f32⟩
  | 46 => ⟨S8192x64, .f32⟩
  | 47 => ⟨S8192x64, .f32⟩
  | 48 => ⟨S_, .f32⟩
  | 49 => ⟨S8192x64, .f32⟩
  | 50 => ⟨S8192x64, .f32⟩
  | 51 => ⟨S_, .f32⟩
  | 52 => ⟨S8192x64, .f32⟩
  | 53 => ⟨S8192x64, .f32⟩
  | 54 => ⟨S8192x64, .f32⟩
  | 55 => ⟨S8192x64, .f32⟩
  | 56 => ⟨S8192x64, .f32⟩
  | 57 => ⟨S8192x64, .f32⟩
  | 58 => ⟨S8192x64, .f32⟩
  | 59 => ⟨S_, .f32⟩
  | 60 => ⟨S8192x64, .f32⟩
  | 61 => ⟨S8192x64, .f32⟩
  | 62 => ⟨S8192x64, .f32⟩
  | 63 => ⟨S8192x64, .f32⟩
  | 64 => ⟨S8192x64, .f32⟩
  | 65 => ⟨S8192x1x64, .f32⟩
  | 66 => ⟨S8192x64, .f32⟩
  | 67 => ⟨S64x192, .f32⟩
  | 68 => ⟨S8192x192, .f32⟩
  | 69 => ⟨S1x192, .f32⟩
  | 70 => ⟨S8192x192, .f32⟩
  | 71 => ⟨S8192x192, .f32⟩
  | 72 => ⟨S64x192, .f32⟩
  | 73 => ⟨S8192x192, .f32⟩
  | 74 => ⟨S1x192, .f32⟩
  | 75 => ⟨S8192x192, .f32⟩
  | 76 => ⟨S8192x192, .f32⟩
  | 77 => ⟨S8192x64, .f32⟩
  | 78 => ⟨S8192x64, .f32⟩
  | 79 => ⟨S8192x64, .f32⟩
  | 80 => ⟨S8192x64, .f32⟩
  | 81 => ⟨S8192x64, .f32⟩
  | 82 => ⟨S_, .f32⟩
  | 83 => ⟨S8192x64, .f32⟩
  | 84 => ⟨S8192x64, .f32⟩
  | 85 => ⟨S_, .f32⟩
  | 86 => ⟨S8192x64, .f32⟩
  | 87 => ⟨S8192x64, .f32⟩
  | 88 => ⟨S8192x64, .f32⟩
  | 89 => ⟨S8192x64, .f32⟩
  | 90 => ⟨S8192x64, .f32⟩
  | 91 => ⟨S8192x64, .f32⟩
  | 92 => ⟨S8192x64, .f32⟩
  | 93 => ⟨S_, .f32⟩
  | 94 => ⟨S8192x64, .f32⟩
  | 95 => ⟨S8192x64, .f32⟩
  | 96 => ⟨S_, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S8192x64, .f32⟩
  | 104 => ⟨S_, .f32⟩
  | 105 => ⟨S8192x64, .f32⟩
  | 106 => ⟨S8192x64, .f32⟩
  | 107 => ⟨S8192x64, .f32⟩
  | 108 => ⟨S8192x64, .f32⟩
  | 109 => ⟨S8192x64, .f32⟩
  | 110 => ⟨S8192x1x64, .f32⟩
  | 111 => ⟨S8192x64, .f32⟩
  | 112 => ⟨S64x192, .f32⟩
  | 113 => ⟨S8192x192, .f32⟩
  | 114 => ⟨S1x192, .f32⟩
  | 115 => ⟨S8192x192, .f32⟩
  | 116 => ⟨S8192x192, .f32⟩
  | 117 => ⟨S64x192, .f32⟩
  | 118 => ⟨S8192x192, .f32⟩
  | 119 => ⟨S1x192, .f32⟩
  | 120 => ⟨S8192x192, .f32⟩
  | 121 => ⟨S8192x192, .f32⟩
  | 122 => ⟨S8192x64, .f32⟩
  | 123 => ⟨S8192x64, .f32⟩
  | 124 => ⟨S8192x64, .f32⟩
  | 125 => ⟨S8192x64, .f32⟩
  | 126 => ⟨S8192x64, .f32⟩
  | 127 => ⟨S_, .f32⟩
  | _ => ⟨S8x1024x16x64, .f32⟩

abbrev hbmTy0_8 (i : Nat) : BufTy := match i % 128 with
  | 0 => ⟨S8192x64, .f32⟩
  | 1 => ⟨S8192x64, .f32⟩
  | 2 => ⟨S_, .f32⟩
  | 3 => ⟨S8192x64, .f32⟩
  | 4 => ⟨S8192x64, .f32⟩
  | 5 => ⟨S8192x64, .f32⟩
  | 6 => ⟨S8192x64, .f32⟩
  | 7 => ⟨S8192x64, .f32⟩
  | 8 => ⟨S8192x64, .f32⟩
  | 9 => ⟨S8192x64, .f32⟩
  | 10 => ⟨S_, .f32⟩
  | 11 => ⟨S8192x64, .f32⟩
  | 12 => ⟨S8192x64, .f32⟩
  | 13 => ⟨S_, .f32⟩
  | 14 => ⟨S8192x64, .f32⟩
  | 15 => ⟨S8192x64, .f32⟩
  | 16 => ⟨S8192x64, .f32⟩
  | 17 => ⟨S8192x64, .f32⟩
  | 18 => ⟨S8192x64, .f32⟩
  | 19 => ⟨S8192x64, .f32⟩
  | 20 => ⟨S8192x64, .f32⟩
  | 21 => ⟨S_, .f32⟩
  | 22 => ⟨S8192x64, .f32⟩
  | 23 => ⟨S8192x64, .f32⟩
  | 24 => ⟨S8192x64, .f32⟩
  | 25 => ⟨S8192x64, .f32⟩
  | 26 => ⟨S8192x64, .f32⟩
  | 27 => ⟨S8192x1x64, .f32⟩
  | 28 => ⟨S8192x64, .f32⟩
  | 29 => ⟨S64x192, .f32⟩
  | 30 => ⟨S8192x192, .f32⟩
  | 31 => ⟨S1x192, .f32⟩
  | 32 => ⟨S8192x192, .f32⟩
  | 33 => ⟨S8192x192, .f32⟩
  | 34 => ⟨S64x192, .f32⟩
  | 35 => ⟨S8192x192, .f32⟩
  | 36 => ⟨S1x192, .f32⟩
  | 37 => ⟨S8192x192, .f32⟩
  | 38 => ⟨S8192x192, .f32⟩
  | 39 => ⟨S8192x64, .f32⟩
  | 40 => ⟨S8192x64, .f32⟩
  | 41 => ⟨S8192x64, .f32⟩
  | 42 => ⟨S8192x64, .f32⟩
  | 43 => ⟨S8192x64, .f32⟩
  | 44 => ⟨S_, .f32⟩
  | 45 => ⟨S8192x64, .f32⟩
  | 46 => ⟨S8192x64, .f32⟩
  | 47 => ⟨S_, .f32⟩
  | 48 => ⟨S8192x64, .f32⟩
  | 49 => ⟨S8192x64, .f32⟩
  | 50 => ⟨S8192x64, .f32⟩
  | 51 => ⟨S8192x64, .f32⟩
  | 52 => ⟨S8192x64, .f32⟩
  | 53 => ⟨S8192x64, .f32⟩
  | 54 => ⟨S8192x64, .f32⟩
  | 55 => ⟨S_, .f32⟩
  | 56 => ⟨S8192x64, .f32⟩
  | 57 => ⟨S8192x64, .f32⟩
  | 58 => ⟨S_, .f32⟩
  | 59 => ⟨S8192x64, .f32⟩
  | 60 => ⟨S8192x64, .f32⟩
  | 61 => ⟨S8192x64, .f32⟩
  | 62 => ⟨S8192x64, .f32⟩
  | 63 => ⟨S8192x64, .f32⟩
  | 64 => ⟨S8192x64, .f32⟩
  | 65 => ⟨S8192x64, .f32⟩
  | 66 => ⟨S_, .f32⟩
  | 67 => ⟨S8192x64, .f32⟩
  | 68 => ⟨S8192x64, .f32⟩
  | 69 => ⟨S8192x64, .f32⟩
  | 70 => ⟨S8192x64, .f32⟩
  | 71 => ⟨S8192x64, .f32⟩
  | 72 => ⟨S8192x1x64, .f32⟩
  | 73 => ⟨S8192x64, .f32⟩
  | 74 => ⟨S64x192, .f32⟩
  | 75 => ⟨S8192x192, .f32⟩
  | 76 => ⟨S1x192, .f32⟩
  | 77 => ⟨S8192x192, .f32⟩
  | 78 => ⟨S8192x192, .f32⟩
  | 79 => ⟨S64x192, .f32⟩
  | 80 => ⟨S8192x192, .f32⟩
  | 81 => ⟨S1x192, .f32⟩
  | 82 => ⟨S8192x192, .f32⟩
  | 83 => ⟨S8192x192, .f32⟩
  | 84 => ⟨S8192x64, .f32⟩
  | 85 => ⟨S8192x64, .f32⟩
  | 86 => ⟨S8192x64, .f32⟩
  | 87 => ⟨S8192x64, .f32⟩
  | 88 => ⟨S8192x64, .f32⟩
  | 89 => ⟨S_, .f32⟩
  | 90 => ⟨S8192x64, .f32⟩
  | 91 => ⟨S8192x64, .f32⟩
  | 92 => ⟨S_, .f32⟩
  | 93 => ⟨S8192x64, .f32⟩
  | 94 => ⟨S8192x64, .f32⟩
  | 95 => ⟨S8192x64, .f32⟩
  | 96 => ⟨S8192x64, .f32⟩
  | 97 => ⟨S8192x64, .f32⟩
  | 98 => ⟨S8192x64, .f32⟩
  | 99 => ⟨S8192x64, .f32⟩
  | 100 => ⟨S_, .f32⟩
  | 101 => ⟨S8192x64, .f32⟩
  | 102 => ⟨S8192x64, .f32⟩
  | 103 => ⟨S_, .f32⟩
  | 104 => ⟨S8192x64, .f32⟩
  | 105 => ⟨S8192x64, .f32⟩
  | 106 => ⟨S8192x64, .f32⟩
  | 107 => ⟨S8192x64, .f32⟩
  | 108 => ⟨S8192x64, .f32⟩
  | 109 => ⟨S8192x64, .f32⟩
  | 110 => ⟨S8192x64, .f32⟩
  | 111 => ⟨S_, .f32⟩
  | 112 => ⟨S8192x64, .f32⟩
  | 113 => ⟨S8192x64, .f32⟩
  | 114 => ⟨S8192x64, .f32⟩
  | 115 => ⟨S8192x64, .f32⟩
  | 116 => ⟨S8192x64, .f32⟩
  | 117 => ⟨S8192x1x64, .f32⟩
  | 118 => ⟨S8192x64, .f32⟩
  | 119 => ⟨S64x192, .f32⟩
  | 120 => ⟨S8192x192, .f32⟩
  | 121 => ⟨S1x192, .f32⟩
  | 122 => ⟨S8192x192, .f32⟩
  | 123 => ⟨S8192x192, .f32⟩
  | 124 => ⟨S64x192, .f32⟩
  | 125 => ⟨S8192x192, .f32⟩
  | 126 => ⟨S1x192, .f32⟩
  | 127 => ⟨S8192x192, .f32⟩
  | _ => ⟨S8x1024x16x64, .f32⟩

abbrev hbmTy0_9 (i : Nat) : BufTy := match i % 128 with
  | 0 => ⟨S8192x192, .f32⟩
  | 1 => ⟨S8192x64, .f32⟩
  | 2 => ⟨S8192x64, .f32⟩
  | 3 => ⟨S8192x64, .f32⟩
  | 4 => ⟨S8192x64, .f32⟩
  | 5 => ⟨S8192x64, .f32⟩
  | 6 => ⟨S_, .f32⟩
  | 7 => ⟨S8192x64, .f32⟩
  | 8 => ⟨S8192x64, .f32⟩
  | 9 => ⟨S_, .f32⟩
  | 10 => ⟨S8192x64, .f32⟩
  | 11 => ⟨S8192x64, .f32⟩
  | 12 => ⟨S8192x64, .f32⟩
  | 13 => ⟨S8192x64, .f32⟩
  | 14 => ⟨S8192x64, .f32⟩
  | 15 => ⟨S8192x64, .f32⟩
  | 16 => ⟨S8192x64, .f32⟩
  | 17 => ⟨S_, .f32⟩
  | 18 => ⟨S8192x64, .f32⟩
  | 19 => ⟨S8192x64, .f32⟩
  | 20 => ⟨S_, .f32⟩
  | 21 => ⟨S8192x64, .f32⟩
  | 22 => ⟨S8192x64, .f32⟩
  | 23 => ⟨S8192x64, .f32⟩
  | 24 => ⟨S8192x64, .f32⟩
  | 25 => ⟨S8192x64, .f32⟩
  | 26 => ⟨S8192x64, .f32⟩
  | 27 => ⟨S8192x64, .f32⟩
  | 28 => ⟨S_, .f32⟩
  | 29 => ⟨S8192x64, .f32⟩
  | 30 => ⟨S8192x64, .f32⟩
  | 31 => ⟨S8192x64, .f32⟩
  | 32 => ⟨S8192x64, .f32⟩
  | 33 => ⟨S8192x64, .f32⟩
  | 34 => ⟨S8192x1x64, .f32⟩
  | 35 => ⟨S8192x64, .f32⟩
  | 36 => ⟨S64x192, .f32⟩
  | 37 => ⟨S8192x192, .f32⟩
  | 38 => ⟨S1x192, .f32⟩
  | 39 => ⟨S8192x192, .f32⟩
  | 40 => ⟨S8192x192, .f32⟩
  | 41 => ⟨S64x192, .f32⟩
  | 42 => ⟨S8192x192, .f32⟩
  | 43 => ⟨S1x192, .f32⟩
  | 44 => ⟨S8192x192, .f32⟩
  | 45 => ⟨S8192x192, .f32⟩
  | 46 => ⟨S8192x64, .f32⟩
  | 47 => ⟨S8192x64, .f32⟩
  | 48 => ⟨S8192x64, .f32⟩
  | 49 => ⟨S8192x64, .f32⟩
  | 50 => ⟨S8192x64, .f32⟩
  | 51 => ⟨S_, .f32⟩
  | 52 => ⟨S8192x64, .f32⟩
  | 53 => ⟨S8192x64, .f32⟩
  | 54 => ⟨S_, .f32⟩
  | 55 => ⟨S8192x64, .f32⟩
  | 56 => ⟨S8192x64, .f32⟩
  | 57 => ⟨S8192x64, .f32⟩
  | 58 => ⟨S8192x64, .f32⟩
  | 59 => ⟨S8192x64, .f32⟩
  | 60 => ⟨S8192x64, .f32⟩
  | 61 => ⟨S8192x64, .f32⟩
  | 62 => ⟨S_, .f32⟩
  | 63 => ⟨S8192x64, .f32⟩
  | 64 => ⟨S8192x64, .f32⟩
  | 65 => ⟨S_, .f32⟩
  | 66 => ⟨S8192x64, .f32⟩
  | 67 => ⟨S8192x64, .f32⟩
  | 68 => ⟨S8192x64, .f32⟩
  | 69 => ⟨S8192x64, .f32⟩
  | 70 => ⟨S8192x64, .f32⟩
  | 71 => ⟨S8192x64, .f32⟩
  | 72 => ⟨S8192x64, .f32⟩
  | 73 => ⟨S_, .f32⟩
  | 74 => ⟨S8192x64, .f32⟩
  | 75 => ⟨S8192x64, .f32⟩
  | 76 => ⟨S8192x64, .f32⟩
  | 77 => ⟨S8192x64, .f32⟩
  | 78 => ⟨S8192x64, .f32⟩
  | 79 => ⟨S8192x1x64, .f32⟩
  | 80 => ⟨S8192x64, .f32⟩
  | 81 => ⟨S64x192, .f32⟩
  | 82 => ⟨S8192x192, .f32⟩
  | 83 => ⟨S1x192, .f32⟩
  | 84 => ⟨S8192x192, .f32⟩
  | 85 => ⟨S8192x192, .f32⟩
  | 86 => ⟨S64x192, .f32⟩
  | 87 => ⟨S8192x192, .f32⟩
  | 88 => ⟨S1x192, .f32⟩
  | 89 => ⟨S8192x192, .f32⟩
  | 90 => ⟨S8192x192, .f32⟩
  | 91 => ⟨S8192x64, .f32⟩
  | 92 => ⟨S8192x64, .f32⟩
  | 93 => ⟨S8192x64, .f32⟩
  | 94 => ⟨S8192x64, .f32⟩
  | 95 => ⟨S8192x64, .f32⟩
  | 96 => ⟨S_, .f32⟩
  | 97 => ⟨S8192x64, .f32⟩
  | 98 => ⟨S8192x64, .f32⟩
  | 99 => ⟨S_, .f32⟩
  | 100 => ⟨S8192x64, .f32⟩
  | 101 => ⟨S8192x64, .f32⟩
  | 102 => ⟨S8192x64, .f32⟩
  | 103 => ⟨S8192x64, .f32⟩
  | 104 => ⟨S8192x64, .f32⟩
  | 105 => ⟨S8192x64, .f32⟩
  | 106 => ⟨S8192x64, .f32⟩
  | 107 => ⟨S_, .f32⟩
  | 108 => ⟨S8192x64, .f32⟩
  | 109 => ⟨S8192x64, .f32⟩
  | 110 => ⟨S_, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S8192x64, .f32⟩
  | 117 => ⟨S8192x64, .f32⟩
  | 118 => ⟨S_, .f32⟩
  | 119 => ⟨S8192x64, .f32⟩
  | 120 => ⟨S8192x64, .f32⟩
  | 121 => ⟨S8192x64, .f32⟩
  | 122 => ⟨S8192x64, .f32⟩
  | 123 => ⟨S8192x64, .f32⟩
  | 124 => ⟨S8192x1x64, .f32⟩
  | 125 => ⟨S8192x64, .f32⟩
  | 126 => ⟨S64x192, .f32⟩
  | 127 => ⟨S8192x192, .f32⟩
  | _ => ⟨S8x1024x16x64, .f32⟩

abbrev hbmTy0_10 (i : Nat) : BufTy := match i % 128 with
  | 0 => ⟨S1x192, .f32⟩
  | 1 => ⟨S8192x192, .f32⟩
  | 2 => ⟨S8192x192, .f32⟩
  | 3 => ⟨S64x192, .f32⟩
  | 4 => ⟨S8192x192, .f32⟩
  | 5 => ⟨S1x192, .f32⟩
  | 6 => ⟨S8192x192, .f32⟩
  | 7 => ⟨S8192x192, .f32⟩
  | 8 => ⟨S8192x64, .f32⟩
  | 9 => ⟨S8192x64, .f32⟩
  | 10 => ⟨S8192x64, .f32⟩
  | 11 => ⟨S8192x64, .f32⟩
  | 12 => ⟨S8192x64, .f32⟩
  | 13 => ⟨S_, .f32⟩
  | 14 => ⟨S8192x64, .f32⟩
  | 15 => ⟨S8192x64, .f32⟩
  | 16 => ⟨S_, .f32⟩
  | 17 => ⟨S8192x64, .f32⟩
  | 18 => ⟨S8192x64, .f32⟩
  | 19 => ⟨S8192x64, .f32⟩
  | 20 => ⟨S8192x64, .f32⟩
  | 21 => ⟨S8192x64, .f32⟩
  | 22 => ⟨S8192x64, .f32⟩
  | 23 => ⟨S8192x64, .f32⟩
  | 24 => ⟨S_, .f32⟩
  | 25 => ⟨S8192x64, .f32⟩
  | 26 => ⟨S8192x64, .f32⟩
  | 27 => ⟨S_, .f32⟩
  | 28 => ⟨S8192x64, .f32⟩
  | 29 => ⟨S8192x64, .f32⟩
  | 30 => ⟨S8192x64, .f32⟩
  | 31 => ⟨S8192x64, .f32⟩
  | 32 => ⟨S8192x64, .f32⟩
  | 33 => ⟨S8192x64, .f32⟩
  | 34 => ⟨S8192x64, .f32⟩
  | 35 => ⟨S_, .f32⟩
  | 36 => ⟨S8192x64, .f32⟩
  | 37 => ⟨S8192x64, .f32⟩
  | 38 => ⟨S8192x64, .f32⟩
  | 39 => ⟨S8192x64, .f32⟩
  | 40 => ⟨S8192x64, .f32⟩
  | 41 => ⟨S8192x1x64, .f32⟩
  | 42 => ⟨S8192x64, .f32⟩
  | 43 => ⟨S64x192, .f32⟩
  | 44 => ⟨S8192x192, .f32⟩
  | 45 => ⟨S1x192, .f32⟩
  | 46 => ⟨S8192x192, .f32⟩
  | 47 => ⟨S8192x192, .f32⟩
  | 48 => ⟨S64x192, .f32⟩
  | 49 => ⟨S8192x192, .f32⟩
  | 50 => ⟨S1x192, .f32⟩
  | 51 => ⟨S8192x192, .f32⟩
  | 52 => ⟨S8192x192, .f32⟩
  | 53 => ⟨S8192x64, .f32⟩
  | 54 => ⟨S8192x64, .f32⟩
  | 55 => ⟨S8192x64, .f32⟩
  | 56 => ⟨S8192x64, .f32⟩
  | 57 => ⟨S8192x64, .f32⟩
  | 58 => ⟨S_, .f32⟩
  | 59 => ⟨S8192x64, .f32⟩
  | 60 => ⟨S8192x64, .f32⟩
  | 61 => ⟨S_, .f32⟩
  | 62 => ⟨S8192x64, .f32⟩
  | 63 => ⟨S8192x64, .f32⟩
  | 64 => ⟨S8192x64, .f32⟩
  | 65 => ⟨S8192x64, .f32⟩
  | 66 => ⟨S8192x64, .f32⟩
  | 67 => ⟨S8192x64, .f32⟩
  | 68 => ⟨S8192x64, .f32⟩
  | 69 => ⟨S_, .f32⟩
  | 70 => ⟨S8192x64, .f32⟩
  | 71 => ⟨S8192x64, .f32⟩
  | 72 => ⟨S_, .f32⟩
  | 73 => ⟨S8192x64, .f32⟩
  | 74 => ⟨S8192x64, .f32⟩
  | 75 => ⟨S8192x64, .f32⟩
  | 76 => ⟨S8192x64, .f32⟩
  | 77 => ⟨S8192x64, .f32⟩
  | 78 => ⟨S8192x64, .f32⟩
  | 79 => ⟨S8192x64, .f32⟩
  | 80 => ⟨S_, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S8192x1x64, .f32⟩
  | 87 => ⟨S8192x64, .f32⟩
  | 88 => ⟨S64x192, .f32⟩
  | 89 => ⟨S8192x192, .f32⟩
  | 90 => ⟨S1x192, .f32⟩
  | 91 => ⟨S8192x192, .f32⟩
  | 92 => ⟨S8192x192, .f32⟩
  | 93 => ⟨S64x192, .f32⟩
  | 94 => ⟨S8192x192, .f32⟩
  | 95 => ⟨S1x192, .f32⟩
  | 96 => ⟨S8192x192, .f32⟩
  | 97 => ⟨S8192x192, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S_, .f32⟩
  | 104 => ⟨S8192x64, .f32⟩
  | 105 => ⟨S8192x64, .f32⟩
  | 106 => ⟨S_, .f32⟩
  | 107 => ⟨S8192x64, .f32⟩
  | 108 => ⟨S8192x64, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S_, .f32⟩
  | 115 => ⟨S8192x64, .f32⟩
  | 116 => ⟨S8192x64, .f32⟩
  | 117 => ⟨S_, .f32⟩
  | 118 => ⟨S8192x64, .f32⟩
  | 119 => ⟨S8192x64, .f32⟩
  | 120 => ⟨S8192x64, .f32⟩
  | 121 => ⟨S8192x64, .f32⟩
  | 122 => ⟨S8192x64, .f32⟩
  | 123 => ⟨S8192x64, .f32⟩
  | 124 => ⟨S8192x64, .f32⟩
  | 125 => ⟨S_, .f32⟩
  | 126 => ⟨S8192x64, .f32⟩
  | 127 => ⟨S8192x64, .f32⟩
  | _ => ⟨S8x1024x16x64, .f32⟩

abbrev hbmTy0_11 (i : Nat) : BufTy := match i % 128 with
  | 0 => ⟨S8192x64, .f32⟩
  | 1 => ⟨S8192x64, .f32⟩
  | 2 => ⟨S8192x64, .f32⟩
  | 3 => ⟨S8192x1x64, .f32⟩
  | 4 => ⟨S8192x64, .f32⟩
  | 5 => ⟨S64x192, .f32⟩
  | 6 => ⟨S8192x192, .f32⟩
  | 7 => ⟨S1x192, .f32⟩
  | 8 => ⟨S8192x192, .f32⟩
  | 9 => ⟨S8192x192, .f32⟩
  | 10 => ⟨S64x192, .f32⟩
  | 11 => ⟨S8192x192, .f32⟩
  | 12 => ⟨S1x192, .f32⟩
  | 13 => ⟨S8192x192, .f32⟩
  | 14 => ⟨S8192x192, .f32⟩
  | 15 => ⟨S8192x64, .f32⟩
  | 16 => ⟨S8192x64, .f32⟩
  | 17 => ⟨S8192x64, .f32⟩
  | 18 => ⟨S8192x64, .f32⟩
  | 19 => ⟨S8192x64, .f32⟩
  | 20 => ⟨S_, .f32⟩
  | 21 => ⟨S8192x64, .f32⟩
  | 22 => ⟨S8192x64, .f32⟩
  | 23 => ⟨S_, .f32⟩
  | 24 => ⟨S8192x64, .f32⟩
  | 25 => ⟨S8192x64, .f32⟩
  | 26 => ⟨S8192x64, .f32⟩
  | 27 => ⟨S8192x64, .f32⟩
  | 28 => ⟨S8192x64, .f32⟩
  | 29 => ⟨S8192x64, .f32⟩
  | 30 => ⟨S8192x64, .f32⟩
  | 31 => ⟨S_, .f32⟩
  | 32 => ⟨S8192x64, .f32⟩
  | 33 => ⟨S8192x64, .f32⟩
  | 34 => ⟨S_, .f32⟩
  | 35 => ⟨S8192x64, .f32⟩
  | 36 => ⟨S8192x64, .f32⟩
  | 37 => ⟨S8192x64, .f32⟩
  | 38 => ⟨S8192x64, .f32⟩
  | 39 => ⟨S8192x64, .f32⟩
  | 40 => ⟨S8192x64, .f32⟩
  | 41 => ⟨S8192x64, .f32⟩
  | 42 => ⟨S_, .f32⟩
  | 43 => ⟨S8192x64, .f32⟩
  | 44 => ⟨S8192x64, .f32⟩
  | 45 => ⟨S8192x64, .f32⟩
  | 46 => ⟨S8192x64, .f32⟩
  | 47 => ⟨S8192x64, .f32⟩
  | 48 => ⟨S8192x1x64, .f32⟩
  | 49 => ⟨S8192x64, .f32⟩
  | 50 => ⟨S64x192, .f32⟩
  | 51 => ⟨S8192x192, .f32⟩
  | 52 => ⟨S1x192, .f32⟩
  | 53 => ⟨S8192x192, .f32⟩
  | 54 => ⟨S8192x192, .f32⟩
  | 55 => ⟨S64x192, .f32⟩
  | 56 => ⟨S8192x192, .f32⟩
  | 57 => ⟨S1x192, .f32⟩
  | 58 => ⟨S8192x192, .f32⟩
  | 59 => ⟨S8192x192, .f32⟩
  | 60 => ⟨S8192x64, .f32⟩
  | 61 => ⟨S8192x64, .f32⟩
  | 62 => ⟨S8192x64, .f32⟩
  | 63 => ⟨S8192x64, .f32⟩
  | 64 => ⟨S8192x64, .f32⟩
  | 65 => ⟨S_, .f32⟩
  | 66 => ⟨S8192x64, .f32⟩
  | 67 => ⟨S8192x64, .f32⟩
  | 68 => ⟨S_, .f32⟩
  | 69 => ⟨S8192x64, .f32⟩
  | 70 => ⟨S8192x64, .f32⟩
  | 71 => ⟨S8192x64, .f32⟩
  | 72 => ⟨S8192x64, .f32⟩
  | 73 => ⟨S8192x64, .f32⟩
  | 74 => ⟨S8192x64, .f32⟩
  | 75 => ⟨S8192x64, .f32⟩
  | 76 => ⟨S_, .f32⟩
  | 77 => ⟨S8192x64, .f32⟩
  | 78 => ⟨S8192x64, .f32⟩
  | 79 => ⟨S_, .f32⟩
  | 80 => ⟨S8192x64, .f32⟩
  | 81 => ⟨S8192x64, .f32⟩
  | 82 => ⟨S8192x64, .f32⟩
  | 83 => ⟨S8192x64, .f32⟩
  | 84 => ⟨S8192x64, .f32⟩
  | 85 => ⟨S8192x64, .f32⟩
  | 86 => ⟨S8192x64, .f32⟩
  | 87 => ⟨S_, .f32⟩
  | 88 => ⟨S8192x64, .f32⟩
  | 89 => ⟨S8192x64, .f32⟩
  | 90 => ⟨S8192x64, .f32⟩
  | 91 => ⟨S8192x64, .f32⟩
  | 92 => ⟨S8192x64, .f32⟩
  | 93 => ⟨S8192x1x64, .f32⟩
  | 94 => ⟨S8192x64, .f32⟩
  | 95 => ⟨S64x192, .f32⟩
  | 96 => ⟨S8192x192, .f32⟩
  | 97 => ⟨S1x192, .f32⟩
  | 98 => ⟨S8192x192, .f32⟩
  | 99 => ⟨S8192x192, .f32⟩
  | 100 => ⟨S64x192, .f32⟩
  | 101 => ⟨S8192x192, .f32⟩
  | 102 => ⟨S1x192, .f32⟩
  | 103 => ⟨S8192x192, .f32⟩
  | 104 => ⟨S8192x192, .f32⟩
  | 105 => ⟨S8192x64, .f32⟩
  | 106 => ⟨S8192x64, .f32⟩
  | 107 => ⟨S8192x64, .f32⟩
  | 108 => ⟨S8192x64, .f32⟩
  | 109 => ⟨S8192x64, .f32⟩
  | 110 => ⟨S_, .f32⟩
  | 111 => ⟨S8192x64, .f32⟩
  | 112 => ⟨S8192x64, .f32⟩
  | 113 => ⟨S_, .f32⟩
  | 114 => ⟨S8192x64, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S8192x64, .f32⟩
  | 121 => ⟨S_, .f32⟩
  | 122 => ⟨S8192x64, .f32⟩
  | 123 => ⟨S8192x64, .f32⟩
  | 124 => ⟨S_, .f32⟩
  | 125 => ⟨S8192x64, .f32⟩
  | 126 => ⟨S8192x64, .f32⟩
  | 127 => ⟨S8192x64, .f32⟩
  | _ => ⟨S8x1024x16x64, .f32⟩

abbrev hbmTy0_12 (i : Nat) : BufTy := match i % 128 with
  | 0 => ⟨S8192x64, .f32⟩
  | 1 => ⟨S8192x64, .f32⟩
  | 2 => ⟨S8192x64, .f32⟩
  | 3 => ⟨S8192x64, .f32⟩
  | 4 => ⟨S_, .f32⟩
  | 5 => ⟨S8192x64, .f32⟩
  | 6 => ⟨S8192x64, .f32⟩
  | 7 => ⟨S8192x64, .f32⟩
  | 8 => ⟨S8192x64, .f32⟩
  | 9 => ⟨S8192x64, .f32⟩
  | 10 => ⟨S8192x1x64, .f32⟩
  | 11 => ⟨S8192x1x64, .f32⟩
  | 12 => ⟨S8192x1x64, .f32⟩
  | 13 => ⟨S8192x1x64, .f32⟩
  | 14 => ⟨S8192x1x64, .f32⟩
  | 15 => ⟨S8192x1x64, .f32⟩
  | 16 => ⟨S8192x1x64, .f32⟩
  | 17 => ⟨S8192x1x64, .f32⟩
  | 18 => ⟨S8192x1x64, .f32⟩
  | 19 => ⟨S8192x1x64, .f32⟩
  | 20 => ⟨S8192x1x64, .f32⟩
  | 21 => ⟨S8192x1x64, .f32⟩
  | 22 => ⟨S8192x1x64, .f32⟩
  | 23 => ⟨S8192x1x64, .f32⟩
  | 24 => ⟨S8192x1x64, .f32⟩
  | 25 => ⟨S8192x1x64, .f32⟩
  | 26 => ⟨S8192x16x64, .f32⟩
  | 27 => ⟨S64x64, .f32⟩
  | 28 => ⟨S8192x16x64, .f32⟩
  | 29 => ⟨S1x1x64, .f32⟩
  | 30 => ⟨S8192x16x64, .f32⟩
  | 31 => ⟨S8192x16x64, .f32⟩
  | 32 => ⟨S8192x16x4x16, .f32⟩
  | 33 => ⟨S8192x4x16x16, .f32⟩
  | 34 => ⟨S64x64, .f32⟩
  | 35 => ⟨S8192x16x64, .f32⟩
  | 36 => ⟨S1x1x64, .f32⟩
  | 37 => ⟨S8192x16x64, .f32⟩
  | 38 => ⟨S8192x16x64, .f32⟩
  | 39 => ⟨S8192x16x4x16, .f32⟩
  | 40 => ⟨S8192x4x16x16, .f32⟩
  | 41 => ⟨S64x64, .f32⟩
  | 42 => ⟨S8192x16x64, .f32⟩
  | 43 => ⟨S1x1x64, .f32⟩
  | 44 => ⟨S8192x16x64, .f32⟩
  | 45 => ⟨S8192x16x64, .f32⟩
  | 46 => ⟨S8192x16x4x16, .f32⟩
  | 47 => ⟨S8192x4x16x16, .f32⟩
  | 48 => ⟨S8192x4x16x16, .f32⟩
  | 49 => ⟨S8192x4x16x16, .f32⟩
  | 50 => ⟨S_, .f32⟩
  | 51 => ⟨S8192x4x16x16, .f32⟩
  | 52 => ⟨S8192x4x16x16, .f32⟩
  | 53 => ⟨S_, .i1⟩
  | 54 => ⟨S16x16, .i1⟩
  | 55 => ⟨S16x16, .i32⟩
  | 56 => ⟨S_, .i32⟩
  | 57 => ⟨S16x16, .i32⟩
  | 58 => ⟨S16x16, .i32⟩
  | 59 => ⟨S16x16, .i32⟩
  | 60 => ⟨S16x16, .i1⟩
  | 61 => ⟨S_, .i1⟩
  | 62 => ⟨S16x16, .i1⟩
  | 63 => ⟨S16x16, .i1⟩
  | 64 => ⟨S1x1x16x16, .i1⟩
  | 65 => ⟨S_, .f32⟩
  | 66 => ⟨S_, .f32⟩
  | 67 => ⟨S8192x4x16x16, .i1⟩
  | 68 => ⟨S8192x4x16x16, .f32⟩
  | 69 => ⟨S8192x4x16x16, .f32⟩
  | 70 => ⟨S_, .f32⟩
  | 71 => ⟨S8192x4x16, .f32⟩
  | 72 => ⟨S_, .f32⟩
  | 73 => ⟨S8192x4x16, .f32⟩
  | 74 => ⟨S8192x4x16, .f32⟩
  | 75 => ⟨S8192x4x16x1, .f32⟩
  | 76 => ⟨S8192x4x16x16, .f32⟩
  | 77 => ⟨S8192x4x16x16, .f32⟩
  | 78 => ⟨S8192x4x16x16, .f32⟩
  | 79 => ⟨S_, .f32⟩
  | 80 => ⟨S8192x4x16, .f32⟩
  | 81 => ⟨S8192x4x16x1, .f32⟩
  | 82 => ⟨S8192x4x16x16, .f32⟩
  | 83 => ⟨S8192x4x16x16, .f32⟩
  | 84 => ⟨S8192x4x16x16, .f32⟩
  | 85 => ⟨S8192x16x4x16, .f32⟩
  | 86 => ⟨S8192x16x64, .f32⟩
  | 87 => ⟨S64x64, .f32⟩
  | 88 => ⟨S8192x16x64, .f32⟩
  | 89 => ⟨S1x1x64, .f32⟩
  | 90 => ⟨S8192x16x64, .f32⟩
  | 91 => ⟨S8192x16x64, .f32⟩
  | 92 => ⟨S8192x16x64, .f32⟩
  | 93 => ⟨S_, .f32⟩
  | 94 => ⟨S8192x16, .f32⟩
  | 95 => ⟨S8192x16x1, .f32⟩
  | 96 => ⟨S_, .f32⟩
  | 97 => ⟨S8192x16x1, .f32⟩
  | 98 => ⟨S8192x16x1, .f32⟩
  | 99 => ⟨S_, .i32⟩
  | 100 => ⟨S_, .f32⟩
  | 101 => ⟨S8192x16, .f32⟩
  | 102 => ⟨S8192x16x1, .f32⟩
  | 103 => ⟨S_, .f32⟩
  | 104 => ⟨S8192x16x1, .f32⟩
  | 105 => ⟨S8192x16x1, .f32⟩
  | 106 => ⟨S8192x16x64, .f32⟩
  | 107 => ⟨S8192x16x64, .f32⟩
  | 108 => ⟨S8192x16x64, .f32⟩
  | 109 => ⟨S_, .f32⟩
  | 110 => ⟨S_, .f32⟩
  | 111 => ⟨S_, .f32⟩
  | 112 => ⟨S_, .f32⟩
  | 113 => ⟨S8192x16, .f32⟩
  | 114 => ⟨S8192x16x1, .f32⟩
  | 115 => ⟨S8192x16x1, .f32⟩
  | 116 => ⟨S8192x16x1, .f32⟩
  | 117 => ⟨S_, .f32⟩
  | 118 => ⟨S_, .i1⟩
  | 119 => ⟨S_, .f32⟩
  | 120 => ⟨S_, .f32⟩
  | 121 => ⟨S8192x16x1, .f32⟩
  | 122 => ⟨S8192x16x1, .f32⟩
  | 123 => ⟨S8192x16x64, .f32⟩
  | 124 => ⟨S8192x16x64, .f32⟩
  | 125 => ⟨S_, .f32⟩
  | 126 => ⟨S8192x16x1, .f32⟩
  | 127 => ⟨S8192x16x1, .f32⟩
  | _ => ⟨S8x1024x16x64, .f32⟩

abbrev hbmTy0_13 (i : Nat) : BufTy := match i % 128 with
  | 0 => ⟨S8192x16x1, .f32⟩
  | 1 => ⟨S8192x16x64, .f32⟩
  | 2 => ⟨S8192x16x64, .f32⟩
  | 3 => ⟨S1x1x64, .f32⟩
  | 4 => ⟨S8192x16x64, .f32⟩
  | 5 => ⟨S8192x16x64, .f32⟩
  | 6 => ⟨S1x1x64, .f32⟩
  | 7 => ⟨S8192x16x64, .f32⟩
  | 8 => ⟨S8192x16x64, .f32⟩
  | 9 => ⟨S8192x1024, .f32⟩
  | 10 => ⟨S1024x256, .f32⟩
  | 11 => ⟨S8192x256, .f32⟩
  | 12 => ⟨S1x256, .f32⟩
  | 13 => ⟨S8192x256, .f32⟩
  | 14 => ⟨S8192x256, .f32⟩
  | 15 => ⟨S256x2, .f32⟩
  | 16 => ⟨S8192x2, .f32⟩
  | 17 => ⟨S_, .f32⟩
  | 18 => ⟨S8192x2, .f32⟩
  | 19 => ⟨S8192x2, .f32⟩
  | _ => ⟨S8x1024x16x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S8x1024x16x64, .f32⟩

abbrev bufTy : (tb : Table) → Fin (tcTables nBuf tb) → BufTy
  | .hbm, ⟨i, _⟩ => hbmTy i
  | _, _ => ⟨S8x1024x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call0_cst : Ref sig .tc := ⟨.hbm, 47, rfl⟩
abbrev main_call0_v0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call1_cst : Ref sig .tc := ⟨.hbm, 66, rfl⟩
abbrev main_call1_v0 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_0 : Ref sig .tc := ⟨.hbm, 104, rfl⟩
abbrev main_v66 : Ref sig .tc := ⟨.hbm, 105, rfl⟩
abbrev main_v67 : Ref sig .tc := ⟨.hbm, 106, rfl⟩
abbrev main_cst_1 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_2 : Ref sig .tc := ⟨.hbm, 115, rfl⟩
abbrev main_v75 : Ref sig .tc := ⟨.hbm, 116, rfl⟩
abbrev main_v76 : Ref sig .tc := ⟨.hbm, 117, rfl⟩
abbrev main_cst_3 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_4 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_5 : Ref sig .tc := ⟨.hbm, 149, rfl⟩
abbrev main_v106 : Ref sig .tc := ⟨.hbm, 150, rfl⟩
abbrev main_v107 : Ref sig .tc := ⟨.hbm, 151, rfl⟩
abbrev main_cst_6 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_7 : Ref sig .tc := ⟨.hbm, 160, rfl⟩
abbrev main_v115 : Ref sig .tc := ⟨.hbm, 161, rfl⟩
abbrev main_v116 : Ref sig .tc := ⟨.hbm, 162, rfl⟩
abbrev main_cst_8 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_9 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_10 : Ref sig .tc := ⟨.hbm, 194, rfl⟩
abbrev main_v146 : Ref sig .tc := ⟨.hbm, 195, rfl⟩
abbrev main_v147 : Ref sig .tc := ⟨.hbm, 196, rfl⟩
abbrev main_cst_11 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_12 : Ref sig .tc := ⟨.hbm, 205, rfl⟩
abbrev main_v155 : Ref sig .tc := ⟨.hbm, 206, rfl⟩
abbrev main_v156 : Ref sig .tc := ⟨.hbm, 207, rfl⟩
abbrev main_cst_13 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_14 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_15 : Ref sig .tc := ⟨.hbm, 239, rfl⟩
abbrev main_v186 : Ref sig .tc := ⟨.hbm, 240, rfl⟩
abbrev main_v187 : Ref sig .tc := ⟨.hbm, 241, rfl⟩
abbrev main_cst_16 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_17 : Ref sig .tc := ⟨.hbm, 250, rfl⟩
abbrev main_v195 : Ref sig .tc := ⟨.hbm, 251, rfl⟩
abbrev main_v196 : Ref sig .tc := ⟨.hbm, 252, rfl⟩
abbrev main_cst_18 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_19 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_cst_20 : Ref sig .tc := ⟨.hbm, 284, rfl⟩
abbrev main_v226 : Ref sig .tc := ⟨.hbm, 285, rfl⟩
abbrev main_v227 : Ref sig .tc := ⟨.hbm, 286, rfl⟩
abbrev main_cst_21 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_cst_22 : Ref sig .tc := ⟨.hbm, 295, rfl⟩
abbrev main_v235 : Ref sig .tc := ⟨.hbm, 296, rfl⟩
abbrev main_v236 : Ref sig .tc := ⟨.hbm, 297, rfl⟩
abbrev main_cst_23 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_cst_24 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_cst_25 : Ref sig .tc := ⟨.hbm, 329, rfl⟩
abbrev main_v266 : Ref sig .tc := ⟨.hbm, 330, rfl⟩
abbrev main_v267 : Ref sig .tc := ⟨.hbm, 331, rfl⟩
abbrev main_cst_26 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_cst_27 : Ref sig .tc := ⟨.hbm, 340, rfl⟩
abbrev main_v275 : Ref sig .tc := ⟨.hbm, 341, rfl⟩
abbrev main_v276 : Ref sig .tc := ⟨.hbm, 342, rfl⟩
abbrev main_cst_28 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_cst_29 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_cst_30 : Ref sig .tc := ⟨.hbm, 374, rfl⟩
abbrev main_v306 : Ref sig .tc := ⟨.hbm, 375, rfl⟩
abbrev main_v307 : Ref sig .tc := ⟨.hbm, 376, rfl⟩
abbrev main_cst_31 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_cst_32 : Ref sig .tc := ⟨.hbm, 385, rfl⟩
abbrev main_v315 : Ref sig .tc := ⟨.hbm, 386, rfl⟩
abbrev main_v316 : Ref sig .tc := ⟨.hbm, 387, rfl⟩
abbrev main_cst_33 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_cst_34 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_v327 : Ref sig .tc := ⟨.hbm, 400, rfl⟩
abbrev main_v328 : Ref sig .tc := ⟨.hbm, 401, rfl⟩
abbrev main_v329 : Ref sig .tc := ⟨.hbm, 402, rfl⟩
abbrev main_v330 : Ref sig .tc := ⟨.hbm, 403, rfl⟩
abbrev main_v331 : Ref sig .tc := ⟨.hbm, 404, rfl⟩
abbrev main_v332 : Ref sig .tc := ⟨.hbm, 405, rfl⟩
abbrev main_v333 : Ref sig .tc := ⟨.hbm, 406, rfl⟩
abbrev main_v334 : Ref sig .tc := ⟨.hbm, 407, rfl⟩
abbrev main_v335 : Ref sig .tc := ⟨.hbm, 408, rfl⟩
abbrev main_v336 : Ref sig .tc := ⟨.hbm, 409, rfl⟩
abbrev main_v337 : Ref sig .tc := ⟨.hbm, 410, rfl⟩
abbrev main_v338 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_v345 : Ref sig .tc := ⟨.hbm, 418, rfl⟩
abbrev main_cst_35 : Ref sig .tc := ⟨.hbm, 419, rfl⟩
abbrev main_v346 : Ref sig .tc := ⟨.hbm, 420, rfl⟩
abbrev main_v347 : Ref sig .tc := ⟨.hbm, 421, rfl⟩
abbrev main_cst_36 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_cst_37 : Ref sig .tc := ⟨.hbm, 430, rfl⟩
abbrev main_v355 : Ref sig .tc := ⟨.hbm, 431, rfl⟩
abbrev main_v356 : Ref sig .tc := ⟨.hbm, 432, rfl⟩
abbrev main_cst_38 : Ref sig .tc := ⟨.hbm, 433, rfl⟩
abbrev main_v357 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_cst_39 : Ref sig .tc := ⟨.hbm, 441, rfl⟩
abbrev main_v364 : Ref sig .tc := ⟨.hbm, 442, rfl⟩
abbrev main_v365 : Ref sig .tc := ⟨.hbm, 443, rfl⟩
abbrev main_v366 : Ref sig .tc := ⟨.hbm, 444, rfl⟩
abbrev main_v367 : Ref sig .tc := ⟨.hbm, 445, rfl⟩
abbrev main_v368 : Ref sig .tc := ⟨.hbm, 446, rfl⟩
abbrev main_v369 : Ref sig .tc := ⟨.hbm, 447, rfl⟩
abbrev main_v370 : Ref sig .tc := ⟨.hbm, 448, rfl⟩
abbrev main_v371 : Ref sig .tc := ⟨.hbm, 449, rfl⟩
abbrev main_v372 : Ref sig .tc := ⟨.hbm, 450, rfl⟩
abbrev main_v373 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_v381 : Ref sig .tc := ⟨.hbm, 459, rfl⟩
abbrev main_v382 : Ref sig .tc := ⟨.hbm, 460, rfl⟩
abbrev main_v383 : Ref sig .tc := ⟨.hbm, 461, rfl⟩
abbrev main_v384 : Ref sig .tc := ⟨.hbm, 462, rfl⟩
abbrev main_v385 : Ref sig .tc := ⟨.hbm, 463, rfl⟩
abbrev main_cst_40 : Ref sig .tc := ⟨.hbm, 464, rfl⟩
abbrev main_v386 : Ref sig .tc := ⟨.hbm, 465, rfl⟩
abbrev main_v387 : Ref sig .tc := ⟨.hbm, 466, rfl⟩
abbrev main_cst_41 : Ref sig .tc := ⟨.hbm, 467, rfl⟩
abbrev main_v388 : Ref sig .tc := ⟨.hbm, 468, rfl⟩
abbrev main_v389 : Ref sig .tc := ⟨.hbm, 469, rfl⟩
abbrev main_v390 : Ref sig .tc := ⟨.hbm, 470, rfl⟩
abbrev main_v391 : Ref sig .tc := ⟨.hbm, 471, rfl⟩
abbrev main_v392 : Ref sig .tc := ⟨.hbm, 472, rfl⟩
abbrev main_v393 : Ref sig .tc := ⟨.hbm, 473, rfl⟩
abbrev main_v394 : Ref sig .tc := ⟨.hbm, 474, rfl⟩
abbrev main_cst_42 : Ref sig .tc := ⟨.hbm, 475, rfl⟩
abbrev main_v395 : Ref sig .tc := ⟨.hbm, 476, rfl⟩
abbrev main_v396 : Ref sig .tc := ⟨.hbm, 477, rfl⟩
abbrev main_cst_43 : Ref sig .tc := ⟨.hbm, 478, rfl⟩
abbrev main_v397 : Ref sig .tc := ⟨.hbm, 479, rfl⟩
abbrev main_v398 : Ref sig .tc := ⟨.hbm, 480, rfl⟩
abbrev main_v399 : Ref sig .tc := ⟨.hbm, 481, rfl⟩
abbrev main_v400 : Ref sig .tc := ⟨.hbm, 482, rfl⟩
abbrev main_v401 : Ref sig .tc := ⟨.hbm, 483, rfl⟩
abbrev main_v402 : Ref sig .tc := ⟨.hbm, 484, rfl⟩
abbrev main_v403 : Ref sig .tc := ⟨.hbm, 485, rfl⟩
abbrev main_cst_44 : Ref sig .tc := ⟨.hbm, 486, rfl⟩
abbrev main_v404 : Ref sig .tc := ⟨.hbm, 487, rfl⟩
abbrev main_v405 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_v422 : Ref sig .tc := ⟨.hbm, 505, rfl⟩
abbrev main_v423 : Ref sig .tc := ⟨.hbm, 506, rfl⟩
abbrev main_v424 : Ref sig .tc := ⟨.hbm, 507, rfl⟩
abbrev main_v425 : Ref sig .tc := ⟨.hbm, 508, rfl⟩
abbrev main_cst_45 : Ref sig .tc := ⟨.hbm, 509, rfl⟩
abbrev main_v426 : Ref sig .tc := ⟨.hbm, 510, rfl⟩
abbrev main_v427 : Ref sig .tc := ⟨.hbm, 511, rfl⟩
abbrev main_cst_46 : Ref sig .tc := ⟨.hbm, 512, rfl⟩
abbrev main_v428 : Ref sig .tc := ⟨.hbm, 513, rfl⟩
abbrev main_v429 : Ref sig .tc := ⟨.hbm, 514, rfl⟩
abbrev main_v430 : Ref sig .tc := ⟨.hbm, 515, rfl⟩
abbrev main_v431 : Ref sig .tc := ⟨.hbm, 516, rfl⟩
abbrev main_v432 : Ref sig .tc := ⟨.hbm, 517, rfl⟩
abbrev main_v433 : Ref sig .tc := ⟨.hbm, 518, rfl⟩
abbrev main_v434 : Ref sig .tc := ⟨.hbm, 519, rfl⟩
abbrev main_cst_47 : Ref sig .tc := ⟨.hbm, 520, rfl⟩
abbrev main_v435 : Ref sig .tc := ⟨.hbm, 521, rfl⟩
abbrev main_v436 : Ref sig .tc := ⟨.hbm, 522, rfl⟩
abbrev main_cst_48 : Ref sig .tc := ⟨.hbm, 523, rfl⟩
abbrev main_v437 : Ref sig .tc := ⟨.hbm, 524, rfl⟩
abbrev main_v438 : Ref sig .tc := ⟨.hbm, 525, rfl⟩
abbrev main_v439 : Ref sig .tc := ⟨.hbm, 526, rfl⟩
abbrev main_v440 : Ref sig .tc := ⟨.hbm, 527, rfl⟩
abbrev main_v441 : Ref sig .tc := ⟨.hbm, 528, rfl⟩
abbrev main_v442 : Ref sig .tc := ⟨.hbm, 529, rfl⟩
abbrev main_v443 : Ref sig .tc := ⟨.hbm, 530, rfl⟩
abbrev main_cst_49 : Ref sig .tc := ⟨.hbm, 531, rfl⟩
abbrev main_v444 : Ref sig .tc := ⟨.hbm, 532, rfl⟩
abbrev main_v445 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_v454 : Ref sig .tc := ⟨.hbm, 542, rfl⟩
abbrev main_v455 : Ref sig .tc := ⟨.hbm, 543, rfl⟩
abbrev main_v456 : Ref sig .tc := ⟨.hbm, 544, rfl⟩
abbrev main_v457 : Ref sig .tc := ⟨.hbm, 545, rfl⟩
abbrev main_v458 : Ref sig .tc := ⟨.hbm, 546, rfl⟩
abbrev main_v459 : Ref sig .tc := ⟨.hbm, 547, rfl⟩
abbrev main_v460 : Ref sig .tc := ⟨.hbm, 548, rfl⟩
abbrev main_v461 : Ref sig .tc := ⟨.hbm, 549, rfl⟩
abbrev main_v462 : Ref sig .tc := ⟨.hbm, 550, rfl⟩
abbrev main_v463 : Ref sig .tc := ⟨.hbm, 551, rfl⟩
abbrev main_v464 : Ref sig .tc := ⟨.hbm, 552, rfl⟩
abbrev main_v465 : Ref sig .tc := ⟨.hbm, 553, rfl⟩
abbrev main_cst_50 : Ref sig .tc := ⟨.hbm, 554, rfl⟩
abbrev main_v466 : Ref sig .tc := ⟨.hbm, 555, rfl⟩
abbrev main_v467 : Ref sig .tc := ⟨.hbm, 556, rfl⟩
abbrev main_cst_51 : Ref sig .tc := ⟨.hbm, 557, rfl⟩
abbrev main_v468 : Ref sig .tc := ⟨.hbm, 558, rfl⟩
abbrev main_v469 : Ref sig .tc := ⟨.hbm, 559, rfl⟩
abbrev main_v470 : Ref sig .tc := ⟨.hbm, 560, rfl⟩
abbrev main_v471 : Ref sig .tc := ⟨.hbm, 561, rfl⟩
abbrev main_v472 : Ref sig .tc := ⟨.hbm, 562, rfl⟩
abbrev main_v473 : Ref sig .tc := ⟨.hbm, 563, rfl⟩
abbrev main_v474 : Ref sig .tc := ⟨.hbm, 564, rfl⟩
abbrev main_cst_52 : Ref sig .tc := ⟨.hbm, 565, rfl⟩
abbrev main_v475 : Ref sig .tc := ⟨.hbm, 566, rfl⟩
abbrev main_v476 : Ref sig .tc := ⟨.hbm, 567, rfl⟩
abbrev main_cst_53 : Ref sig .tc := ⟨.hbm, 568, rfl⟩
abbrev main_v477 : Ref sig .tc := ⟨.hbm, 569, rfl⟩
abbrev main_v478 : Ref sig .tc := ⟨.hbm, 570, rfl⟩
abbrev main_v479 : Ref sig .tc := ⟨.hbm, 571, rfl⟩
abbrev main_v480 : Ref sig .tc := ⟨.hbm, 572, rfl⟩
abbrev main_v481 : Ref sig .tc := ⟨.hbm, 573, rfl⟩
abbrev main_v482 : Ref sig .tc := ⟨.hbm, 574, rfl⟩
abbrev main_v483 : Ref sig .tc := ⟨.hbm, 575, rfl⟩
abbrev main_cst_54 : Ref sig .tc := ⟨.hbm, 576, rfl⟩
abbrev main_v484 : Ref sig .tc := ⟨.hbm, 577, rfl⟩
abbrev main_v485 : Ref sig .tc := ⟨.hbm, 578, rfl⟩
abbrev main_v486 : Ref sig .tc := ⟨.hbm, 579, rfl⟩
abbrev main_v487 : Ref sig .tc := ⟨.hbm, 580, rfl⟩
abbrev main_v488 : Ref sig .tc := ⟨.hbm, 581, rfl⟩
abbrev main_v489 : Ref sig .tc := ⟨.hbm, 582, rfl⟩
abbrev main_v490 : Ref sig .tc := ⟨.hbm, 583, rfl⟩
abbrev main_v491 : Ref sig .tc := ⟨.hbm, 584, rfl⟩
abbrev main_v492 : Ref sig .tc := ⟨.hbm, 585, rfl⟩
abbrev main_v493 : Ref sig .tc := ⟨.hbm, 586, rfl⟩
abbrev main_v494 : Ref sig .tc := ⟨.hbm, 587, rfl⟩
abbrev main_v495 : Ref sig .tc := ⟨.hbm, 588, rfl⟩
abbrev main_v496 : Ref sig .tc := ⟨.hbm, 589, rfl⟩
abbrev main_v497 : Ref sig .tc := ⟨.hbm, 590, rfl⟩
abbrev main_v498 : Ref sig .tc := ⟨.hbm, 591, rfl⟩
abbrev main_v499 : Ref sig .tc := ⟨.hbm, 592, rfl⟩
abbrev main_v500 : Ref sig .tc := ⟨.hbm, 593, rfl⟩
abbrev main_v501 : Ref sig .tc := ⟨.hbm, 594, rfl⟩
abbrev main_v502 : Ref sig .tc := ⟨.hbm, 595, rfl⟩
abbrev main_v503 : Ref sig .tc := ⟨.hbm, 596, rfl⟩
abbrev main_v504 : Ref sig .tc := ⟨.hbm, 597, rfl⟩
abbrev main_v505 : Ref sig .tc := ⟨.hbm, 598, rfl⟩
abbrev main_cst_55 : Ref sig .tc := ⟨.hbm, 599, rfl⟩
abbrev main_v506 : Ref sig .tc := ⟨.hbm, 600, rfl⟩
abbrev main_v507 : Ref sig .tc := ⟨.hbm, 601, rfl⟩
abbrev main_cst_56 : Ref sig .tc := ⟨.hbm, 602, rfl⟩
abbrev main_v508 : Ref sig .tc := ⟨.hbm, 603, rfl⟩
abbrev main_v509 : Ref sig .tc := ⟨.hbm, 604, rfl⟩
abbrev main_v510 : Ref sig .tc := ⟨.hbm, 605, rfl⟩
abbrev main_v511 : Ref sig .tc := ⟨.hbm, 606, rfl⟩
abbrev main_v512 : Ref sig .tc := ⟨.hbm, 607, rfl⟩
abbrev main_v513 : Ref sig .tc := ⟨.hbm, 608, rfl⟩
abbrev main_v514 : Ref sig .tc := ⟨.hbm, 609, rfl⟩
abbrev main_cst_57 : Ref sig .tc := ⟨.hbm, 610, rfl⟩
abbrev main_v515 : Ref sig .tc := ⟨.hbm, 611, rfl⟩
abbrev main_v516 : Ref sig .tc := ⟨.hbm, 612, rfl⟩
abbrev main_cst_58 : Ref sig .tc := ⟨.hbm, 613, rfl⟩
abbrev main_v517 : Ref sig .tc := ⟨.hbm, 614, rfl⟩
abbrev main_v518 : Ref sig .tc := ⟨.hbm, 615, rfl⟩
abbrev main_v519 : Ref sig .tc := ⟨.hbm, 616, rfl⟩
abbrev main_v520 : Ref sig .tc := ⟨.hbm, 617, rfl⟩
abbrev main_v521 : Ref sig .tc := ⟨.hbm, 618, rfl⟩
abbrev main_v522 : Ref sig .tc := ⟨.hbm, 619, rfl⟩
abbrev main_v523 : Ref sig .tc := ⟨.hbm, 620, rfl⟩
abbrev main_cst_59 : Ref sig .tc := ⟨.hbm, 621, rfl⟩
abbrev main_v524 : Ref sig .tc := ⟨.hbm, 622, rfl⟩
abbrev main_v525 : Ref sig .tc := ⟨.hbm, 623, rfl⟩
abbrev main_v526 : Ref sig .tc := ⟨.hbm, 624, rfl⟩
abbrev main_v527 : Ref sig .tc := ⟨.hbm, 625, rfl⟩
abbrev main_v528 : Ref sig .tc := ⟨.hbm, 626, rfl⟩
abbrev main_v529 : Ref sig .tc := ⟨.hbm, 627, rfl⟩
abbrev main_v530 : Ref sig .tc := ⟨.hbm, 628, rfl⟩
abbrev main_v531 : Ref sig .tc := ⟨.hbm, 629, rfl⟩
abbrev main_v532 : Ref sig .tc := ⟨.hbm, 630, rfl⟩
abbrev main_v533 : Ref sig .tc := ⟨.hbm, 631, rfl⟩
abbrev main_v534 : Ref sig .tc := ⟨.hbm, 632, rfl⟩
abbrev main_v535 : Ref sig .tc := ⟨.hbm, 633, rfl⟩
abbrev main_v536 : Ref sig .tc := ⟨.hbm, 634, rfl⟩
abbrev main_v537 : Ref sig .tc := ⟨.hbm, 635, rfl⟩
abbrev main_v538 : Ref sig .tc := ⟨.hbm, 636, rfl⟩
abbrev main_v539 : Ref sig .tc := ⟨.hbm, 637, rfl⟩
abbrev main_v540 : Ref sig .tc := ⟨.hbm, 638, rfl⟩
abbrev main_v541 : Ref sig .tc := ⟨.hbm, 639, rfl⟩
abbrev main_v542 : Ref sig .tc := ⟨.hbm, 640, rfl⟩
abbrev main_v543 : Ref sig .tc := ⟨.hbm, 641, rfl⟩
abbrev main_v544 : Ref sig .tc := ⟨.hbm, 642, rfl⟩
abbrev main_v545 : Ref sig .tc := ⟨.hbm, 643, rfl⟩
abbrev main_cst_60 : Ref sig .tc := ⟨.hbm, 644, rfl⟩
abbrev main_v546 : Ref sig .tc := ⟨.hbm, 645, rfl⟩
abbrev main_v547 : Ref sig .tc := ⟨.hbm, 646, rfl⟩
abbrev main_cst_61 : Ref sig .tc := ⟨.hbm, 647, rfl⟩
abbrev main_v548 : Ref sig .tc := ⟨.hbm, 648, rfl⟩
abbrev main_v549 : Ref sig .tc := ⟨.hbm, 649, rfl⟩
abbrev main_v550 : Ref sig .tc := ⟨.hbm, 650, rfl⟩
abbrev main_v551 : Ref sig .tc := ⟨.hbm, 651, rfl⟩
abbrev main_v552 : Ref sig .tc := ⟨.hbm, 652, rfl⟩
abbrev main_v553 : Ref sig .tc := ⟨.hbm, 653, rfl⟩
abbrev main_v554 : Ref sig .tc := ⟨.hbm, 654, rfl⟩
abbrev main_cst_62 : Ref sig .tc := ⟨.hbm, 655, rfl⟩
abbrev main_v555 : Ref sig .tc := ⟨.hbm, 656, rfl⟩
abbrev main_v556 : Ref sig .tc := ⟨.hbm, 657, rfl⟩
abbrev main_cst_63 : Ref sig .tc := ⟨.hbm, 658, rfl⟩
abbrev main_v557 : Ref sig .tc := ⟨.hbm, 659, rfl⟩
abbrev main_v558 : Ref sig .tc := ⟨.hbm, 660, rfl⟩
abbrev main_v559 : Ref sig .tc := ⟨.hbm, 661, rfl⟩
abbrev main_v560 : Ref sig .tc := ⟨.hbm, 662, rfl⟩
abbrev main_v561 : Ref sig .tc := ⟨.hbm, 663, rfl⟩
abbrev main_v562 : Ref sig .tc := ⟨.hbm, 664, rfl⟩
abbrev main_v563 : Ref sig .tc := ⟨.hbm, 665, rfl⟩
abbrev main_cst_64 : Ref sig .tc := ⟨.hbm, 666, rfl⟩
abbrev main_v564 : Ref sig .tc := ⟨.hbm, 667, rfl⟩
abbrev main_v565 : Ref sig .tc := ⟨.hbm, 668, rfl⟩
abbrev main_v566 : Ref sig .tc := ⟨.hbm, 669, rfl⟩
abbrev main_v567 : Ref sig .tc := ⟨.hbm, 670, rfl⟩
abbrev main_v568 : Ref sig .tc := ⟨.hbm, 671, rfl⟩
abbrev main_v569 : Ref sig .tc := ⟨.hbm, 672, rfl⟩
abbrev main_v570 : Ref sig .tc := ⟨.hbm, 673, rfl⟩
abbrev main_v571 : Ref sig .tc := ⟨.hbm, 674, rfl⟩
abbrev main_v572 : Ref sig .tc := ⟨.hbm, 675, rfl⟩
abbrev main_v573 : Ref sig .tc := ⟨.hbm, 676, rfl⟩
abbrev main_v574 : Ref sig .tc := ⟨.hbm, 677, rfl⟩
abbrev main_v575 : Ref sig .tc := ⟨.hbm, 678, rfl⟩
abbrev main_v576 : Ref sig .tc := ⟨.hbm, 679, rfl⟩
abbrev main_v577 : Ref sig .tc := ⟨.hbm, 680, rfl⟩
abbrev main_v578 : Ref sig .tc := ⟨.hbm, 681, rfl⟩
abbrev main_v579 : Ref sig .tc := ⟨.hbm, 682, rfl⟩
abbrev main_v580 : Ref sig .tc := ⟨.hbm, 683, rfl⟩
abbrev main_v581 : Ref sig .tc := ⟨.hbm, 684, rfl⟩
abbrev main_v582 : Ref sig .tc := ⟨.hbm, 685, rfl⟩
abbrev main_v583 : Ref sig .tc := ⟨.hbm, 686, rfl⟩
abbrev main_v584 : Ref sig .tc := ⟨.hbm, 687, rfl⟩
abbrev main_v585 : Ref sig .tc := ⟨.hbm, 688, rfl⟩
abbrev main_cst_65 : Ref sig .tc := ⟨.hbm, 689, rfl⟩
abbrev main_v586 : Ref sig .tc := ⟨.hbm, 690, rfl⟩
abbrev main_v587 : Ref sig .tc := ⟨.hbm, 691, rfl⟩
abbrev main_cst_66 : Ref sig .tc := ⟨.hbm, 692, rfl⟩
abbrev main_v588 : Ref sig .tc := ⟨.hbm, 693, rfl⟩
abbrev main_v589 : Ref sig .tc := ⟨.hbm, 694, rfl⟩
abbrev main_v590 : Ref sig .tc := ⟨.hbm, 695, rfl⟩
abbrev main_v591 : Ref sig .tc := ⟨.hbm, 696, rfl⟩
abbrev main_v592 : Ref sig .tc := ⟨.hbm, 697, rfl⟩
abbrev main_v593 : Ref sig .tc := ⟨.hbm, 698, rfl⟩
abbrev main_v594 : Ref sig .tc := ⟨.hbm, 699, rfl⟩
abbrev main_cst_67 : Ref sig .tc := ⟨.hbm, 700, rfl⟩
abbrev main_v595 : Ref sig .tc := ⟨.hbm, 701, rfl⟩
abbrev main_v596 : Ref sig .tc := ⟨.hbm, 702, rfl⟩
abbrev main_cst_68 : Ref sig .tc := ⟨.hbm, 703, rfl⟩
abbrev main_v597 : Ref sig .tc := ⟨.hbm, 704, rfl⟩
abbrev main_v598 : Ref sig .tc := ⟨.hbm, 705, rfl⟩
abbrev main_v599 : Ref sig .tc := ⟨.hbm, 706, rfl⟩
abbrev main_v600 : Ref sig .tc := ⟨.hbm, 707, rfl⟩
abbrev main_v601 : Ref sig .tc := ⟨.hbm, 708, rfl⟩
abbrev main_v602 : Ref sig .tc := ⟨.hbm, 709, rfl⟩
abbrev main_v603 : Ref sig .tc := ⟨.hbm, 710, rfl⟩
abbrev main_cst_69 : Ref sig .tc := ⟨.hbm, 711, rfl⟩
abbrev main_v604 : Ref sig .tc := ⟨.hbm, 712, rfl⟩
abbrev main_v605 : Ref sig .tc := ⟨.hbm, 713, rfl⟩
abbrev main_v606 : Ref sig .tc := ⟨.hbm, 714, rfl⟩
abbrev main_v607 : Ref sig .tc := ⟨.hbm, 715, rfl⟩
abbrev main_v608 : Ref sig .tc := ⟨.hbm, 716, rfl⟩
abbrev main_v609 : Ref sig .tc := ⟨.hbm, 717, rfl⟩
abbrev main_v610 : Ref sig .tc := ⟨.hbm, 718, rfl⟩
abbrev main_v611 : Ref sig .tc := ⟨.hbm, 719, rfl⟩
abbrev main_v612 : Ref sig .tc := ⟨.hbm, 720, rfl⟩
abbrev main_v613 : Ref sig .tc := ⟨.hbm, 721, rfl⟩
abbrev main_v614 : Ref sig .tc := ⟨.hbm, 722, rfl⟩
abbrev main_v615 : Ref sig .tc := ⟨.hbm, 723, rfl⟩
abbrev main_v616 : Ref sig .tc := ⟨.hbm, 724, rfl⟩
abbrev main_v617 : Ref sig .tc := ⟨.hbm, 725, rfl⟩
abbrev main_v618 : Ref sig .tc := ⟨.hbm, 726, rfl⟩
abbrev main_v619 : Ref sig .tc := ⟨.hbm, 727, rfl⟩
abbrev main_v620 : Ref sig .tc := ⟨.hbm, 728, rfl⟩
abbrev main_v621 : Ref sig .tc := ⟨.hbm, 729, rfl⟩
abbrev main_v622 : Ref sig .tc := ⟨.hbm, 730, rfl⟩
abbrev main_v623 : Ref sig .tc := ⟨.hbm, 731, rfl⟩
abbrev main_v624 : Ref sig .tc := ⟨.hbm, 732, rfl⟩
abbrev main_v625 : Ref sig .tc := ⟨.hbm, 733, rfl⟩
abbrev main_cst_70 : Ref sig .tc := ⟨.hbm, 734, rfl⟩
abbrev main_v626 : Ref sig .tc := ⟨.hbm, 735, rfl⟩
abbrev main_v627 : Ref sig .tc := ⟨.hbm, 736, rfl⟩
abbrev main_cst_71 : Ref sig .tc := ⟨.hbm, 737, rfl⟩
abbrev main_v628 : Ref sig .tc := ⟨.hbm, 738, rfl⟩
abbrev main_v629 : Ref sig .tc := ⟨.hbm, 739, rfl⟩
abbrev main_v630 : Ref sig .tc := ⟨.hbm, 740, rfl⟩
abbrev main_v631 : Ref sig .tc := ⟨.hbm, 741, rfl⟩
abbrev main_v632 : Ref sig .tc := ⟨.hbm, 742, rfl⟩
abbrev main_v633 : Ref sig .tc := ⟨.hbm, 743, rfl⟩
abbrev main_v634 : Ref sig .tc := ⟨.hbm, 744, rfl⟩
abbrev main_cst_72 : Ref sig .tc := ⟨.hbm, 745, rfl⟩
abbrev main_v635 : Ref sig .tc := ⟨.hbm, 746, rfl⟩
abbrev main_v636 : Ref sig .tc := ⟨.hbm, 747, rfl⟩
abbrev main_cst_73 : Ref sig .tc := ⟨.hbm, 748, rfl⟩
abbrev main_v637 : Ref sig .tc := ⟨.hbm, 749, rfl⟩
abbrev main_v638 : Ref sig .tc := ⟨.hbm, 750, rfl⟩
abbrev main_v639 : Ref sig .tc := ⟨.hbm, 751, rfl⟩
abbrev main_v640 : Ref sig .tc := ⟨.hbm, 752, rfl⟩
abbrev main_v641 : Ref sig .tc := ⟨.hbm, 753, rfl⟩
abbrev main_v642 : Ref sig .tc := ⟨.hbm, 754, rfl⟩
abbrev main_v643 : Ref sig .tc := ⟨.hbm, 755, rfl⟩
abbrev main_cst_74 : Ref sig .tc := ⟨.hbm, 756, rfl⟩
abbrev main_v644 : Ref sig .tc := ⟨.hbm, 757, rfl⟩
abbrev main_v645 : Ref sig .tc := ⟨.hbm, 758, rfl⟩
abbrev main_v646 : Ref sig .tc := ⟨.hbm, 759, rfl⟩
abbrev main_v647 : Ref sig .tc := ⟨.hbm, 760, rfl⟩
abbrev main_v648 : Ref sig .tc := ⟨.hbm, 761, rfl⟩
abbrev main_v649 : Ref sig .tc := ⟨.hbm, 762, rfl⟩
abbrev main_v650 : Ref sig .tc := ⟨.hbm, 763, rfl⟩
abbrev main_v651 : Ref sig .tc := ⟨.hbm, 764, rfl⟩
abbrev main_v652 : Ref sig .tc := ⟨.hbm, 765, rfl⟩
abbrev main_v653 : Ref sig .tc := ⟨.hbm, 766, rfl⟩
abbrev main_v654 : Ref sig .tc := ⟨.hbm, 767, rfl⟩
abbrev main_v655 : Ref sig .tc := ⟨.hbm, 768, rfl⟩
abbrev main_v656 : Ref sig .tc := ⟨.hbm, 769, rfl⟩
abbrev main_v657 : Ref sig .tc := ⟨.hbm, 770, rfl⟩
abbrev main_v658 : Ref sig .tc := ⟨.hbm, 771, rfl⟩
abbrev main_v659 : Ref sig .tc := ⟨.hbm, 772, rfl⟩
abbrev main_v660 : Ref sig .tc := ⟨.hbm, 773, rfl⟩
abbrev main_v661 : Ref sig .tc := ⟨.hbm, 774, rfl⟩
abbrev main_v662 : Ref sig .tc := ⟨.hbm, 775, rfl⟩
abbrev main_v663 : Ref sig .tc := ⟨.hbm, 776, rfl⟩
abbrev main_v664 : Ref sig .tc := ⟨.hbm, 777, rfl⟩
abbrev main_v665 : Ref sig .tc := ⟨.hbm, 778, rfl⟩
abbrev main_cst_75 : Ref sig .tc := ⟨.hbm, 779, rfl⟩
abbrev main_v666 : Ref sig .tc := ⟨.hbm, 780, rfl⟩
abbrev main_v667 : Ref sig .tc := ⟨.hbm, 781, rfl⟩
abbrev main_cst_76 : Ref sig .tc := ⟨.hbm, 782, rfl⟩
abbrev main_v668 : Ref sig .tc := ⟨.hbm, 783, rfl⟩
abbrev main_v669 : Ref sig .tc := ⟨.hbm, 784, rfl⟩
abbrev main_v670 : Ref sig .tc := ⟨.hbm, 785, rfl⟩
abbrev main_v671 : Ref sig .tc := ⟨.hbm, 786, rfl⟩
abbrev main_v672 : Ref sig .tc := ⟨.hbm, 787, rfl⟩
abbrev main_v673 : Ref sig .tc := ⟨.hbm, 788, rfl⟩
abbrev main_v674 : Ref sig .tc := ⟨.hbm, 789, rfl⟩
abbrev main_cst_77 : Ref sig .tc := ⟨.hbm, 790, rfl⟩
abbrev main_v675 : Ref sig .tc := ⟨.hbm, 791, rfl⟩
abbrev main_v676 : Ref sig .tc := ⟨.hbm, 792, rfl⟩
abbrev main_cst_78 : Ref sig .tc := ⟨.hbm, 793, rfl⟩
abbrev main_v677 : Ref sig .tc := ⟨.hbm, 794, rfl⟩
abbrev main_v678 : Ref sig .tc := ⟨.hbm, 795, rfl⟩
abbrev main_v679 : Ref sig .tc := ⟨.hbm, 796, rfl⟩
abbrev main_v680 : Ref sig .tc := ⟨.hbm, 797, rfl⟩
abbrev main_v681 : Ref sig .tc := ⟨.hbm, 798, rfl⟩
abbrev main_v682 : Ref sig .tc := ⟨.hbm, 799, rfl⟩
abbrev main_v683 : Ref sig .tc := ⟨.hbm, 800, rfl⟩
abbrev main_cst_79 : Ref sig .tc := ⟨.hbm, 801, rfl⟩
abbrev main_v684 : Ref sig .tc := ⟨.hbm, 802, rfl⟩
abbrev main_v685 : Ref sig .tc := ⟨.hbm, 803, rfl⟩
abbrev main_v686 : Ref sig .tc := ⟨.hbm, 804, rfl⟩
abbrev main_v687 : Ref sig .tc := ⟨.hbm, 805, rfl⟩
abbrev main_v688 : Ref sig .tc := ⟨.hbm, 806, rfl⟩
abbrev main_v689 : Ref sig .tc := ⟨.hbm, 807, rfl⟩
abbrev main_v690 : Ref sig .tc := ⟨.hbm, 808, rfl⟩
abbrev main_v691 : Ref sig .tc := ⟨.hbm, 809, rfl⟩
abbrev main_v692 : Ref sig .tc := ⟨.hbm, 810, rfl⟩
abbrev main_v693 : Ref sig .tc := ⟨.hbm, 811, rfl⟩
abbrev main_v694 : Ref sig .tc := ⟨.hbm, 812, rfl⟩
abbrev main_v695 : Ref sig .tc := ⟨.hbm, 813, rfl⟩
abbrev main_v696 : Ref sig .tc := ⟨.hbm, 814, rfl⟩
abbrev main_v697 : Ref sig .tc := ⟨.hbm, 815, rfl⟩
abbrev main_v698 : Ref sig .tc := ⟨.hbm, 816, rfl⟩
abbrev main_v699 : Ref sig .tc := ⟨.hbm, 817, rfl⟩
abbrev main_v700 : Ref sig .tc := ⟨.hbm, 818, rfl⟩
abbrev main_v701 : Ref sig .tc := ⟨.hbm, 819, rfl⟩
abbrev main_v702 : Ref sig .tc := ⟨.hbm, 820, rfl⟩
abbrev main_v703 : Ref sig .tc := ⟨.hbm, 821, rfl⟩
abbrev main_v704 : Ref sig .tc := ⟨.hbm, 822, rfl⟩
abbrev main_v705 : Ref sig .tc := ⟨.hbm, 823, rfl⟩
abbrev main_cst_80 : Ref sig .tc := ⟨.hbm, 824, rfl⟩
abbrev main_v706 : Ref sig .tc := ⟨.hbm, 825, rfl⟩
abbrev main_v707 : Ref sig .tc := ⟨.hbm, 826, rfl⟩
abbrev main_v708 : Ref sig .tc := ⟨.hbm, 827, rfl⟩
abbrev main_v709 : Ref sig .tc := ⟨.hbm, 828, rfl⟩
abbrev main_v710 : Ref sig .tc := ⟨.hbm, 829, rfl⟩
abbrev main_v711 : Ref sig .tc := ⟨.hbm, 830, rfl⟩
abbrev main_v712 : Ref sig .tc := ⟨.hbm, 831, rfl⟩
abbrev main_v713 : Ref sig .tc := ⟨.hbm, 832, rfl⟩
abbrev main_v714 : Ref sig .tc := ⟨.hbm, 833, rfl⟩
abbrev main_v715 : Ref sig .tc := ⟨.hbm, 834, rfl⟩
abbrev main_v716 : Ref sig .tc := ⟨.hbm, 835, rfl⟩
abbrev main_v717 : Ref sig .tc := ⟨.hbm, 836, rfl⟩
abbrev main_v718 : Ref sig .tc := ⟨.hbm, 837, rfl⟩
abbrev main_v719 : Ref sig .tc := ⟨.hbm, 838, rfl⟩
abbrev main_v720 : Ref sig .tc := ⟨.hbm, 839, rfl⟩
abbrev main_v721 : Ref sig .tc := ⟨.hbm, 840, rfl⟩
abbrev main_v722 : Ref sig .tc := ⟨.hbm, 841, rfl⟩
abbrev main_v723 : Ref sig .tc := ⟨.hbm, 842, rfl⟩
abbrev main_cst_81 : Ref sig .tc := ⟨.hbm, 843, rfl⟩
abbrev main_v724 : Ref sig .tc := ⟨.hbm, 844, rfl⟩
abbrev main_v725 : Ref sig .tc := ⟨.hbm, 845, rfl⟩
abbrev main_cst_82 : Ref sig .tc := ⟨.hbm, 846, rfl⟩
abbrev main_v726 : Ref sig .tc := ⟨.hbm, 847, rfl⟩
abbrev main_v727 : Ref sig .tc := ⟨.hbm, 848, rfl⟩
abbrev main_v728 : Ref sig .tc := ⟨.hbm, 849, rfl⟩
abbrev main_v729 : Ref sig .tc := ⟨.hbm, 850, rfl⟩
abbrev main_v730 : Ref sig .tc := ⟨.hbm, 851, rfl⟩
abbrev main_v731 : Ref sig .tc := ⟨.hbm, 852, rfl⟩
abbrev main_v732 : Ref sig .tc := ⟨.hbm, 853, rfl⟩
abbrev main_cst_83 : Ref sig .tc := ⟨.hbm, 854, rfl⟩
abbrev main_v733 : Ref sig .tc := ⟨.hbm, 855, rfl⟩
abbrev main_v734 : Ref sig .tc := ⟨.hbm, 856, rfl⟩
abbrev main_cst_84 : Ref sig .tc := ⟨.hbm, 857, rfl⟩
abbrev main_v735 : Ref sig .tc := ⟨.hbm, 858, rfl⟩
abbrev main_v736 : Ref sig .tc := ⟨.hbm, 859, rfl⟩
abbrev main_v737 : Ref sig .tc := ⟨.hbm, 860, rfl⟩
abbrev main_v738 : Ref sig .tc := ⟨.hbm, 861, rfl⟩
abbrev main_v739 : Ref sig .tc := ⟨.hbm, 862, rfl⟩
abbrev main_v740 : Ref sig .tc := ⟨.hbm, 863, rfl⟩
abbrev main_v741 : Ref sig .tc := ⟨.hbm, 864, rfl⟩
abbrev main_cst_85 : Ref sig .tc := ⟨.hbm, 865, rfl⟩
abbrev main_v742 : Ref sig .tc := ⟨.hbm, 866, rfl⟩
abbrev main_v743 : Ref sig .tc := ⟨.hbm, 867, rfl⟩
abbrev main_v744 : Ref sig .tc := ⟨.hbm, 868, rfl⟩
abbrev main_v745 : Ref sig .tc := ⟨.hbm, 869, rfl⟩
abbrev main_v746 : Ref sig .tc := ⟨.hbm, 870, rfl⟩
abbrev main_v747 : Ref sig .tc := ⟨.hbm, 871, rfl⟩
abbrev main_v748 : Ref sig .tc := ⟨.hbm, 872, rfl⟩
abbrev main_v749 : Ref sig .tc := ⟨.hbm, 873, rfl⟩
abbrev main_v750 : Ref sig .tc := ⟨.hbm, 874, rfl⟩
abbrev main_v751 : Ref sig .tc := ⟨.hbm, 875, rfl⟩
abbrev main_v752 : Ref sig .tc := ⟨.hbm, 876, rfl⟩
abbrev main_v753 : Ref sig .tc := ⟨.hbm, 877, rfl⟩
abbrev main_v754 : Ref sig .tc := ⟨.hbm, 878, rfl⟩
abbrev main_v755 : Ref sig .tc := ⟨.hbm, 879, rfl⟩
abbrev main_v756 : Ref sig .tc := ⟨.hbm, 880, rfl⟩
abbrev main_v757 : Ref sig .tc := ⟨.hbm, 881, rfl⟩
abbrev main_v758 : Ref sig .tc := ⟨.hbm, 882, rfl⟩
abbrev main_v759 : Ref sig .tc := ⟨.hbm, 883, rfl⟩
abbrev main_v760 : Ref sig .tc := ⟨.hbm, 884, rfl⟩
abbrev main_v761 : Ref sig .tc := ⟨.hbm, 885, rfl⟩
abbrev main_v762 : Ref sig .tc := ⟨.hbm, 886, rfl⟩
abbrev main_v763 : Ref sig .tc := ⟨.hbm, 887, rfl⟩
abbrev main_cst_86 : Ref sig .tc := ⟨.hbm, 888, rfl⟩
abbrev main_v764 : Ref sig .tc := ⟨.hbm, 889, rfl⟩
abbrev main_v765 : Ref sig .tc := ⟨.hbm, 890, rfl⟩
abbrev main_cst_87 : Ref sig .tc := ⟨.hbm, 891, rfl⟩
abbrev main_v766 : Ref sig .tc := ⟨.hbm, 892, rfl⟩
abbrev main_v767 : Ref sig .tc := ⟨.hbm, 893, rfl⟩
abbrev main_v768 : Ref sig .tc := ⟨.hbm, 894, rfl⟩
abbrev main_v769 : Ref sig .tc := ⟨.hbm, 895, rfl⟩
abbrev main_v770 : Ref sig .tc := ⟨.hbm, 896, rfl⟩
abbrev main_v771 : Ref sig .tc := ⟨.hbm, 897, rfl⟩
abbrev main_v772 : Ref sig .tc := ⟨.hbm, 898, rfl⟩
abbrev main_cst_88 : Ref sig .tc := ⟨.hbm, 899, rfl⟩
abbrev main_v773 : Ref sig .tc := ⟨.hbm, 900, rfl⟩
abbrev main_v774 : Ref sig .tc := ⟨.hbm, 901, rfl⟩
abbrev main_cst_89 : Ref sig .tc := ⟨.hbm, 902, rfl⟩
abbrev main_v775 : Ref sig .tc := ⟨.hbm, 903, rfl⟩
abbrev main_v776 : Ref sig .tc := ⟨.hbm, 904, rfl⟩
abbrev main_v777 : Ref sig .tc := ⟨.hbm, 905, rfl⟩
abbrev main_v778 : Ref sig .tc := ⟨.hbm, 906, rfl⟩
abbrev main_v779 : Ref sig .tc := ⟨.hbm, 907, rfl⟩
abbrev main_v780 : Ref sig .tc := ⟨.hbm, 908, rfl⟩
abbrev main_v781 : Ref sig .tc := ⟨.hbm, 909, rfl⟩
abbrev main_cst_90 : Ref sig .tc := ⟨.hbm, 910, rfl⟩
abbrev main_v782 : Ref sig .tc := ⟨.hbm, 911, rfl⟩
abbrev main_v783 : Ref sig .tc := ⟨.hbm, 912, rfl⟩
abbrev main_v784 : Ref sig .tc := ⟨.hbm, 913, rfl⟩
abbrev main_v785 : Ref sig .tc := ⟨.hbm, 914, rfl⟩
abbrev main_v786 : Ref sig .tc := ⟨.hbm, 915, rfl⟩
abbrev main_v787 : Ref sig .tc := ⟨.hbm, 916, rfl⟩
abbrev main_v788 : Ref sig .tc := ⟨.hbm, 917, rfl⟩
abbrev main_v789 : Ref sig .tc := ⟨.hbm, 918, rfl⟩
abbrev main_v790 : Ref sig .tc := ⟨.hbm, 919, rfl⟩
abbrev main_v791 : Ref sig .tc := ⟨.hbm, 920, rfl⟩
abbrev main_v792 : Ref sig .tc := ⟨.hbm, 921, rfl⟩
abbrev main_v793 : Ref sig .tc := ⟨.hbm, 922, rfl⟩
abbrev main_v794 : Ref sig .tc := ⟨.hbm, 923, rfl⟩
abbrev main_v795 : Ref sig .tc := ⟨.hbm, 924, rfl⟩
abbrev main_v796 : Ref sig .tc := ⟨.hbm, 925, rfl⟩
abbrev main_v797 : Ref sig .tc := ⟨.hbm, 926, rfl⟩
abbrev main_v798 : Ref sig .tc := ⟨.hbm, 927, rfl⟩
abbrev main_v799 : Ref sig .tc := ⟨.hbm, 928, rfl⟩
abbrev main_v800 : Ref sig .tc := ⟨.hbm, 929, rfl⟩
abbrev main_v801 : Ref sig .tc := ⟨.hbm, 930, rfl⟩
abbrev main_v802 : Ref sig .tc := ⟨.hbm, 931, rfl⟩
abbrev main_v803 : Ref sig .tc := ⟨.hbm, 932, rfl⟩
abbrev main_cst_91 : Ref sig .tc := ⟨.hbm, 933, rfl⟩
abbrev main_v804 : Ref sig .tc := ⟨.hbm, 934, rfl⟩
abbrev main_v805 : Ref sig .tc := ⟨.hbm, 935, rfl⟩
abbrev main_cst_92 : Ref sig .tc := ⟨.hbm, 936, rfl⟩
abbrev main_v806 : Ref sig .tc := ⟨.hbm, 937, rfl⟩
abbrev main_v807 : Ref sig .tc := ⟨.hbm, 938, rfl⟩
abbrev main_v808 : Ref sig .tc := ⟨.hbm, 939, rfl⟩
abbrev main_v809 : Ref sig .tc := ⟨.hbm, 940, rfl⟩
abbrev main_v810 : Ref sig .tc := ⟨.hbm, 941, rfl⟩
abbrev main_v811 : Ref sig .tc := ⟨.hbm, 942, rfl⟩
abbrev main_v812 : Ref sig .tc := ⟨.hbm, 943, rfl⟩
abbrev main_cst_93 : Ref sig .tc := ⟨.hbm, 944, rfl⟩
abbrev main_v813 : Ref sig .tc := ⟨.hbm, 945, rfl⟩
abbrev main_v814 : Ref sig .tc := ⟨.hbm, 946, rfl⟩
abbrev main_cst_94 : Ref sig .tc := ⟨.hbm, 947, rfl⟩
abbrev main_v815 : Ref sig .tc := ⟨.hbm, 948, rfl⟩
abbrev main_v816 : Ref sig .tc := ⟨.hbm, 949, rfl⟩
abbrev main_v817 : Ref sig .tc := ⟨.hbm, 950, rfl⟩
abbrev main_v818 : Ref sig .tc := ⟨.hbm, 951, rfl⟩
abbrev main_v819 : Ref sig .tc := ⟨.hbm, 952, rfl⟩
abbrev main_v820 : Ref sig .tc := ⟨.hbm, 953, rfl⟩
abbrev main_v821 : Ref sig .tc := ⟨.hbm, 954, rfl⟩
abbrev main_cst_95 : Ref sig .tc := ⟨.hbm, 955, rfl⟩
abbrev main_v822 : Ref sig .tc := ⟨.hbm, 956, rfl⟩
abbrev main_v823 : Ref sig .tc := ⟨.hbm, 957, rfl⟩
abbrev main_v824 : Ref sig .tc := ⟨.hbm, 958, rfl⟩
abbrev main_v825 : Ref sig .tc := ⟨.hbm, 959, rfl⟩
abbrev main_v826 : Ref sig .tc := ⟨.hbm, 960, rfl⟩
abbrev main_v827 : Ref sig .tc := ⟨.hbm, 961, rfl⟩
abbrev main_v828 : Ref sig .tc := ⟨.hbm, 962, rfl⟩
abbrev main_v829 : Ref sig .tc := ⟨.hbm, 963, rfl⟩
abbrev main_v830 : Ref sig .tc := ⟨.hbm, 964, rfl⟩
abbrev main_v831 : Ref sig .tc := ⟨.hbm, 965, rfl⟩
abbrev main_v832 : Ref sig .tc := ⟨.hbm, 966, rfl⟩
abbrev main_v833 : Ref sig .tc := ⟨.hbm, 967, rfl⟩
abbrev main_v834 : Ref sig .tc := ⟨.hbm, 968, rfl⟩
abbrev main_v835 : Ref sig .tc := ⟨.hbm, 969, rfl⟩
abbrev main_v836 : Ref sig .tc := ⟨.hbm, 970, rfl⟩
abbrev main_v837 : Ref sig .tc := ⟨.hbm, 971, rfl⟩
abbrev main_v838 : Ref sig .tc := ⟨.hbm, 972, rfl⟩
abbrev main_v839 : Ref sig .tc := ⟨.hbm, 973, rfl⟩
abbrev main_v840 : Ref sig .tc := ⟨.hbm, 974, rfl⟩
abbrev main_v841 : Ref sig .tc := ⟨.hbm, 975, rfl⟩
abbrev main_v842 : Ref sig .tc := ⟨.hbm, 976, rfl⟩
abbrev main_v843 : Ref sig .tc := ⟨.hbm, 977, rfl⟩
abbrev main_cst_96 : Ref sig .tc := ⟨.hbm, 978, rfl⟩
abbrev main_v844 : Ref sig .tc := ⟨.hbm, 979, rfl⟩
abbrev main_v845 : Ref sig .tc := ⟨.hbm, 980, rfl⟩
abbrev main_cst_97 : Ref sig .tc := ⟨.hbm, 981, rfl⟩
abbrev main_v846 : Ref sig .tc := ⟨.hbm, 982, rfl⟩
abbrev main_v847 : Ref sig .tc := ⟨.hbm, 983, rfl⟩
abbrev main_v848 : Ref sig .tc := ⟨.hbm, 984, rfl⟩
abbrev main_v849 : Ref sig .tc := ⟨.hbm, 985, rfl⟩
abbrev main_v850 : Ref sig .tc := ⟨.hbm, 986, rfl⟩
abbrev main_v851 : Ref sig .tc := ⟨.hbm, 987, rfl⟩
abbrev main_v852 : Ref sig .tc := ⟨.hbm, 988, rfl⟩
abbrev main_cst_98 : Ref sig .tc := ⟨.hbm, 989, rfl⟩
abbrev main_v853 : Ref sig .tc := ⟨.hbm, 990, rfl⟩
abbrev main_v854 : Ref sig .tc := ⟨.hbm, 991, rfl⟩
abbrev main_cst_99 : Ref sig .tc := ⟨.hbm, 992, rfl⟩
abbrev main_v855 : Ref sig .tc := ⟨.hbm, 993, rfl⟩
abbrev main_v856 : Ref sig .tc := ⟨.hbm, 994, rfl⟩
abbrev main_v857 : Ref sig .tc := ⟨.hbm, 995, rfl⟩
abbrev main_v858 : Ref sig .tc := ⟨.hbm, 996, rfl⟩
abbrev main_v859 : Ref sig .tc := ⟨.hbm, 997, rfl⟩
abbrev main_v860 : Ref sig .tc := ⟨.hbm, 998, rfl⟩
abbrev main_v861 : Ref sig .tc := ⟨.hbm, 999, rfl⟩
abbrev main_cst_100 : Ref sig .tc := ⟨.hbm, 1000, rfl⟩
abbrev main_v862 : Ref sig .tc := ⟨.hbm, 1001, rfl⟩
abbrev main_v863 : Ref sig .tc := ⟨.hbm, 1002, rfl⟩
abbrev main_v864 : Ref sig .tc := ⟨.hbm, 1003, rfl⟩
abbrev main_v865 : Ref sig .tc := ⟨.hbm, 1004, rfl⟩
abbrev main_v866 : Ref sig .tc := ⟨.hbm, 1005, rfl⟩
abbrev main_v867 : Ref sig .tc := ⟨.hbm, 1006, rfl⟩
abbrev main_v868 : Ref sig .tc := ⟨.hbm, 1007, rfl⟩
abbrev main_v869 : Ref sig .tc := ⟨.hbm, 1008, rfl⟩
abbrev main_v870 : Ref sig .tc := ⟨.hbm, 1009, rfl⟩
abbrev main_v871 : Ref sig .tc := ⟨.hbm, 1010, rfl⟩
abbrev main_v872 : Ref sig .tc := ⟨.hbm, 1011, rfl⟩
abbrev main_v873 : Ref sig .tc := ⟨.hbm, 1012, rfl⟩
abbrev main_v874 : Ref sig .tc := ⟨.hbm, 1013, rfl⟩
abbrev main_v875 : Ref sig .tc := ⟨.hbm, 1014, rfl⟩
abbrev main_v876 : Ref sig .tc := ⟨.hbm, 1015, rfl⟩
abbrev main_v877 : Ref sig .tc := ⟨.hbm, 1016, rfl⟩
abbrev main_v878 : Ref sig .tc := ⟨.hbm, 1017, rfl⟩
abbrev main_v879 : Ref sig .tc := ⟨.hbm, 1018, rfl⟩
abbrev main_v880 : Ref sig .tc := ⟨.hbm, 1019, rfl⟩
abbrev main_v881 : Ref sig .tc := ⟨.hbm, 1020, rfl⟩
abbrev main_v882 : Ref sig .tc := ⟨.hbm, 1021, rfl⟩
abbrev main_v883 : Ref sig .tc := ⟨.hbm, 1022, rfl⟩
abbrev main_cst_101 : Ref sig .tc := ⟨.hbm, 1023, rfl⟩
abbrev main_v884 : Ref sig .tc := ⟨.hbm, 1024, rfl⟩
abbrev main_v885 : Ref sig .tc := ⟨.hbm, 1025, rfl⟩
abbrev main_cst_102 : Ref sig .tc := ⟨.hbm, 1026, rfl⟩
abbrev main_v886 : Ref sig .tc := ⟨.hbm, 1027, rfl⟩
abbrev main_v887 : Ref sig .tc := ⟨.hbm, 1028, rfl⟩
abbrev main_v888 : Ref sig .tc := ⟨.hbm, 1029, rfl⟩
abbrev main_v889 : Ref sig .tc := ⟨.hbm, 1030, rfl⟩
abbrev main_v890 : Ref sig .tc := ⟨.hbm, 1031, rfl⟩
abbrev main_v891 : Ref sig .tc := ⟨.hbm, 1032, rfl⟩
abbrev main_v892 : Ref sig .tc := ⟨.hbm, 1033, rfl⟩
abbrev main_cst_103 : Ref sig .tc := ⟨.hbm, 1034, rfl⟩
abbrev main_v893 : Ref sig .tc := ⟨.hbm, 1035, rfl⟩
abbrev main_v894 : Ref sig .tc := ⟨.hbm, 1036, rfl⟩
abbrev main_cst_104 : Ref sig .tc := ⟨.hbm, 1037, rfl⟩
abbrev main_v895 : Ref sig .tc := ⟨.hbm, 1038, rfl⟩
abbrev main_v896 : Ref sig .tc := ⟨.hbm, 1039, rfl⟩
abbrev main_v897 : Ref sig .tc := ⟨.hbm, 1040, rfl⟩
abbrev main_v898 : Ref sig .tc := ⟨.hbm, 1041, rfl⟩
abbrev main_v899 : Ref sig .tc := ⟨.hbm, 1042, rfl⟩
abbrev main_v900 : Ref sig .tc := ⟨.hbm, 1043, rfl⟩
abbrev main_v901 : Ref sig .tc := ⟨.hbm, 1044, rfl⟩
abbrev main_cst_105 : Ref sig .tc := ⟨.hbm, 1045, rfl⟩
abbrev main_v902 : Ref sig .tc := ⟨.hbm, 1046, rfl⟩
abbrev main_v903 : Ref sig .tc := ⟨.hbm, 1047, rfl⟩
abbrev main_v904 : Ref sig .tc := ⟨.hbm, 1048, rfl⟩
abbrev main_v905 : Ref sig .tc := ⟨.hbm, 1049, rfl⟩
abbrev main_v906 : Ref sig .tc := ⟨.hbm, 1050, rfl⟩
abbrev main_v907 : Ref sig .tc := ⟨.hbm, 1051, rfl⟩
abbrev main_v908 : Ref sig .tc := ⟨.hbm, 1052, rfl⟩
abbrev main_v909 : Ref sig .tc := ⟨.hbm, 1053, rfl⟩
abbrev main_v910 : Ref sig .tc := ⟨.hbm, 1054, rfl⟩
abbrev main_v911 : Ref sig .tc := ⟨.hbm, 1055, rfl⟩
abbrev main_v912 : Ref sig .tc := ⟨.hbm, 1056, rfl⟩
abbrev main_v913 : Ref sig .tc := ⟨.hbm, 1057, rfl⟩
abbrev main_v914 : Ref sig .tc := ⟨.hbm, 1058, rfl⟩
abbrev main_v915 : Ref sig .tc := ⟨.hbm, 1059, rfl⟩
abbrev main_v916 : Ref sig .tc := ⟨.hbm, 1060, rfl⟩
abbrev main_v917 : Ref sig .tc := ⟨.hbm, 1061, rfl⟩
abbrev main_v918 : Ref sig .tc := ⟨.hbm, 1062, rfl⟩
abbrev main_v919 : Ref sig .tc := ⟨.hbm, 1063, rfl⟩
abbrev main_v920 : Ref sig .tc := ⟨.hbm, 1064, rfl⟩
abbrev main_v921 : Ref sig .tc := ⟨.hbm, 1065, rfl⟩
abbrev main_v922 : Ref sig .tc := ⟨.hbm, 1066, rfl⟩
abbrev main_v923 : Ref sig .tc := ⟨.hbm, 1067, rfl⟩
abbrev main_cst_106 : Ref sig .tc := ⟨.hbm, 1068, rfl⟩
abbrev main_v924 : Ref sig .tc := ⟨.hbm, 1069, rfl⟩
abbrev main_v925 : Ref sig .tc := ⟨.hbm, 1070, rfl⟩
abbrev main_cst_107 : Ref sig .tc := ⟨.hbm, 1071, rfl⟩
abbrev main_v926 : Ref sig .tc := ⟨.hbm, 1072, rfl⟩
abbrev main_v927 : Ref sig .tc := ⟨.hbm, 1073, rfl⟩
abbrev main_v928 : Ref sig .tc := ⟨.hbm, 1074, rfl⟩
abbrev main_v929 : Ref sig .tc := ⟨.hbm, 1075, rfl⟩
abbrev main_v930 : Ref sig .tc := ⟨.hbm, 1076, rfl⟩
abbrev main_v931 : Ref sig .tc := ⟨.hbm, 1077, rfl⟩
abbrev main_v932 : Ref sig .tc := ⟨.hbm, 1078, rfl⟩
abbrev main_cst_108 : Ref sig .tc := ⟨.hbm, 1079, rfl⟩
abbrev main_v933 : Ref sig .tc := ⟨.hbm, 1080, rfl⟩
abbrev main_v934 : Ref sig .tc := ⟨.hbm, 1081, rfl⟩
abbrev main_cst_109 : Ref sig .tc := ⟨.hbm, 1082, rfl⟩
abbrev main_v935 : Ref sig .tc := ⟨.hbm, 1083, rfl⟩
abbrev main_v936 : Ref sig .tc := ⟨.hbm, 1084, rfl⟩
abbrev main_v937 : Ref sig .tc := ⟨.hbm, 1085, rfl⟩
abbrev main_v938 : Ref sig .tc := ⟨.hbm, 1086, rfl⟩
abbrev main_v939 : Ref sig .tc := ⟨.hbm, 1087, rfl⟩
abbrev main_v940 : Ref sig .tc := ⟨.hbm, 1088, rfl⟩
abbrev main_v941 : Ref sig .tc := ⟨.hbm, 1089, rfl⟩
abbrev main_cst_110 : Ref sig .tc := ⟨.hbm, 1090, rfl⟩
abbrev main_v942 : Ref sig .tc := ⟨.hbm, 1091, rfl⟩
abbrev main_v943 : Ref sig .tc := ⟨.hbm, 1092, rfl⟩
abbrev main_v944 : Ref sig .tc := ⟨.hbm, 1093, rfl⟩
abbrev main_v945 : Ref sig .tc := ⟨.hbm, 1094, rfl⟩
abbrev main_v946 : Ref sig .tc := ⟨.hbm, 1095, rfl⟩
abbrev main_v947 : Ref sig .tc := ⟨.hbm, 1096, rfl⟩
abbrev main_v948 : Ref sig .tc := ⟨.hbm, 1097, rfl⟩
abbrev main_v949 : Ref sig .tc := ⟨.hbm, 1098, rfl⟩
abbrev main_v950 : Ref sig .tc := ⟨.hbm, 1099, rfl⟩
abbrev main_v951 : Ref sig .tc := ⟨.hbm, 1100, rfl⟩
abbrev main_v952 : Ref sig .tc := ⟨.hbm, 1101, rfl⟩
abbrev main_v953 : Ref sig .tc := ⟨.hbm, 1102, rfl⟩
abbrev main_v954 : Ref sig .tc := ⟨.hbm, 1103, rfl⟩
abbrev main_v955 : Ref sig .tc := ⟨.hbm, 1104, rfl⟩
abbrev main_v956 : Ref sig .tc := ⟨.hbm, 1105, rfl⟩
abbrev main_v957 : Ref sig .tc := ⟨.hbm, 1106, rfl⟩
abbrev main_v958 : Ref sig .tc := ⟨.hbm, 1107, rfl⟩
abbrev main_v959 : Ref sig .tc := ⟨.hbm, 1108, rfl⟩
abbrev main_v960 : Ref sig .tc := ⟨.hbm, 1109, rfl⟩
abbrev main_v961 : Ref sig .tc := ⟨.hbm, 1110, rfl⟩
abbrev main_v962 : Ref sig .tc := ⟨.hbm, 1111, rfl⟩
abbrev main_v963 : Ref sig .tc := ⟨.hbm, 1112, rfl⟩
abbrev main_cst_111 : Ref sig .tc := ⟨.hbm, 1113, rfl⟩
abbrev main_v964 : Ref sig .tc := ⟨.hbm, 1114, rfl⟩
abbrev main_v965 : Ref sig .tc := ⟨.hbm, 1115, rfl⟩
abbrev main_cst_112 : Ref sig .tc := ⟨.hbm, 1116, rfl⟩
abbrev main_v966 : Ref sig .tc := ⟨.hbm, 1117, rfl⟩
abbrev main_v967 : Ref sig .tc := ⟨.hbm, 1118, rfl⟩
abbrev main_v968 : Ref sig .tc := ⟨.hbm, 1119, rfl⟩
abbrev main_v969 : Ref sig .tc := ⟨.hbm, 1120, rfl⟩
abbrev main_v970 : Ref sig .tc := ⟨.hbm, 1121, rfl⟩
abbrev main_v971 : Ref sig .tc := ⟨.hbm, 1122, rfl⟩
abbrev main_v972 : Ref sig .tc := ⟨.hbm, 1123, rfl⟩
abbrev main_cst_113 : Ref sig .tc := ⟨.hbm, 1124, rfl⟩
abbrev main_v973 : Ref sig .tc := ⟨.hbm, 1125, rfl⟩
abbrev main_v974 : Ref sig .tc := ⟨.hbm, 1126, rfl⟩
abbrev main_cst_114 : Ref sig .tc := ⟨.hbm, 1127, rfl⟩
abbrev main_v975 : Ref sig .tc := ⟨.hbm, 1128, rfl⟩
abbrev main_v976 : Ref sig .tc := ⟨.hbm, 1129, rfl⟩
abbrev main_v977 : Ref sig .tc := ⟨.hbm, 1130, rfl⟩
abbrev main_v978 : Ref sig .tc := ⟨.hbm, 1131, rfl⟩
abbrev main_v979 : Ref sig .tc := ⟨.hbm, 1132, rfl⟩
abbrev main_v980 : Ref sig .tc := ⟨.hbm, 1133, rfl⟩
abbrev main_v981 : Ref sig .tc := ⟨.hbm, 1134, rfl⟩
abbrev main_cst_115 : Ref sig .tc := ⟨.hbm, 1135, rfl⟩
abbrev main_v982 : Ref sig .tc := ⟨.hbm, 1136, rfl⟩
abbrev main_v983 : Ref sig .tc := ⟨.hbm, 1137, rfl⟩
abbrev main_v984 : Ref sig .tc := ⟨.hbm, 1138, rfl⟩
abbrev main_v985 : Ref sig .tc := ⟨.hbm, 1139, rfl⟩
abbrev main_v986 : Ref sig .tc := ⟨.hbm, 1140, rfl⟩
abbrev main_v987 : Ref sig .tc := ⟨.hbm, 1141, rfl⟩
abbrev main_v988 : Ref sig .tc := ⟨.hbm, 1142, rfl⟩
abbrev main_v989 : Ref sig .tc := ⟨.hbm, 1143, rfl⟩
abbrev main_v990 : Ref sig .tc := ⟨.hbm, 1144, rfl⟩
abbrev main_v991 : Ref sig .tc := ⟨.hbm, 1145, rfl⟩
abbrev main_v992 : Ref sig .tc := ⟨.hbm, 1146, rfl⟩
abbrev main_v993 : Ref sig .tc := ⟨.hbm, 1147, rfl⟩
abbrev main_v994 : Ref sig .tc := ⟨.hbm, 1148, rfl⟩
abbrev main_v995 : Ref sig .tc := ⟨.hbm, 1149, rfl⟩
abbrev main_v996 : Ref sig .tc := ⟨.hbm, 1150, rfl⟩
abbrev main_v997 : Ref sig .tc := ⟨.hbm, 1151, rfl⟩
abbrev main_v998 : Ref sig .tc := ⟨.hbm, 1152, rfl⟩
abbrev main_v999 : Ref sig .tc := ⟨.hbm, 1153, rfl⟩
abbrev main_v1000 : Ref sig .tc := ⟨.hbm, 1154, rfl⟩
abbrev main_v1001 : Ref sig .tc := ⟨.hbm, 1155, rfl⟩
abbrev main_v1002 : Ref sig .tc := ⟨.hbm, 1156, rfl⟩
abbrev main_v1003 : Ref sig .tc := ⟨.hbm, 1157, rfl⟩
abbrev main_cst_116 : Ref sig .tc := ⟨.hbm, 1158, rfl⟩
abbrev main_v1004 : Ref sig .tc := ⟨.hbm, 1159, rfl⟩
abbrev main_v1005 : Ref sig .tc := ⟨.hbm, 1160, rfl⟩
abbrev main_cst_117 : Ref sig .tc := ⟨.hbm, 1161, rfl⟩
abbrev main_v1006 : Ref sig .tc := ⟨.hbm, 1162, rfl⟩
abbrev main_v1007 : Ref sig .tc := ⟨.hbm, 1163, rfl⟩
abbrev main_v1008 : Ref sig .tc := ⟨.hbm, 1164, rfl⟩
abbrev main_v1009 : Ref sig .tc := ⟨.hbm, 1165, rfl⟩
abbrev main_v1010 : Ref sig .tc := ⟨.hbm, 1166, rfl⟩
abbrev main_v1011 : Ref sig .tc := ⟨.hbm, 1167, rfl⟩
abbrev main_v1012 : Ref sig .tc := ⟨.hbm, 1168, rfl⟩
abbrev main_cst_118 : Ref sig .tc := ⟨.hbm, 1169, rfl⟩
abbrev main_v1013 : Ref sig .tc := ⟨.hbm, 1170, rfl⟩
abbrev main_v1014 : Ref sig .tc := ⟨.hbm, 1171, rfl⟩
abbrev main_cst_119 : Ref sig .tc := ⟨.hbm, 1172, rfl⟩
abbrev main_v1015 : Ref sig .tc := ⟨.hbm, 1173, rfl⟩
abbrev main_v1016 : Ref sig .tc := ⟨.hbm, 1174, rfl⟩
abbrev main_v1017 : Ref sig .tc := ⟨.hbm, 1175, rfl⟩
abbrev main_v1018 : Ref sig .tc := ⟨.hbm, 1176, rfl⟩
abbrev main_v1019 : Ref sig .tc := ⟨.hbm, 1177, rfl⟩
abbrev main_v1020 : Ref sig .tc := ⟨.hbm, 1178, rfl⟩
abbrev main_v1021 : Ref sig .tc := ⟨.hbm, 1179, rfl⟩
abbrev main_cst_120 : Ref sig .tc := ⟨.hbm, 1180, rfl⟩
abbrev main_v1022 : Ref sig .tc := ⟨.hbm, 1181, rfl⟩
abbrev main_v1023 : Ref sig .tc := ⟨.hbm, 1182, rfl⟩
abbrev main_v1024 : Ref sig .tc := ⟨.hbm, 1183, rfl⟩
abbrev main_v1025 : Ref sig .tc := ⟨.hbm, 1184, rfl⟩
abbrev main_v1026 : Ref sig .tc := ⟨.hbm, 1185, rfl⟩
abbrev main_v1027 : Ref sig .tc := ⟨.hbm, 1186, rfl⟩
abbrev main_v1028 : Ref sig .tc := ⟨.hbm, 1187, rfl⟩
abbrev main_v1029 : Ref sig .tc := ⟨.hbm, 1188, rfl⟩
abbrev main_v1030 : Ref sig .tc := ⟨.hbm, 1189, rfl⟩
abbrev main_v1031 : Ref sig .tc := ⟨.hbm, 1190, rfl⟩
abbrev main_v1032 : Ref sig .tc := ⟨.hbm, 1191, rfl⟩
abbrev main_v1033 : Ref sig .tc := ⟨.hbm, 1192, rfl⟩
abbrev main_v1034 : Ref sig .tc := ⟨.hbm, 1193, rfl⟩
abbrev main_v1035 : Ref sig .tc := ⟨.hbm, 1194, rfl⟩
abbrev main_v1036 : Ref sig .tc := ⟨.hbm, 1195, rfl⟩
abbrev main_v1037 : Ref sig .tc := ⟨.hbm, 1196, rfl⟩
abbrev main_v1038 : Ref sig .tc := ⟨.hbm, 1197, rfl⟩
abbrev main_v1039 : Ref sig .tc := ⟨.hbm, 1198, rfl⟩
abbrev main_v1040 : Ref sig .tc := ⟨.hbm, 1199, rfl⟩
abbrev main_v1041 : Ref sig .tc := ⟨.hbm, 1200, rfl⟩
abbrev main_v1042 : Ref sig .tc := ⟨.hbm, 1201, rfl⟩
abbrev main_v1043 : Ref sig .tc := ⟨.hbm, 1202, rfl⟩
abbrev main_cst_121 : Ref sig .tc := ⟨.hbm, 1203, rfl⟩
abbrev main_v1044 : Ref sig .tc := ⟨.hbm, 1204, rfl⟩
abbrev main_v1045 : Ref sig .tc := ⟨.hbm, 1205, rfl⟩
abbrev main_cst_122 : Ref sig .tc := ⟨.hbm, 1206, rfl⟩
abbrev main_v1046 : Ref sig .tc := ⟨.hbm, 1207, rfl⟩
abbrev main_v1047 : Ref sig .tc := ⟨.hbm, 1208, rfl⟩
abbrev main_v1048 : Ref sig .tc := ⟨.hbm, 1209, rfl⟩
abbrev main_v1049 : Ref sig .tc := ⟨.hbm, 1210, rfl⟩
abbrev main_v1050 : Ref sig .tc := ⟨.hbm, 1211, rfl⟩
abbrev main_v1051 : Ref sig .tc := ⟨.hbm, 1212, rfl⟩
abbrev main_v1052 : Ref sig .tc := ⟨.hbm, 1213, rfl⟩
abbrev main_cst_123 : Ref sig .tc := ⟨.hbm, 1214, rfl⟩
abbrev main_v1053 : Ref sig .tc := ⟨.hbm, 1215, rfl⟩
abbrev main_v1054 : Ref sig .tc := ⟨.hbm, 1216, rfl⟩
abbrev main_cst_124 : Ref sig .tc := ⟨.hbm, 1217, rfl⟩
abbrev main_v1055 : Ref sig .tc := ⟨.hbm, 1218, rfl⟩
abbrev main_v1056 : Ref sig .tc := ⟨.hbm, 1219, rfl⟩
abbrev main_v1057 : Ref sig .tc := ⟨.hbm, 1220, rfl⟩
abbrev main_v1058 : Ref sig .tc := ⟨.hbm, 1221, rfl⟩
abbrev main_v1059 : Ref sig .tc := ⟨.hbm, 1222, rfl⟩
abbrev main_v1060 : Ref sig .tc := ⟨.hbm, 1223, rfl⟩
abbrev main_v1061 : Ref sig .tc := ⟨.hbm, 1224, rfl⟩
abbrev main_cst_125 : Ref sig .tc := ⟨.hbm, 1225, rfl⟩
abbrev main_v1062 : Ref sig .tc := ⟨.hbm, 1226, rfl⟩
abbrev main_v1063 : Ref sig .tc := ⟨.hbm, 1227, rfl⟩
abbrev main_v1064 : Ref sig .tc := ⟨.hbm, 1228, rfl⟩
abbrev main_v1065 : Ref sig .tc := ⟨.hbm, 1229, rfl⟩
abbrev main_v1066 : Ref sig .tc := ⟨.hbm, 1230, rfl⟩
abbrev main_v1067 : Ref sig .tc := ⟨.hbm, 1231, rfl⟩
abbrev main_v1068 : Ref sig .tc := ⟨.hbm, 1232, rfl⟩
abbrev main_v1069 : Ref sig .tc := ⟨.hbm, 1233, rfl⟩
abbrev main_v1070 : Ref sig .tc := ⟨.hbm, 1234, rfl⟩
abbrev main_v1071 : Ref sig .tc := ⟨.hbm, 1235, rfl⟩
abbrev main_v1072 : Ref sig .tc := ⟨.hbm, 1236, rfl⟩
abbrev main_v1073 : Ref sig .tc := ⟨.hbm, 1237, rfl⟩
abbrev main_v1074 : Ref sig .tc := ⟨.hbm, 1238, rfl⟩
abbrev main_v1075 : Ref sig .tc := ⟨.hbm, 1239, rfl⟩
abbrev main_v1076 : Ref sig .tc := ⟨.hbm, 1240, rfl⟩
abbrev main_v1077 : Ref sig .tc := ⟨.hbm, 1241, rfl⟩
abbrev main_v1078 : Ref sig .tc := ⟨.hbm, 1242, rfl⟩
abbrev main_v1079 : Ref sig .tc := ⟨.hbm, 1243, rfl⟩
abbrev main_v1080 : Ref sig .tc := ⟨.hbm, 1244, rfl⟩
abbrev main_v1081 : Ref sig .tc := ⟨.hbm, 1245, rfl⟩
abbrev main_v1082 : Ref sig .tc := ⟨.hbm, 1246, rfl⟩
abbrev main_v1083 : Ref sig .tc := ⟨.hbm, 1247, rfl⟩
abbrev main_cst_126 : Ref sig .tc := ⟨.hbm, 1248, rfl⟩
abbrev main_v1084 : Ref sig .tc := ⟨.hbm, 1249, rfl⟩
abbrev main_v1085 : Ref sig .tc := ⟨.hbm, 1250, rfl⟩
abbrev main_cst_127 : Ref sig .tc := ⟨.hbm, 1251, rfl⟩
abbrev main_v1086 : Ref sig .tc := ⟨.hbm, 1252, rfl⟩
abbrev main_v1087 : Ref sig .tc := ⟨.hbm, 1253, rfl⟩
abbrev main_v1088 : Ref sig .tc := ⟨.hbm, 1254, rfl⟩
abbrev main_v1089 : Ref sig .tc := ⟨.hbm, 1255, rfl⟩
abbrev main_v1090 : Ref sig .tc := ⟨.hbm, 1256, rfl⟩
abbrev main_v1091 : Ref sig .tc := ⟨.hbm, 1257, rfl⟩
abbrev main_v1092 : Ref sig .tc := ⟨.hbm, 1258, rfl⟩
abbrev main_cst_128 : Ref sig .tc := ⟨.hbm, 1259, rfl⟩
abbrev main_v1093 : Ref sig .tc := ⟨.hbm, 1260, rfl⟩
abbrev main_v1094 : Ref sig .tc := ⟨.hbm, 1261, rfl⟩
abbrev main_cst_129 : Ref sig .tc := ⟨.hbm, 1262, rfl⟩
abbrev main_v1095 : Ref sig .tc := ⟨.hbm, 1263, rfl⟩
abbrev main_v1096 : Ref sig .tc := ⟨.hbm, 1264, rfl⟩
abbrev main_v1097 : Ref sig .tc := ⟨.hbm, 1265, rfl⟩
abbrev main_v1098 : Ref sig .tc := ⟨.hbm, 1266, rfl⟩
abbrev main_v1099 : Ref sig .tc := ⟨.hbm, 1267, rfl⟩
abbrev main_v1100 : Ref sig .tc := ⟨.hbm, 1268, rfl⟩
abbrev main_v1101 : Ref sig .tc := ⟨.hbm, 1269, rfl⟩
abbrev main_cst_130 : Ref sig .tc := ⟨.hbm, 1270, rfl⟩
abbrev main_v1102 : Ref sig .tc := ⟨.hbm, 1271, rfl⟩
abbrev main_v1103 : Ref sig .tc := ⟨.hbm, 1272, rfl⟩
abbrev main_v1104 : Ref sig .tc := ⟨.hbm, 1273, rfl⟩
abbrev main_v1105 : Ref sig .tc := ⟨.hbm, 1274, rfl⟩
abbrev main_v1106 : Ref sig .tc := ⟨.hbm, 1275, rfl⟩
abbrev main_v1107 : Ref sig .tc := ⟨.hbm, 1276, rfl⟩
abbrev main_v1108 : Ref sig .tc := ⟨.hbm, 1277, rfl⟩
abbrev main_v1109 : Ref sig .tc := ⟨.hbm, 1278, rfl⟩
abbrev main_v1110 : Ref sig .tc := ⟨.hbm, 1279, rfl⟩
abbrev main_v1111 : Ref sig .tc := ⟨.hbm, 1280, rfl⟩
abbrev main_v1112 : Ref sig .tc := ⟨.hbm, 1281, rfl⟩
abbrev main_v1113 : Ref sig .tc := ⟨.hbm, 1282, rfl⟩
abbrev main_v1114 : Ref sig .tc := ⟨.hbm, 1283, rfl⟩
abbrev main_v1115 : Ref sig .tc := ⟨.hbm, 1284, rfl⟩
abbrev main_v1116 : Ref sig .tc := ⟨.hbm, 1285, rfl⟩
abbrev main_v1117 : Ref sig .tc := ⟨.hbm, 1286, rfl⟩
abbrev main_v1118 : Ref sig .tc := ⟨.hbm, 1287, rfl⟩
abbrev main_v1119 : Ref sig .tc := ⟨.hbm, 1288, rfl⟩
abbrev main_v1120 : Ref sig .tc := ⟨.hbm, 1289, rfl⟩
abbrev main_v1121 : Ref sig .tc := ⟨.hbm, 1290, rfl⟩
abbrev main_v1122 : Ref sig .tc := ⟨.hbm, 1291, rfl⟩
abbrev main_v1123 : Ref sig .tc := ⟨.hbm, 1292, rfl⟩
abbrev main_cst_131 : Ref sig .tc := ⟨.hbm, 1293, rfl⟩
abbrev main_v1124 : Ref sig .tc := ⟨.hbm, 1294, rfl⟩
abbrev main_v1125 : Ref sig .tc := ⟨.hbm, 1295, rfl⟩
abbrev main_cst_132 : Ref sig .tc := ⟨.hbm, 1296, rfl⟩
abbrev main_v1126 : Ref sig .tc := ⟨.hbm, 1297, rfl⟩
abbrev main_v1127 : Ref sig .tc := ⟨.hbm, 1298, rfl⟩
abbrev main_v1128 : Ref sig .tc := ⟨.hbm, 1299, rfl⟩
abbrev main_v1129 : Ref sig .tc := ⟨.hbm, 1300, rfl⟩
abbrev main_v1130 : Ref sig .tc := ⟨.hbm, 1301, rfl⟩
abbrev main_v1131 : Ref sig .tc := ⟨.hbm, 1302, rfl⟩
abbrev main_v1132 : Ref sig .tc := ⟨.hbm, 1303, rfl⟩
abbrev main_cst_133 : Ref sig .tc := ⟨.hbm, 1304, rfl⟩
abbrev main_v1133 : Ref sig .tc := ⟨.hbm, 1305, rfl⟩
abbrev main_v1134 : Ref sig .tc := ⟨.hbm, 1306, rfl⟩
abbrev main_cst_134 : Ref sig .tc := ⟨.hbm, 1307, rfl⟩
abbrev main_v1135 : Ref sig .tc := ⟨.hbm, 1308, rfl⟩
abbrev main_v1136 : Ref sig .tc := ⟨.hbm, 1309, rfl⟩
abbrev main_v1137 : Ref sig .tc := ⟨.hbm, 1310, rfl⟩
abbrev main_v1138 : Ref sig .tc := ⟨.hbm, 1311, rfl⟩
abbrev main_v1139 : Ref sig .tc := ⟨.hbm, 1312, rfl⟩
abbrev main_v1140 : Ref sig .tc := ⟨.hbm, 1313, rfl⟩
abbrev main_v1141 : Ref sig .tc := ⟨.hbm, 1314, rfl⟩
abbrev main_cst_135 : Ref sig .tc := ⟨.hbm, 1315, rfl⟩
abbrev main_v1142 : Ref sig .tc := ⟨.hbm, 1316, rfl⟩
abbrev main_v1143 : Ref sig .tc := ⟨.hbm, 1317, rfl⟩
abbrev main_v1144 : Ref sig .tc := ⟨.hbm, 1318, rfl⟩
abbrev main_v1145 : Ref sig .tc := ⟨.hbm, 1319, rfl⟩
abbrev main_v1146 : Ref sig .tc := ⟨.hbm, 1320, rfl⟩
abbrev main_v1147 : Ref sig .tc := ⟨.hbm, 1321, rfl⟩
abbrev main_v1148 : Ref sig .tc := ⟨.hbm, 1322, rfl⟩
abbrev main_v1149 : Ref sig .tc := ⟨.hbm, 1323, rfl⟩
abbrev main_v1150 : Ref sig .tc := ⟨.hbm, 1324, rfl⟩
abbrev main_v1151 : Ref sig .tc := ⟨.hbm, 1325, rfl⟩
abbrev main_v1152 : Ref sig .tc := ⟨.hbm, 1326, rfl⟩
abbrev main_v1153 : Ref sig .tc := ⟨.hbm, 1327, rfl⟩
abbrev main_v1154 : Ref sig .tc := ⟨.hbm, 1328, rfl⟩
abbrev main_v1155 : Ref sig .tc := ⟨.hbm, 1329, rfl⟩
abbrev main_v1156 : Ref sig .tc := ⟨.hbm, 1330, rfl⟩
abbrev main_v1157 : Ref sig .tc := ⟨.hbm, 1331, rfl⟩
abbrev main_v1158 : Ref sig .tc := ⟨.hbm, 1332, rfl⟩
abbrev main_v1159 : Ref sig .tc := ⟨.hbm, 1333, rfl⟩
abbrev main_v1160 : Ref sig .tc := ⟨.hbm, 1334, rfl⟩
abbrev main_v1161 : Ref sig .tc := ⟨.hbm, 1335, rfl⟩
abbrev main_v1162 : Ref sig .tc := ⟨.hbm, 1336, rfl⟩
abbrev main_v1163 : Ref sig .tc := ⟨.hbm, 1337, rfl⟩
abbrev main_cst_136 : Ref sig .tc := ⟨.hbm, 1338, rfl⟩
abbrev main_v1164 : Ref sig .tc := ⟨.hbm, 1339, rfl⟩
abbrev main_v1165 : Ref sig .tc := ⟨.hbm, 1340, rfl⟩
abbrev main_cst_137 : Ref sig .tc := ⟨.hbm, 1341, rfl⟩
abbrev main_v1166 : Ref sig .tc := ⟨.hbm, 1342, rfl⟩
abbrev main_v1167 : Ref sig .tc := ⟨.hbm, 1343, rfl⟩
abbrev main_v1168 : Ref sig .tc := ⟨.hbm, 1344, rfl⟩
abbrev main_v1169 : Ref sig .tc := ⟨.hbm, 1345, rfl⟩
abbrev main_v1170 : Ref sig .tc := ⟨.hbm, 1346, rfl⟩
abbrev main_v1171 : Ref sig .tc := ⟨.hbm, 1347, rfl⟩
abbrev main_v1172 : Ref sig .tc := ⟨.hbm, 1348, rfl⟩
abbrev main_cst_138 : Ref sig .tc := ⟨.hbm, 1349, rfl⟩
abbrev main_v1173 : Ref sig .tc := ⟨.hbm, 1350, rfl⟩
abbrev main_v1174 : Ref sig .tc := ⟨.hbm, 1351, rfl⟩
abbrev main_cst_139 : Ref sig .tc := ⟨.hbm, 1352, rfl⟩
abbrev main_v1175 : Ref sig .tc := ⟨.hbm, 1353, rfl⟩
abbrev main_v1176 : Ref sig .tc := ⟨.hbm, 1354, rfl⟩
abbrev main_v1177 : Ref sig .tc := ⟨.hbm, 1355, rfl⟩
abbrev main_v1178 : Ref sig .tc := ⟨.hbm, 1356, rfl⟩
abbrev main_v1179 : Ref sig .tc := ⟨.hbm, 1357, rfl⟩
abbrev main_v1180 : Ref sig .tc := ⟨.hbm, 1358, rfl⟩
abbrev main_v1181 : Ref sig .tc := ⟨.hbm, 1359, rfl⟩
abbrev main_cst_140 : Ref sig .tc := ⟨.hbm, 1360, rfl⟩
abbrev main_v1182 : Ref sig .tc := ⟨.hbm, 1361, rfl⟩
abbrev main_v1183 : Ref sig .tc := ⟨.hbm, 1362, rfl⟩
abbrev main_v1184 : Ref sig .tc := ⟨.hbm, 1363, rfl⟩
abbrev main_v1185 : Ref sig .tc := ⟨.hbm, 1364, rfl⟩
abbrev main_v1186 : Ref sig .tc := ⟨.hbm, 1365, rfl⟩
abbrev main_v1187 : Ref sig .tc := ⟨.hbm, 1366, rfl⟩
abbrev main_v1188 : Ref sig .tc := ⟨.hbm, 1367, rfl⟩
abbrev main_v1189 : Ref sig .tc := ⟨.hbm, 1368, rfl⟩
abbrev main_v1190 : Ref sig .tc := ⟨.hbm, 1369, rfl⟩
abbrev main_v1191 : Ref sig .tc := ⟨.hbm, 1370, rfl⟩
abbrev main_v1192 : Ref sig .tc := ⟨.hbm, 1371, rfl⟩
abbrev main_v1193 : Ref sig .tc := ⟨.hbm, 1372, rfl⟩
abbrev main_v1194 : Ref sig .tc := ⟨.hbm, 1373, rfl⟩
abbrev main_v1195 : Ref sig .tc := ⟨.hbm, 1374, rfl⟩
abbrev main_v1196 : Ref sig .tc := ⟨.hbm, 1375, rfl⟩
abbrev main_v1197 : Ref sig .tc := ⟨.hbm, 1376, rfl⟩
abbrev main_v1198 : Ref sig .tc := ⟨.hbm, 1377, rfl⟩
abbrev main_v1199 : Ref sig .tc := ⟨.hbm, 1378, rfl⟩
abbrev main_v1200 : Ref sig .tc := ⟨.hbm, 1379, rfl⟩
abbrev main_v1201 : Ref sig .tc := ⟨.hbm, 1380, rfl⟩
abbrev main_v1202 : Ref sig .tc := ⟨.hbm, 1381, rfl⟩
abbrev main_v1203 : Ref sig .tc := ⟨.hbm, 1382, rfl⟩
abbrev main_cst_141 : Ref sig .tc := ⟨.hbm, 1383, rfl⟩
abbrev main_v1204 : Ref sig .tc := ⟨.hbm, 1384, rfl⟩
abbrev main_v1205 : Ref sig .tc := ⟨.hbm, 1385, rfl⟩
abbrev main_cst_142 : Ref sig .tc := ⟨.hbm, 1386, rfl⟩
abbrev main_v1206 : Ref sig .tc := ⟨.hbm, 1387, rfl⟩
abbrev main_v1207 : Ref sig .tc := ⟨.hbm, 1388, rfl⟩
abbrev main_v1208 : Ref sig .tc := ⟨.hbm, 1389, rfl⟩
abbrev main_v1209 : Ref sig .tc := ⟨.hbm, 1390, rfl⟩
abbrev main_v1210 : Ref sig .tc := ⟨.hbm, 1391, rfl⟩
abbrev main_v1211 : Ref sig .tc := ⟨.hbm, 1392, rfl⟩
abbrev main_v1212 : Ref sig .tc := ⟨.hbm, 1393, rfl⟩
abbrev main_cst_143 : Ref sig .tc := ⟨.hbm, 1394, rfl⟩
abbrev main_v1213 : Ref sig .tc := ⟨.hbm, 1395, rfl⟩
abbrev main_v1214 : Ref sig .tc := ⟨.hbm, 1396, rfl⟩
abbrev main_cst_144 : Ref sig .tc := ⟨.hbm, 1397, rfl⟩
abbrev main_v1215 : Ref sig .tc := ⟨.hbm, 1398, rfl⟩
abbrev main_v1216 : Ref sig .tc := ⟨.hbm, 1399, rfl⟩
abbrev main_v1217 : Ref sig .tc := ⟨.hbm, 1400, rfl⟩
abbrev main_v1218 : Ref sig .tc := ⟨.hbm, 1401, rfl⟩
abbrev main_v1219 : Ref sig .tc := ⟨.hbm, 1402, rfl⟩
abbrev main_v1220 : Ref sig .tc := ⟨.hbm, 1403, rfl⟩
abbrev main_v1221 : Ref sig .tc := ⟨.hbm, 1404, rfl⟩
abbrev main_cst_145 : Ref sig .tc := ⟨.hbm, 1405, rfl⟩
abbrev main_v1222 : Ref sig .tc := ⟨.hbm, 1406, rfl⟩
abbrev main_v1223 : Ref sig .tc := ⟨.hbm, 1407, rfl⟩
abbrev main_v1224 : Ref sig .tc := ⟨.hbm, 1408, rfl⟩
abbrev main_v1225 : Ref sig .tc := ⟨.hbm, 1409, rfl⟩
abbrev main_v1226 : Ref sig .tc := ⟨.hbm, 1410, rfl⟩
abbrev main_v1227 : Ref sig .tc := ⟨.hbm, 1411, rfl⟩
abbrev main_v1228 : Ref sig .tc := ⟨.hbm, 1412, rfl⟩
abbrev main_v1229 : Ref sig .tc := ⟨.hbm, 1413, rfl⟩
abbrev main_v1230 : Ref sig .tc := ⟨.hbm, 1414, rfl⟩
abbrev main_v1231 : Ref sig .tc := ⟨.hbm, 1415, rfl⟩
abbrev main_v1232 : Ref sig .tc := ⟨.hbm, 1416, rfl⟩
abbrev main_v1233 : Ref sig .tc := ⟨.hbm, 1417, rfl⟩
abbrev main_v1234 : Ref sig .tc := ⟨.hbm, 1418, rfl⟩
abbrev main_v1235 : Ref sig .tc := ⟨.hbm, 1419, rfl⟩
abbrev main_v1236 : Ref sig .tc := ⟨.hbm, 1420, rfl⟩
abbrev main_v1237 : Ref sig .tc := ⟨.hbm, 1421, rfl⟩
abbrev main_v1238 : Ref sig .tc := ⟨.hbm, 1422, rfl⟩
abbrev main_v1239 : Ref sig .tc := ⟨.hbm, 1423, rfl⟩
abbrev main_v1240 : Ref sig .tc := ⟨.hbm, 1424, rfl⟩
abbrev main_v1241 : Ref sig .tc := ⟨.hbm, 1425, rfl⟩
abbrev main_v1242 : Ref sig .tc := ⟨.hbm, 1426, rfl⟩
abbrev main_v1243 : Ref sig .tc := ⟨.hbm, 1427, rfl⟩
abbrev main_cst_146 : Ref sig .tc := ⟨.hbm, 1428, rfl⟩
abbrev main_v1244 : Ref sig .tc := ⟨.hbm, 1429, rfl⟩
abbrev main_v1245 : Ref sig .tc := ⟨.hbm, 1430, rfl⟩
abbrev main_cst_147 : Ref sig .tc := ⟨.hbm, 1431, rfl⟩
abbrev main_v1246 : Ref sig .tc := ⟨.hbm, 1432, rfl⟩
abbrev main_v1247 : Ref sig .tc := ⟨.hbm, 1433, rfl⟩
abbrev main_v1248 : Ref sig .tc := ⟨.hbm, 1434, rfl⟩
abbrev main_v1249 : Ref sig .tc := ⟨.hbm, 1435, rfl⟩
abbrev main_v1250 : Ref sig .tc := ⟨.hbm, 1436, rfl⟩
abbrev main_v1251 : Ref sig .tc := ⟨.hbm, 1437, rfl⟩
abbrev main_v1252 : Ref sig .tc := ⟨.hbm, 1438, rfl⟩
abbrev main_cst_148 : Ref sig .tc := ⟨.hbm, 1439, rfl⟩
abbrev main_v1253 : Ref sig .tc := ⟨.hbm, 1440, rfl⟩
abbrev main_v1254 : Ref sig .tc := ⟨.hbm, 1441, rfl⟩
abbrev main_cst_149 : Ref sig .tc := ⟨.hbm, 1442, rfl⟩
abbrev main_v1255 : Ref sig .tc := ⟨.hbm, 1443, rfl⟩
abbrev main_v1256 : Ref sig .tc := ⟨.hbm, 1444, rfl⟩
abbrev main_v1257 : Ref sig .tc := ⟨.hbm, 1445, rfl⟩
abbrev main_v1258 : Ref sig .tc := ⟨.hbm, 1446, rfl⟩
abbrev main_v1259 : Ref sig .tc := ⟨.hbm, 1447, rfl⟩
abbrev main_v1260 : Ref sig .tc := ⟨.hbm, 1448, rfl⟩
abbrev main_v1261 : Ref sig .tc := ⟨.hbm, 1449, rfl⟩
abbrev main_cst_150 : Ref sig .tc := ⟨.hbm, 1450, rfl⟩
abbrev main_v1262 : Ref sig .tc := ⟨.hbm, 1451, rfl⟩
abbrev main_v1263 : Ref sig .tc := ⟨.hbm, 1452, rfl⟩
abbrev main_v1264 : Ref sig .tc := ⟨.hbm, 1453, rfl⟩
abbrev main_v1265 : Ref sig .tc := ⟨.hbm, 1454, rfl⟩
abbrev main_v1266 : Ref sig .tc := ⟨.hbm, 1455, rfl⟩
abbrev main_v1267 : Ref sig .tc := ⟨.hbm, 1456, rfl⟩
abbrev main_v1268 : Ref sig .tc := ⟨.hbm, 1457, rfl⟩
abbrev main_v1269 : Ref sig .tc := ⟨.hbm, 1458, rfl⟩
abbrev main_v1270 : Ref sig .tc := ⟨.hbm, 1459, rfl⟩
abbrev main_v1271 : Ref sig .tc := ⟨.hbm, 1460, rfl⟩
abbrev main_v1272 : Ref sig .tc := ⟨.hbm, 1461, rfl⟩
abbrev main_v1273 : Ref sig .tc := ⟨.hbm, 1462, rfl⟩
abbrev main_v1274 : Ref sig .tc := ⟨.hbm, 1463, rfl⟩
abbrev main_v1275 : Ref sig .tc := ⟨.hbm, 1464, rfl⟩
abbrev main_v1276 : Ref sig .tc := ⟨.hbm, 1465, rfl⟩
abbrev main_v1277 : Ref sig .tc := ⟨.hbm, 1466, rfl⟩
abbrev main_v1278 : Ref sig .tc := ⟨.hbm, 1467, rfl⟩
abbrev main_v1279 : Ref sig .tc := ⟨.hbm, 1468, rfl⟩
abbrev main_v1280 : Ref sig .tc := ⟨.hbm, 1469, rfl⟩
abbrev main_v1281 : Ref sig .tc := ⟨.hbm, 1470, rfl⟩
abbrev main_v1282 : Ref sig .tc := ⟨.hbm, 1471, rfl⟩
abbrev main_v1283 : Ref sig .tc := ⟨.hbm, 1472, rfl⟩
abbrev main_cst_151 : Ref sig .tc := ⟨.hbm, 1473, rfl⟩
abbrev main_v1284 : Ref sig .tc := ⟨.hbm, 1474, rfl⟩
abbrev main_v1285 : Ref sig .tc := ⟨.hbm, 1475, rfl⟩
abbrev main_cst_152 : Ref sig .tc := ⟨.hbm, 1476, rfl⟩
abbrev main_v1286 : Ref sig .tc := ⟨.hbm, 1477, rfl⟩
abbrev main_v1287 : Ref sig .tc := ⟨.hbm, 1478, rfl⟩
abbrev main_v1288 : Ref sig .tc := ⟨.hbm, 1479, rfl⟩
abbrev main_v1289 : Ref sig .tc := ⟨.hbm, 1480, rfl⟩
abbrev main_v1290 : Ref sig .tc := ⟨.hbm, 1481, rfl⟩
abbrev main_v1291 : Ref sig .tc := ⟨.hbm, 1482, rfl⟩
abbrev main_v1292 : Ref sig .tc := ⟨.hbm, 1483, rfl⟩
abbrev main_cst_153 : Ref sig .tc := ⟨.hbm, 1484, rfl⟩
abbrev main_v1293 : Ref sig .tc := ⟨.hbm, 1485, rfl⟩
abbrev main_v1294 : Ref sig .tc := ⟨.hbm, 1486, rfl⟩
abbrev main_cst_154 : Ref sig .tc := ⟨.hbm, 1487, rfl⟩
abbrev main_v1295 : Ref sig .tc := ⟨.hbm, 1488, rfl⟩
abbrev main_v1296 : Ref sig .tc := ⟨.hbm, 1489, rfl⟩
abbrev main_v1297 : Ref sig .tc := ⟨.hbm, 1490, rfl⟩
abbrev main_v1298 : Ref sig .tc := ⟨.hbm, 1491, rfl⟩
abbrev main_v1299 : Ref sig .tc := ⟨.hbm, 1492, rfl⟩
abbrev main_v1300 : Ref sig .tc := ⟨.hbm, 1493, rfl⟩
abbrev main_v1301 : Ref sig .tc := ⟨.hbm, 1494, rfl⟩
abbrev main_cst_155 : Ref sig .tc := ⟨.hbm, 1495, rfl⟩
abbrev main_v1302 : Ref sig .tc := ⟨.hbm, 1496, rfl⟩
abbrev main_v1303 : Ref sig .tc := ⟨.hbm, 1497, rfl⟩
abbrev main_v1304 : Ref sig .tc := ⟨.hbm, 1498, rfl⟩
abbrev main_v1305 : Ref sig .tc := ⟨.hbm, 1499, rfl⟩
abbrev main_v1306 : Ref sig .tc := ⟨.hbm, 1500, rfl⟩
abbrev main_v1307 : Ref sig .tc := ⟨.hbm, 1501, rfl⟩
abbrev main_v1308 : Ref sig .tc := ⟨.hbm, 1502, rfl⟩
abbrev main_v1309 : Ref sig .tc := ⟨.hbm, 1503, rfl⟩
abbrev main_v1310 : Ref sig .tc := ⟨.hbm, 1504, rfl⟩
abbrev main_v1311 : Ref sig .tc := ⟨.hbm, 1505, rfl⟩
abbrev main_v1312 : Ref sig .tc := ⟨.hbm, 1506, rfl⟩
abbrev main_v1313 : Ref sig .tc := ⟨.hbm, 1507, rfl⟩
abbrev main_v1314 : Ref sig .tc := ⟨.hbm, 1508, rfl⟩
abbrev main_v1315 : Ref sig .tc := ⟨.hbm, 1509, rfl⟩
abbrev main_v1316 : Ref sig .tc := ⟨.hbm, 1510, rfl⟩
abbrev main_v1317 : Ref sig .tc := ⟨.hbm, 1511, rfl⟩
abbrev main_v1318 : Ref sig .tc := ⟨.hbm, 1512, rfl⟩
abbrev main_v1319 : Ref sig .tc := ⟨.hbm, 1513, rfl⟩
abbrev main_v1320 : Ref sig .tc := ⟨.hbm, 1514, rfl⟩
abbrev main_v1321 : Ref sig .tc := ⟨.hbm, 1515, rfl⟩
abbrev main_v1322 : Ref sig .tc := ⟨.hbm, 1516, rfl⟩
abbrev main_v1323 : Ref sig .tc := ⟨.hbm, 1517, rfl⟩
abbrev main_cst_156 : Ref sig .tc := ⟨.hbm, 1518, rfl⟩
abbrev main_v1324 : Ref sig .tc := ⟨.hbm, 1519, rfl⟩
abbrev main_v1325 : Ref sig .tc := ⟨.hbm, 1520, rfl⟩
abbrev main_cst_157 : Ref sig .tc := ⟨.hbm, 1521, rfl⟩
abbrev main_v1326 : Ref sig .tc := ⟨.hbm, 1522, rfl⟩
abbrev main_v1327 : Ref sig .tc := ⟨.hbm, 1523, rfl⟩
abbrev main_v1328 : Ref sig .tc := ⟨.hbm, 1524, rfl⟩
abbrev main_v1329 : Ref sig .tc := ⟨.hbm, 1525, rfl⟩
abbrev main_v1330 : Ref sig .tc := ⟨.hbm, 1526, rfl⟩
abbrev main_v1331 : Ref sig .tc := ⟨.hbm, 1527, rfl⟩
abbrev main_v1332 : Ref sig .tc := ⟨.hbm, 1528, rfl⟩
abbrev main_cst_158 : Ref sig .tc := ⟨.hbm, 1529, rfl⟩
abbrev main_v1333 : Ref sig .tc := ⟨.hbm, 1530, rfl⟩
abbrev main_v1334 : Ref sig .tc := ⟨.hbm, 1531, rfl⟩
abbrev main_cst_159 : Ref sig .tc := ⟨.hbm, 1532, rfl⟩
abbrev main_v1335 : Ref sig .tc := ⟨.hbm, 1533, rfl⟩
abbrev main_v1336 : Ref sig .tc := ⟨.hbm, 1534, rfl⟩
abbrev main_v1337 : Ref sig .tc := ⟨.hbm, 1535, rfl⟩
abbrev main_v1338 : Ref sig .tc := ⟨.hbm, 1536, rfl⟩
abbrev main_v1339 : Ref sig .tc := ⟨.hbm, 1537, rfl⟩
abbrev main_v1340 : Ref sig .tc := ⟨.hbm, 1538, rfl⟩
abbrev main_v1341 : Ref sig .tc := ⟨.hbm, 1539, rfl⟩
abbrev main_cst_160 : Ref sig .tc := ⟨.hbm, 1540, rfl⟩
abbrev main_v1342 : Ref sig .tc := ⟨.hbm, 1541, rfl⟩
abbrev main_v1343 : Ref sig .tc := ⟨.hbm, 1542, rfl⟩
abbrev main_v1344 : Ref sig .tc := ⟨.hbm, 1543, rfl⟩
abbrev main_v1345 : Ref sig .tc := ⟨.hbm, 1544, rfl⟩
abbrev main_v1346 : Ref sig .tc := ⟨.hbm, 1545, rfl⟩
abbrev main_v1347 : Ref sig .tc := ⟨.hbm, 1546, rfl⟩
abbrev main_v1348 : Ref sig .tc := ⟨.hbm, 1547, rfl⟩
abbrev main_v1349 : Ref sig .tc := ⟨.hbm, 1548, rfl⟩
abbrev main_v1350 : Ref sig .tc := ⟨.hbm, 1549, rfl⟩
abbrev main_v1351 : Ref sig .tc := ⟨.hbm, 1550, rfl⟩
abbrev main_v1352 : Ref sig .tc := ⟨.hbm, 1551, rfl⟩
abbrev main_v1353 : Ref sig .tc := ⟨.hbm, 1552, rfl⟩
abbrev main_v1354 : Ref sig .tc := ⟨.hbm, 1553, rfl⟩
abbrev main_v1355 : Ref sig .tc := ⟨.hbm, 1554, rfl⟩
abbrev main_v1356 : Ref sig .tc := ⟨.hbm, 1555, rfl⟩
abbrev main_v1357 : Ref sig .tc := ⟨.hbm, 1556, rfl⟩
abbrev main_v1358 : Ref sig .tc := ⟨.hbm, 1557, rfl⟩
abbrev main_v1359 : Ref sig .tc := ⟨.hbm, 1558, rfl⟩
abbrev main_v1360 : Ref sig .tc := ⟨.hbm, 1559, rfl⟩
abbrev main_v1361 : Ref sig .tc := ⟨.hbm, 1560, rfl⟩
abbrev main_v1362 : Ref sig .tc := ⟨.hbm, 1561, rfl⟩
abbrev main_v1363 : Ref sig .tc := ⟨.hbm, 1562, rfl⟩
abbrev main_v1364 : Ref sig .tc := ⟨.hbm, 1563, rfl⟩
abbrev main_v1365 : Ref sig .tc := ⟨.hbm, 1564, rfl⟩
abbrev main_v1366 : Ref sig .tc := ⟨.hbm, 1565, rfl⟩
abbrev main_v1367 : Ref sig .tc := ⟨.hbm, 1566, rfl⟩
abbrev main_v1368 : Ref sig .tc := ⟨.hbm, 1567, rfl⟩
abbrev main_v1369 : Ref sig .tc := ⟨.hbm, 1568, rfl⟩
abbrev main_v1370 : Ref sig .tc := ⟨.hbm, 1569, rfl⟩
abbrev main_v1371 : Ref sig .tc := ⟨.hbm, 1570, rfl⟩
abbrev main_v1372 : Ref sig .tc := ⟨.hbm, 1571, rfl⟩
abbrev main_v1373 : Ref sig .tc := ⟨.hbm, 1572, rfl⟩
abbrev main_v1374 : Ref sig .tc := ⟨.hbm, 1573, rfl⟩
abbrev main_v1375 : Ref sig .tc := ⟨.hbm, 1574, rfl⟩
abbrev main_v1376 : Ref sig .tc := ⟨.hbm, 1575, rfl⟩
abbrev main_v1377 : Ref sig .tc := ⟨.hbm, 1576, rfl⟩
abbrev main_v1378 : Ref sig .tc := ⟨.hbm, 1577, rfl⟩
abbrev main_v1379 : Ref sig .tc := ⟨.hbm, 1578, rfl⟩
abbrev main_v1380 : Ref sig .tc := ⟨.hbm, 1579, rfl⟩
abbrev main_v1381 : Ref sig .tc := ⟨.hbm, 1580, rfl⟩
abbrev main_v1382 : Ref sig .tc := ⟨.hbm, 1581, rfl⟩
abbrev main_v1383 : Ref sig .tc := ⟨.hbm, 1582, rfl⟩
abbrev main_v1384 : Ref sig .tc := ⟨.hbm, 1583, rfl⟩
abbrev main_v1385 : Ref sig .tc := ⟨.hbm, 1584, rfl⟩
abbrev main_v1386 : Ref sig .tc := ⟨.hbm, 1585, rfl⟩
abbrev main_cst_161 : Ref sig .tc := ⟨.hbm, 1586, rfl⟩
abbrev main_v1387 : Ref sig .tc := ⟨.hbm, 1587, rfl⟩
abbrev main_v1388 : Ref sig .tc := ⟨.hbm, 1588, rfl⟩
abbrev main_c : Ref sig .tc := ⟨.hbm, 1589, rfl⟩
abbrev main_v1389 : Ref sig .tc := ⟨.hbm, 1590, rfl⟩
abbrev main_call2_v0 : Ref sig .tc := ⟨.hbm, 1591, rfl⟩
abbrev main_call2_c : Ref sig .tc := ⟨.hbm, 1592, rfl⟩
abbrev main_call2_v1 : Ref sig .tc := ⟨.hbm, 1593, rfl⟩
abbrev main_call2_v2 : Ref sig .tc := ⟨.hbm, 1594, rfl⟩
abbrev main_call2_v3 : Ref sig .tc := ⟨.hbm, 1595, rfl⟩
abbrev main_call2_v4 : Ref sig .tc := ⟨.hbm, 1596, rfl⟩
abbrev main_call2_c_0 : Ref sig .tc := ⟨.hbm, 1597, rfl⟩
abbrev main_call2_v5 : Ref sig .tc := ⟨.hbm, 1598, rfl⟩
abbrev main_v1390 : Ref sig .tc := ⟨.hbm, 1599, rfl⟩
abbrev main_v1391 : Ref sig .tc := ⟨.hbm, 1600, rfl⟩
abbrev main_cst_162 : Ref sig .tc := ⟨.hbm, 1601, rfl⟩
abbrev main_call3_v0 : Ref sig .tc := ⟨.hbm, 1602, rfl⟩
abbrev main_call3_v1 : Ref sig .tc := ⟨.hbm, 1603, rfl⟩
abbrev main_call3_v2 : Ref sig .tc := ⟨.hbm, 1604, rfl⟩
abbrev main_v1392 : Ref sig .tc := ⟨.hbm, 1605, rfl⟩
abbrev main_cst_163 : Ref sig .tc := ⟨.hbm, 1606, rfl⟩
abbrev main_v1393 : Ref sig .tc := ⟨.hbm, 1607, rfl⟩
abbrev main_cst_164 : Ref sig .tc := ⟨.hbm, 1608, rfl⟩
abbrev main_v1394 : Ref sig .tc := ⟨.hbm, 1609, rfl⟩
abbrev main_v1395 : Ref sig .tc := ⟨.hbm, 1610, rfl⟩
abbrev main_v1396 : Ref sig .tc := ⟨.hbm, 1611, rfl⟩
abbrev main_v1397 : Ref sig .tc := ⟨.hbm, 1612, rfl⟩
abbrev main_v1398 : Ref sig .tc := ⟨.hbm, 1613, rfl⟩
abbrev main_v1399 : Ref sig .tc := ⟨.hbm, 1614, rfl⟩
abbrev main_cst_165 : Ref sig .tc := ⟨.hbm, 1615, rfl⟩
abbrev main_v1400 : Ref sig .tc := ⟨.hbm, 1616, rfl⟩
abbrev main_v1401 : Ref sig .tc := ⟨.hbm, 1617, rfl⟩
abbrev main_v1402 : Ref sig .tc := ⟨.hbm, 1618, rfl⟩
abbrev main_v1403 : Ref sig .tc := ⟨.hbm, 1619, rfl⟩
abbrev main_v1404 : Ref sig .tc := ⟨.hbm, 1620, rfl⟩
abbrev main_v1405 : Ref sig .tc := ⟨.hbm, 1621, rfl⟩
abbrev main_v1406 : Ref sig .tc := ⟨.hbm, 1622, rfl⟩
abbrev main_v1407 : Ref sig .tc := ⟨.hbm, 1623, rfl⟩
abbrev main_v1408 : Ref sig .tc := ⟨.hbm, 1624, rfl⟩
abbrev main_v1409 : Ref sig .tc := ⟨.hbm, 1625, rfl⟩
abbrev main_v1410 : Ref sig .tc := ⟨.hbm, 1626, rfl⟩
abbrev main_v1411 : Ref sig .tc := ⟨.hbm, 1627, rfl⟩
abbrev main_v1412 : Ref sig .tc := ⟨.hbm, 1628, rfl⟩
abbrev main_cst_166 : Ref sig .tc := ⟨.hbm, 1629, rfl⟩
abbrev main_v1413 : Ref sig .tc := ⟨.hbm, 1630, rfl⟩
abbrev main_v1414 : Ref sig .tc := ⟨.hbm, 1631, rfl⟩
abbrev main_cst_167 : Ref sig .tc := ⟨.hbm, 1632, rfl⟩
abbrev main_v1415 : Ref sig .tc := ⟨.hbm, 1633, rfl⟩
abbrev main_v1416 : Ref sig .tc := ⟨.hbm, 1634, rfl⟩
abbrev main_c_168 : Ref sig .tc := ⟨.hbm, 1635, rfl⟩
abbrev main_call4_cst : Ref sig .tc := ⟨.hbm, 1636, rfl⟩
abbrev main_call4_v0 : Ref sig .tc := ⟨.hbm, 1637, rfl⟩
abbrev main_call4_v1 : Ref sig .tc := ⟨.hbm, 1638, rfl⟩
abbrev main_call4_cst_0 : Ref sig .tc := ⟨.hbm, 1639, rfl⟩
abbrev main_call4_v2 : Ref sig .tc := ⟨.hbm, 1640, rfl⟩
abbrev main_call4_v3 : Ref sig .tc := ⟨.hbm, 1641, rfl⟩
abbrev main_call4_v4 : Ref sig .tc := ⟨.hbm, 1642, rfl⟩
abbrev main_call4_v5 : Ref sig .tc := ⟨.hbm, 1643, rfl⟩
abbrev main_call4_v6 : Ref sig .tc := ⟨.hbm, 1644, rfl⟩
abbrev main_call4_v7 : Ref sig .tc := ⟨.hbm, 1645, rfl⟩
abbrev main_call4_cst_1 : Ref sig .tc := ⟨.hbm, 1646, rfl⟩
abbrev main_call4_v8 : Ref sig .tc := ⟨.hbm, 1647, rfl⟩
abbrev main_call4_cst_2 : Ref sig .tc := ⟨.hbm, 1648, rfl⟩
abbrev main_call4_v9 : Ref sig .tc := ⟨.hbm, 1649, rfl⟩
abbrev main_call4_v10 : Ref sig .tc := ⟨.hbm, 1650, rfl⟩
abbrev main_call4_v11 : Ref sig .tc := ⟨.hbm, 1651, rfl⟩
abbrev main_call4_v12 : Ref sig .tc := ⟨.hbm, 1652, rfl⟩
abbrev main_call4_cst_3 : Ref sig .tc := ⟨.hbm, 1653, rfl⟩
abbrev main_call4_v13 : Ref sig .tc := ⟨.hbm, 1654, rfl⟩
abbrev main_call4_cst_4 : Ref sig .tc := ⟨.hbm, 1655, rfl⟩
abbrev main_call4_call0_v0 : Ref sig .tc := ⟨.hbm, 1656, rfl⟩
abbrev main_call4_call0_v1 : Ref sig .tc := ⟨.hbm, 1657, rfl⟩
abbrev main_v1417 : Ref sig .tc := ⟨.hbm, 1658, rfl⟩
abbrev main_v1418 : Ref sig .tc := ⟨.hbm, 1659, rfl⟩
abbrev main_v1419 : Ref sig .tc := ⟨.hbm, 1660, rfl⟩
abbrev main_cst_169 : Ref sig .tc := ⟨.hbm, 1661, rfl⟩
abbrev main_v1420 : Ref sig .tc := ⟨.hbm, 1662, rfl⟩
abbrev main_v1421 : Ref sig .tc := ⟨.hbm, 1663, rfl⟩
abbrev main_v1422 : Ref sig .tc := ⟨.hbm, 1664, rfl⟩
abbrev main_v1423 : Ref sig .tc := ⟨.hbm, 1665, rfl⟩
abbrev main_v1424 : Ref sig .tc := ⟨.hbm, 1666, rfl⟩
abbrev main_v1425 : Ref sig .tc := ⟨.hbm, 1667, rfl⟩
abbrev main_v1426 : Ref sig .tc := ⟨.hbm, 1668, rfl⟩
abbrev main_v1427 : Ref sig .tc := ⟨.hbm, 1669, rfl⟩
abbrev main_v1428 : Ref sig .tc := ⟨.hbm, 1670, rfl⟩
abbrev main_v1429 : Ref sig .tc := ⟨.hbm, 1671, rfl⟩
abbrev main_v1430 : Ref sig .tc := ⟨.hbm, 1672, rfl⟩
abbrev main_v1431 : Ref sig .tc := ⟨.hbm, 1673, rfl⟩
abbrev main_v1432 : Ref sig .tc := ⟨.hbm, 1674, rfl⟩
abbrev main_v1433 : Ref sig .tc := ⟨.hbm, 1675, rfl⟩
abbrev main_v1434 : Ref sig .tc := ⟨.hbm, 1676, rfl⟩
abbrev main_v1435 : Ref sig .tc := ⟨.hbm, 1677, rfl⟩
abbrev main_v1436 : Ref sig .tc := ⟨.hbm, 1678, rfl⟩
abbrev main_v1437 : Ref sig .tc := ⟨.hbm, 1679, rfl⟩
abbrev main_v1438 : Ref sig .tc := ⟨.hbm, 1680, rfl⟩
abbrev main_cst_170 : Ref sig .tc := ⟨.hbm, 1681, rfl⟩
abbrev main_v1439 : Ref sig .tc := ⟨.hbm, 1682, rfl⟩
abbrev main_v1440 : Ref sig .tc := ⟨.hbm, 1683, rfl⟩

abbrev nD : Nat := 1
abbrev τ : Topo := Topo.v7x

variable {F : FTy → Type} [FloatOps F]
-- ==== Proof.KernelRun.lean ====
/-
  The kernel's run: every buffer of the device ends at the last contents of the fold through the program.
-/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution ends, each device buffer holding the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => h)

/-- The run, read at the result and the arguments. -/
theorem run : θ_run defs (onTc (τ := τ) (main (F := F))) ⟨m, fun _ => 0, ρ⟩ (fun r => ∀ c : Dev nD,
    r.2.mem ((c.tc : Thread nD τ).loc main_v73) = (dat3 (V15 m ρ) c).arrAt 16 cfg3.N
    ∧ ∀ a ∈ argRefs, r.2.mem ((c.tc : Thread nD τ).loc a) = m ((c.tc : Thread nD τ).loc a)) :=
  (θ_run defs _ _).mono (fun r h c =>
    ⟨(h c _ (mem_uc main_v73 (by decide))).trans (W16_arr m ρ c 16),
     fun a ha => (h c _ (mem_uc a ((by decide : ∀ a ∈ argRefs, ¬ (Proc.devRef .tc a : DevRef τ sig).isScoped) a ha))).trans (W16_args m ρ c a ha)⟩)
    (run_all m ρ)

end Cert.KernelIdeal.Run
-- ==== Proof.Spec.lean ====
/-
  The mathematics of the model's stages over the extended reals, on functions of plain coordinates:
  what one graph and one time step of the two-layer graph convolution gives.
-/
module

public import Idealize.ShloMosaic.Lib.Pointwise

@[expose] public section

noncomputable section

namespace Cert.Spec

/-- The learned adjacency `H Wmᵀ + bm`. -/
def hnew (H : Fin 1024 → Fin 64 → EReal) (wm : Fin 64 → Fin 1024 → EReal) (bm : Fin 1024 → EReal) (n m : Fin 1024) : EReal :=
  (∑ k : Fin 64, H n k * wm k m) + bm m

/-- The features of a node times the first weights. -/
def feat (x : Fin 1024 → Fin 64 → EReal) (w1 : Fin 64 → Fin 256 → EReal) (n : Fin 1024) (h : Fin 256) : EReal :=
  ∑ k : Fin 64, x n k * w1 k h

/-- One graph layer's support for the second: `relu (A t + b1) w2`, `t` the features times the first weights. -/
def support (A : Fin 1024 → Fin 1024 → EReal) (t : Fin 1024 → Fin 256 → EReal) (b1 : Fin 256 → EReal)
    (w2 : Fin 256 → Fin 64 → EReal) (n : Fin 1024) (d : Fin 64) : EReal :=
  ∑ h : Fin 256, max ((∑ m : Fin 1024, A n m * t m h) + b1 h) 0 * w2 h d

/-- The two graph convolutions summed, with one bias `b` for both. -/
def conv (x : Fin 1024 → Fin 64 → EReal) (A N : Fin 1024 → Fin 1024 → EReal) (w1 : Fin 64 → Fin 256 → EReal)
    (b1 : Fin 256 → EReal) (w2 : Fin 256 → Fin 64 → EReal) (b : Fin 64 → EReal) (n : Fin 1024) (d : Fin 64) : EReal :=
  (∑ m : Fin 1024, A n m * support A (feat x w1) b1 w2 m d) + (∑ m : Fin 1024, N n m * support N (feat x w1) b1 w2 m d) + b d

/-- The graph stage of one graph and one time step: the summed convolutions through the linear layer. -/
def gcn (x : Fin 1024 → Fin 64 → EReal) (A N : Fin 1024 → Fin 1024 → EReal) (w1 : Fin 64 → Fin 256 → EReal)
    (b1 : Fin 256 → EReal) (w2 : Fin 256 → Fin 64 → EReal) (b : Fin 64 → EReal) (wl : Fin 64 → Fin 64 → EReal)
    (bl : Fin 64 → EReal) (n : Fin 1024) (e : Fin 64) : EReal :=
  (∑ d : Fin 64, conv x A N w1 b1 w2 b n d * wl d e) + bl e

end Cert.Spec
-- ==== Proof.GcnBlock.lean ====
/-
  What one grid point of the graph-convolution kernel computes.
-/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Gcn

open Idealize.ShloMosaic Idealize.ShloMosaic.TcCoe Idealize.SL.Sem
open Cert.KernelIdeal Cert.KernelIdeal.Gen

section Point

variable (x0 : FVec Ideal S1x1024x512 .f32) (x1 : FVec Ideal S1024x1024 .bf16) (x2 : FVec Ideal S1024x1024 .bf16)
  (x3 : FVec Ideal S64x256 .bf16) (x4 : FVec Ideal S1x256 .f32) (x5 : FVec Ideal S256x64 .bf16)
  (x6 : FVec Ideal S1x512 .f32) (x7 : FVec Ideal S64x64 .bf16) (x8 : FVec Ideal S1x64 .f32)

/-- The features of step `p` of the block's eight steps. -/
def xrow (p : Fin 8) (n : Fin 1024) (k : Fin 64) : EReal := x0 (ix3 0 n ⟨64 * p.val + k.val, by omega⟩)

/-- The eight steps' features times the first weights, side by side: column `c` is step `c / 256`, unit `c % 256`. -/
theorem feat_at (r : Fin 1024) (c : Fin 2048) :
    k1_pay16 (F := Ideal) (k1_pay8 x0 x3) (k1_pay9 x0 x3) (k1_pay10 x0 x3) (k1_pay11 x0 x3) (k1_pay12 x0 x3)
      (k1_pay13 x0 x3) (k1_pay14 x0 x3) (k1_pay15 x0 x3) (ix2 r c)
      = ∑ k : Fin 64, x0 (ix3 0 r ⟨64 * (c.val / 256) + k.val, by omega⟩) * x3 (ix2 k ⟨c.val % 256, by omega⟩) := by
  pointwise [k1_pay16, k1_pay8, k1_pay9, k1_pay10, k1_pay11, k1_pay12, k1_pay13, k1_pay14, k1_pay15, k1_pay2, k1_pay5]
  blk_point []

/-- The adjacency times the eight steps' features: column `c` is step `c / 256`, unit `c % 256`. -/
theorem agg1_at (r : Fin 1024) (c : Fin 2048) :
    k1_pay57 (F := Ideal) x0 x1 x2 x3 x4 x5 x6 x7 x8 (ix2 r c)
      = ∑ n : Fin 1024, x1 (ix2 r n) * Spec.feat (xrow x0 ⟨c.val / 256, by omega⟩) (fun k h => x3 (ix2 k h)) n ⟨c.val % 256, by omega⟩ := by
  pointwise [k1_pay57, k1_pay17, k1_pay45, k1_pay3, k1_pay49, k1_pay50, k1_pay51, k1_pay52, k1_pay53, k1_pay54, k1_pay55, k1_pay56]
  refine Finset.sum_congr rfl fun n _ => congrArg _ ((feat_at _ _ n c).trans ?_)
  pointwise [Spec.feat, xrow]

/-- The learned adjacency times the eight steps' features. -/
theorem agg2_at (r : Fin 1024) (c : Fin 2048) :
    k1_pay58 (F := Ideal) x0 x1 x2 x3 x4 x5 x6 x7 x8 (ix2 r c)
      = ∑ n : Fin 1024, x2 (ix2 r n) * Spec.feat (xrow x0 ⟨c.val / 256, by omega⟩) (fun k h => x3 (ix2 k h)) n ⟨c.val % 256, by omega⟩ := by
  pointwise [k1_pay58, k1_pay18, k1_pay46, k1_pay4, k1_pay49, k1_pay50, k1_pay51, k1_pay52, k1_pay53, k1_pay54, k1_pay55, k1_pay56]
  refine Finset.sum_congr rfl fun n _ => congrArg _ ((feat_at _ _ n c).trans ?_)
  pointwise [Spec.feat, xrow]

end Point

/-! ## The second layer's support, step by step -/

/-- A layer's support for the second, over all eight steps: what an aggregation `T` gives in column `c` (step `c / 64`, unit `c % 64`). -/
def sup (b : FVec Ideal S1x256 .f32) (w : FVec Ideal S256x64 .bf16) (T : FVec Ideal S1024x2048 .f32) (n : Fin 1024) (c : Fin 512) : EReal :=
  ∑ h : Fin 256, max (T (ix2 n ⟨256 * (c.val / 64) + h.val, by omega⟩) + b (ix2 0 h)) 0 * w (ix2 h ⟨c.val % 64, by omega⟩)

section Step

variable (b : FVec Ideal S1x256 .f32) (w : FVec Ideal S256x64 .bf16) (T : FVec Ideal S1024x2048 .f32)

/-- The support's column `64 p + d` reads the aggregation from column `256 p` on. -/
theorem sup_of (n : Fin 1024) (d : Fin 64) (p : ℕ) (c : Fin 512) (hc : c.val = 64 * p + d.val) (f : Fin 256 → Fin 2048)
    (hf : ∀ h, (f h).val = 256 * p + h.val) :
    ∑ h : Fin 256, max (T (ix2 n (f h)) + b (ix2 0 h)) 0 * w (ix2 h d) = sup b w T n c := by
  unfold sup
  refine Finset.sum_congr rfl fun h _ => ?_
  have e1 : f h = (⟨256 * (c.val / 64) + h.val, by omega⟩ : Fin 2048) := Fin.ext (by rw [hf h]; dsimp only; omega)
  have e2 : d = (⟨c.val % 64, by omega⟩ : Fin 64) := Fin.ext (by dsimp only; omega)
  exact congrArg₂ (· * ·) (congrArg (fun q => max (T (ix2 n q) + b (ix2 0 h)) 0) e1) (congrArg (fun q => w (ix2 h q)) e2)

variable (v4 : FVec Ideal S1024x1024 .bf16) (v15 v18 v21 v24 v27 v30 v33 v36 : FVec Ideal S1024x256 .bf16)

/-- Step 0's support with the given adjacency. -/
theorem pay19_at (n : Fin 1024) (d : Fin 64) : k1_pay19 (F := Ideal) v4 w b v15 v18 v21 v24 v27 v30 v33 v36 (ix2 n d)
    = sup b w (k1_pay17 v4 v15 v18 v21 v24 v27 v30 v33 v36) n ⟨d.val, by omega⟩ := by
  pointwise [k1_pay19]; exact sup_of _ _ _ n d 0 _ (by dsimp only; omega) _ (fun h => by dsimp only; omega)

/-- Step 0's support with the learned adjacency. -/
theorem pay20_at (n : Fin 1024) (d : Fin 64) : k1_pay20 (F := Ideal) v4 w b v15 v18 v21 v24 v27 v30 v33 v36 (ix2 n d)
    = sup b w (k1_pay18 v4 v15 v18 v21 v24 v27 v30 v33 v36) n ⟨d.val, by omega⟩ := by
  pointwise [k1_pay20]; exact sup_of _ _ _ n d 0 _ (by dsimp only; omega) _ (fun h => by dsimp only; omega)

/-- Step 1's support with the given adjacency. -/
theorem pay21_at (n : Fin 1024) (d : Fin 64) : k1_pay21 (F := Ideal) v4 w b v15 v18 v21 v24 v27 v30 v33 v36 (ix2 n d)
    = sup b w (k1_pay17 v4 v15 v18 v21 v24 v27 v30 v33 v36) n ⟨64 + d.val, by omega⟩ := by
  pointwise [k1_pay21]; exact sup_of _ _ _ n d 1 _ rfl _ (fun h => rfl)

/-- Step 1's support with the learned adjacency. -/
theorem pay22_at (n : Fin 1024) (d : Fin 64) : k1_pay22 (F := Ideal) v4 w b v15 v18 v21 v24 v27 v30 v33 v36 (ix2 n d)
    = sup b w (k1_pay18 v4 v15 v18 v21 v24 v27 v30 v33 v36) n ⟨64 + d.val, by omega⟩ := by
  pointwise [k1_pay22]; exact sup_of _ _ _ n d 1 _ rfl _ (fun h => rfl)

/-- Step 2's support with the given adjacency. -/
theorem pay24_at (n : Fin 1024) (d : Fin 64) : k1_pay25 (F := Ideal) (k1_pay24 v4 w b v15 v18 v21 v24 v27 v30 v33 v36) (ix2 n d)
    = sup b w (k1_pay17 v4 v15 v18 v21 v24 v27 v30 v33 v36) n ⟨128 + d.val, by omega⟩ := by
  pointwise [k1_pay25, k1_pay24]; exact sup_of _ _ _ n d 2 _ rfl _ (fun h => rfl)

/-- Step 2's support with the learned adjacency. -/
theorem pay26_at (n : Fin 1024) (d : Fin 64) : k1_pay26 (F := Ideal) w (k1_pay23 v4 b v15 v18 v21 v24 v27 v30 v33 v36) (ix2 n d)
    = sup b w (k1_pay18 v4 v15 v18 v21 v24 v27 v30 v33 v36) n ⟨128 + d.val, by omega⟩ := by
  pointwise [k1_pay26, k1_pay23]; exact sup_of _ _ _ n d 2 _ rfl _ (fun h => rfl)

/-- Step 3's support, the program's first one. -/
theorem pay27_at (n : Fin 1024) (d : Fin 64) : k1_pay27 (F := Ideal) w b T (ix2 n d) = sup b w T n ⟨192 + d.val, by omega⟩ := by
  pointwise [k1_pay27]; exact sup_of _ _ _ n d 3 _ rfl _ (fun h => rfl)

/-- Step 3's support, the program's second one. -/
theorem pay28_at (n : Fin 1024) (d : Fin 64) : k1_pay28 (F := Ideal) w b T (ix2 n d) = sup b w T n ⟨192 + d.val, by omega⟩ := by
  pointwise [k1_pay28]; exact sup_of _ _ _ n d 3 _ rfl _ (fun h => rfl)

/-- Step 4's support, the program's first one. -/
theorem pay29_at (n : Fin 1024) (d : Fin 64) : k1_pay29 (F := Ideal) w b T (ix2 n d) = sup b w T n ⟨256 + d.val, by omega⟩ := by
  pointwise [k1_pay29]; exact sup_of _ _ _ n d 4 _ rfl _ (fun h => rfl)

/-- Step 4's support, the program's second one. -/
theorem pay30_at (n : Fin 1024) (d : Fin 64) : k1_pay30 (F := Ideal) w b T (ix2 n d) = sup b w T n ⟨256 + d.val, by omega⟩ := by
  pointwise [k1_pay30]; exact sup_of _ _ _ n d 4 _ rfl _ (fun h => rfl)

/-- Step 5's support. -/
theorem pay32_at (n : Fin 1024) (d : Fin 64) : k1_pay32 (F := Ideal) w b T (ix2 n d) = sup b w T n ⟨320 + d.val, by omega⟩ := by
  pointwise [k1_pay32]; exact sup_of _ _ _ n d 5 _ rfl _ (fun h => rfl)

/-- Step 5's hidden features: the aggregation with the bias, cut at zero. -/
theorem pay31_at (n : Fin 1024) (h : Fin 256) : k1_pay31 (F := Ideal) b T (ix2 n h) = max (T (ix2 n ⟨1280 + h.val, by omega⟩) + b (ix2 0 h)) 0 := by
  pointwise [k1_pay31]

end Step

/-- Reading eight 64-column pieces side by side, each a piece of one function of the whole column. -/
theorem ladder (g : Fin 512 → EReal) (c : Fin 512) (f0 f1 f2 f3 f4 f5 f6 f7 : Fin 64 → EReal)
    (h0 : ∀ d, f0 d = g ⟨d.val, by omega⟩) (h1 : ∀ d, f1 d = g ⟨64 + d.val, by omega⟩) (h2 : ∀ d, f2 d = g ⟨128 + d.val, by omega⟩)
    (h3 : ∀ d, f3 d = g ⟨192 + d.val, by omega⟩) (h4 : ∀ d, f4 d = g ⟨256 + d.val, by omega⟩) (h5 : ∀ d, f5 d = g ⟨320 + d.val, by omega⟩)
    (h6 : ∀ d, f6 d = g ⟨384 + d.val, by omega⟩) (h7 : ∀ d, f7 d = g ⟨448 + d.val, by omega⟩) :
    (if h : c.val < 64 then f0 ⟨c.val, h⟩ else if h : c.val - 64 < 64 then f1 ⟨c.val - 64, h⟩
      else if h : c.val - 64 - 64 < 64 then f2 ⟨c.val - 64 - 64, h⟩ else if h : c.val - 64 - 64 - 64 < 64 then f3 ⟨c.val - 64 - 64 - 64, h⟩
      else if h : c.val - 64 - 64 - 64 - 64 < 64 then f4 ⟨c.val - 64 - 64 - 64 - 64, h⟩
      else if h : c.val - 64 - 64 - 64 - 64 - 64 < 64 then f5 ⟨c.val - 64 - 64 - 64 - 64 - 64, h⟩
      else if h : c.val - 64 - 64 - 64 - 64 - 64 - 64 < 64 then f6 ⟨c.val - 64 - 64 - 64 - 64 - 64 - 64, h⟩
      else f7 ⟨c.val - 64 - 64 - 64 - 64 - 64 - 64 - 64, by omega⟩) = g c := by
  split_ifs <;> simp only [h0, h1, h2, h3, h4, h5, h6, h7] <;> exact congrArg g (Fin.ext (by dsimp only; omega))

section Sum

variable (v4 v6 : FVec Ideal S1024x1024 .bf16) (w : FVec Ideal S256x64 .bf16) (b : FVec Ideal S1x256 .f32) (T U : FVec Ideal S1024x2048 .f32)
  (v52 v55 v68 v71 v84 v87 v100 v103 v116 v119 : FVec Ideal S1024x64 .bf16) (v129 : FVec Ideal S1024x256 .f32) (v131 : FVec Ideal S1024x64 .f32)
  (v173 : FVec Ideal S1x512 .f32)

set_option maxHeartbeats 1000000 in
/-- The sum of the two second layers, each step's support being what it is. -/
theorem pay33_at (h52 : ∀ n d, v52 (ix2 n d) = sup b w T n ⟨d.val, by omega⟩) (h55 : ∀ n d, v55 (ix2 n d) = sup b w U n ⟨d.val, by omega⟩)
    (h68 : ∀ n d, v68 (ix2 n d) = sup b w T n ⟨64 + d.val, by omega⟩) (h71 : ∀ n d, v71 (ix2 n d) = sup b w U n ⟨64 + d.val, by omega⟩)
    (h84 : ∀ n d, v84 (ix2 n d) = sup b w T n ⟨128 + d.val, by omega⟩) (h87 : ∀ n d, v87 (ix2 n d) = sup b w U n ⟨128 + d.val, by omega⟩)
    (h100 : ∀ n d, v100 (ix2 n d) = sup b w T n ⟨192 + d.val, by omega⟩) (h103 : ∀ n d, v103 (ix2 n d) = sup b w U n ⟨192 + d.val, by omega⟩)
    (h116 : ∀ n d, v116 (ix2 n d) = sup b w T n ⟨256 + d.val, by omega⟩) (h119 : ∀ n d, v119 (ix2 n d) = sup b w U n ⟨256 + d.val, by omega⟩)
    (h131 : ∀ n d, v131 (ix2 n d) = sup b w T n ⟨320 + d.val, by omega⟩)
    (h129 : ∀ n h, v129 (ix2 n h) = max (U (ix2 n ⟨1280 + h.val, by omega⟩) + b (ix2 0 h)) 0) (r : Fin 1024) (c : Fin 512) :
    k1_pay33 (F := Ideal) v4 v6 w b T U v52 v55 v68 v71 v84 v87 v100 v103 v116 v119 v129 v131 v173 (ix2 r c)
      = (∑ n : Fin 1024, v4 (ix2 r n) * sup b w T n c) + (∑ n : Fin 1024, v6 (ix2 r n) * sup b w U n c) + v173 (ix2 0 c) := by
  pointwise [k1_pay33]
  refine congrArg₂ (· + ·) (congrArg₂ (· + ·) (Finset.sum_congr rfl fun n _ => congrArg _ ?_) (Finset.sum_congr rfl fun n _ => congrArg _ ?_)) rfl
  · exact ladder (sup b w T n) c (fun d => v52 (ix2 n d)) (fun d => v68 (ix2 n d)) (fun d => v84 (ix2 n d)) (fun d => v100 (ix2 n d))
      (fun d => v116 (ix2 n d)) (fun d => v131 (ix2 n d))
      (fun d => ∑ h : Fin 256, max (T (ix2 n ⟨1536 + h.val, by omega⟩) + b (ix2 0 h)) 0 * w (ix2 h d))
      (fun d => ∑ h : Fin 256, max (T (ix2 n ⟨1792 + h.val, by omega⟩) + b (ix2 0 h)) 0 * w (ix2 h d))
      (h52 n) (h68 n) (h84 n) (h100 n) (h116 n) (h131 n) (fun d => sup_of b w T n d 6 _ rfl _ (fun h => rfl)) (fun d => sup_of b w T n d 7 _ rfl _ (fun h => rfl))
  · exact ladder (sup b w U n) c (fun d => v55 (ix2 n d)) (fun d => v71 (ix2 n d)) (fun d => v87 (ix2 n d)) (fun d => v103 (ix2 n d))
      (fun d => v119 (ix2 n d))
      (fun d => ∑ h : Fin 256, v129 (ix2 n h) * w (ix2 h d))
      (fun d => ∑ h : Fin 256, max (U (ix2 n ⟨1536 + h.val, by omega⟩) + b (ix2 0 h)) 0 * w (ix2 h d))
      (fun d => ∑ h : Fin 256, max (U (ix2 n ⟨1792 + h.val, by omega⟩) + b (ix2 0 h)) 0 * w (ix2 h d))
      (h55 n) (h71 n) (h87 n) (h103 n) (h119 n)
      (fun d => (Finset.sum_congr rfl fun h _ => by rw [h129]).trans (sup_of b w U n d 5 _ rfl _ (fun h => rfl)))
      (fun d => sup_of b w U n d 6 _ rfl _ (fun h => rfl)) (fun d => sup_of b w U n d 7 _ rfl _ (fun h => rfl))

end Sum

end Cert.KernelIdeal.Gcn
-- ==== Proof.GcnPoint.lean ====
/-
  What one grid point of the graph-convolution kernel leaves in its output block: the graph stage of its eight steps.
-/
module

public import proofs.«01_k».proof.Proof.GcnBlock

@[expose] public section

set_option maxRecDepth 16384

noncomputable section

namespace Cert.KernelIdeal.Gcn

open Idealize.ShloMosaic Idealize.ShloMosaic.TcCoe Idealize.SL.Sem
open Cert.KernelIdeal Cert.KernelIdeal.Gen

variable (x0 : FVec Ideal S1x1024x512 .f32) (x1 : FVec Ideal S1024x1024 .bf16) (x2 : FVec Ideal S1024x1024 .bf16)
  (x3 : FVec Ideal S64x256 .bf16) (x4 : FVec Ideal S1x256 .f32) (x5 : FVec Ideal S256x64 .bf16)
  (x6 : FVec Ideal S1x512 .f32) (x7 : FVec Ideal S64x64 .bf16) (x8 : FVec Ideal S1x64 .f32)

/-- The support from an aggregation of the features is the layer's support of the column's step. -/
theorem sup_agg (A : FVec Ideal S1024x1024 .bf16) (T : FVec Ideal S1024x2048 .f32)
    (hT : ∀ (r : Fin 1024) (c : Fin 2048), T (ix2 r c) = ∑ n : Fin 1024, A (ix2 r n)
      * Spec.feat (xrow x0 ⟨c.val / 256, by omega⟩) (fun k h => x3 (ix2 k h)) n ⟨c.val % 256, by omega⟩)
    (n : Fin 1024) (c : Fin 512) :
    sup x4 x5 T n c = Spec.support (fun n m => A (ix2 n m)) (Spec.feat (xrow x0 ⟨c.val / 64, by omega⟩) (fun k h => x3 (ix2 k h)))
      (fun h => x4 (ix2 0 h)) (fun h d => x5 (ix2 h d)) n ⟨c.val % 64, by omega⟩ := by
  unfold sup Spec.support
  refine Finset.sum_congr rfl fun h _ => ?_
  rw [hT]
  have e1 : (⟨(256 * (c.val / 64) + h.val) / 256, by omega⟩ : Fin 8) = ⟨c.val / 64, by omega⟩ := Fin.ext (by dsimp only; omega)
  have e2 : (⟨(256 * (c.val / 64) + h.val) % 256, by omega⟩ : Fin 256) = h := Fin.ext (by dsimp only; omega)
  dsimp only
  simp only [e1, e2]

/-- The sum of the two convolutions over all eight steps: column `c` is step `c / 64`, unit `c % 64`. -/
theorem conv_at (r : Fin 1024) (c : Fin 512) :
    k1_pay59 (F := Ideal) x0 x1 x2 x3 x4 x5 x6 x7 x8 (ix2 r c)
      = Spec.conv (xrow x0 ⟨c.val / 64, by omega⟩) (fun n m => x1 (ix2 n m)) (fun n m => x2 (ix2 n m)) (fun k h => x3 (ix2 k h))
          (fun h => x4 (ix2 0 h)) (fun h d => x5 (ix2 h d)) (fun d => x6 (ix2 0 ⟨64 * (c.val / 64) + d.val, by omega⟩)) r ⟨c.val % 64, by omega⟩ := by
  have e45 : k1_pay45 (F := Ideal) x0 x1 x2 x3 x4 x5 x6 x7 x8 = x1 := by funext j; idx_vars j; pointwise [k1_pay45, k1_pay3]
  have e46 : k1_pay46 (F := Ideal) x0 x1 x2 x3 x4 x5 x6 x7 x8 = x2 := by funext j; idx_vars j; pointwise [k1_pay46, k1_pay4]
  have e47 : k1_pay47 (F := Ideal) x0 x1 x2 x3 x4 x5 x6 x7 x8 = x5 := by funext j; idx_vars j; pointwise [k1_pay47, k1_pay6]
  have e48 : k1_pay48 (F := Ideal) x0 x1 x2 x3 x4 x5 x6 x7 x8 = x4 := by funext j; idx_vars j; pointwise [k1_pay48, k1_pay7]; rw [Subsingleton.elim j0 0]
  unfold k1_pay59
  refine Eq.trans (pay33_at _ _ (k1_pay47 x0 x1 x2 x3 x4 x5 x6 x7 x8) (k1_pay48 x0 x1 x2 x3 x4 x5 x6 x7 x8)
    (k1_pay57 x0 x1 x2 x3 x4 x5 x6 x7 x8) (k1_pay58 x0 x1 x2 x3 x4 x5 x6 x7 x8) _ _ _ _ _ _ _ _ _ _ _ _ _
    (pay19_at _ _ _ _ _ _ _ _ _ _ _) (pay20_at _ _ _ _ _ _ _ _ _ _ _) (pay21_at _ _ _ _ _ _ _ _ _ _ _) (pay22_at _ _ _ _ _ _ _ _ _ _ _)
    (pay24_at _ _ _ _ _ _ _ _ _ _ _) (pay26_at _ _ _ _ _ _ _ _ _ _ _) (pay27_at _ _ _) (pay28_at _ _ _) (pay29_at _ _ _) (pay30_at _ _ _)
    (pay32_at _ _ _) (pay31_at _ _) r c) ?_
  rw [e45, e46, e47, e48]
  simp only [sup_agg x0 x3 x4 x5 x1 _ (agg1_at x0 x1 x2 x3 x4 x5 x6 x7 x8), sup_agg x0 x3 x4 x5 x2 _ (agg2_at x0 x1 x2 x3 x4 x5 x6 x7 x8)]
  unfold Spec.conv
  refine congrArg₂ (· + ·) rfl ?_
  pointwise
  exact congrArg (fun q => x6 (ix2 0 q)) (Fin.ext (by dsimp only; omega))

/-- The linear layer reads the column of a step and unit, however the column is written. -/
theorem lin_congr (P : FVec Ideal S1024x512 .f32) (n n' : Fin 1024) (e e' : Fin 64) (q : Fin 8) (g : Fin 64 → Fin 512)
    (hg : ∀ d, (g d).val = 64 * q.val + d.val) (hn : n' = n) (he : e' = e) :
    (∑ d : Fin 64, P (ix2 n' (g d)) * x7 (ix2 d e')) + x8 (ix2 0 e')
      = (∑ d : Fin 64, P (ix2 n ⟨64 * q.val + d.val, by omega⟩) * x7 (ix2 d e)) + x8 (ix2 0 e) := by
  subst hn he
  exact congrArg (· + _) (Finset.sum_congr rfl fun d _ =>
    congrArg (fun c => P (ix2 n' c) * x7 (ix2 d e')) (Fin.ext (hg d)))

/-- The output block at step `q`, node `n`, unit `e`: the graph stage of that step. -/
theorem out_at (y : S8x1x1024x64.Idx) (q : Fin 8) (n : Fin 1024) (e : Fin 64)
    (h0 : (y 0).val = q.val) (h2 : (y 2).val = n.val) (h3 : (y 3).val = e.val) :
    out1_9 (F := Ideal) x0 x1 x2 x3 x4 x5 x6 x7 x8 y
      = (∑ d : Fin 64, k1_pay59 (F := Ideal) x0 x1 x2 x3 x4 x5 x6 x7 x8 (ix2 n ⟨64 * q.val + d.val, by omega⟩) * x7 (ix2 d e)) + x8 (ix2 0 e) := by
  unfold out1_9
  canon_tiles x hx
  all_goals
    pointwise [k1_pay1, k1_pay36, k1_pay37, k1_pay38, k1_pay39, k1_pay40, k1_pay41, k1_pay42, k1_pay43, k1_pay44, k1_pay60, k1_pay61, k1_pay34, k1_pay35]
    exact lin_congr x7 x8 _ n _ e _ q _ (fun d => by dsimp only; omega) (Fin.ext (by omega)) (Fin.ext (by omega))

/-- The output block at step `q`, node `n`, unit `e`: the graph stage of that step. -/
theorem out_gcn (y : S8x1x1024x64.Idx) (q : Fin 8) (n : Fin 1024) (e : Fin 64)
    (h0 : (y 0).val = q.val) (h2 : (y 2).val = n.val) (h3 : (y 3).val = e.val) :
    out1_9 (F := Ideal) x0 x1 x2 x3 x4 x5 x6 x7 x8 y
      = Spec.gcn (xrow x0 q) (fun n m => x1 (ix2 n m)) (fun n m => x2 (ix2 n m)) (fun k h => x3 (ix2 k h))
          (fun h => x4 (ix2 0 h)) (fun h d => x5 (ix2 h d)) (fun d => x6 (ix2 0 ⟨64 * q.val + d.val, by omega⟩))
          (fun d e => x7 (ix2 d e)) (fun e => x8 (ix2 0 e)) n e := by
  rw [out_at x0 x1 x2 x3 x4 x5 x6 x7 x8 y q n e h0 h2 h3]
  unfold Spec.gcn
  refine congrArg (· + _) (Finset.sum_congr rfl fun d _ => congrArg (· * _) ?_)
  rw [conv_at]
  have e1 : (⟨(64 * q.val + d.val) / 64, by omega⟩ : Fin 8) = q := Fin.ext (by dsimp only; omega)
  have e2 : (⟨(64 * q.val + d.val) % 64, by omega⟩ : Fin 64) = d := Fin.ext (by dsimp only; omega)
  have e3 : (64 * q.val + d.val) / 64 = q.val := by omega
  simp only [e1, e2, e3]

end Cert.KernelIdeal.Gcn
-- ==== Proof.Regions.lean ====
/-
  The arrays the two launches leave: the learned adjacency, and the graph stage of every graph and time step.
-/
module

public import proofs.«01_k».proof.Proof.GcnPoint

@[expose] public section

set_option maxRecDepth 16384

noncomputable section

namespace Cert.KernelIdeal.Gcn

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body of the first kernel at a row and a column. -/
theorem hn_pay (x0 : FVec Ideal S1024x64 .f32) (x1 : FVec Ideal S64x1024 .bf16) (x2 : FVec Ideal S1x1024 .f32) (n m : Fin 1024) :
    k0_pay1 (F := Ideal) x0 x1 x2 (ix2 n m)
      = Spec.hnew (fun n k => x0 (ix2 n k)) (fun k m => x1 (ix2 k m)) (fun m => x2 (ix2 0 m)) n m := by
  pointwise [k0_pay1, Spec.hnew]

/-- The one point of the first launch reads and writes whole arrays. -/
theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)

/-- The first launch's array: `H Wmᵀ + bm` of the arrays it is given. -/
theorem final0 (c : Dev nD) : (dat0 V c).arrAt 3 cfg0.N = fun j : S1024x1024.Idx =>
    Spec.hnew (fun n k => (V c main_arg1 : FVec Ideal S1024x64 .f32) (ix2 n k)) (fun k m => (V c main_v1 : FVec Ideal S64x1024 .bf16) (ix2 k m))
      (fun m => (V c main_v2 : FVec Ideal S1x1024 .f32) (ix2 0 m)) (j 0) (j 1) := by
  refine (dat0 V c).arrAt_eq_of_covers 3 _ (by decide +kernel) fun t hf y => ?_
  blk_simp
  rw [after0_3]
  frame_out
  refine (congrArg (k0_pay1 _ _ _) (eq_ix2 y)).trans ((hn_pay _ _ _ (y 0) (y 1)).trans ?_)
  congr 1
  · funext n k; blk_ext [iblk0, idx0 t]
  · funext n k; blk_ext [iblk0, idx0 t]
  · funext n; blk_ext [iblk0, idx0 t]
  · refine Fin.ext ?_; blk_simp [idx0 t]
  · refine Fin.ext ?_; blk_simp [idx0 t]

/-- The windows' block indices over the grid of graphs and half sequences. -/
theorem idx1 : ∀ t : Fin cfg1.N, win1_0.index t = ![t.val / 2, 0, t.val % 2] ∧ win1_1.index t = ![0, 0] ∧ win1_2.index t = ![0, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![t.val % 2, t.val / 2, 0, 0] :=
  (by decide +kernel : ∀ t : Fin grid1.N, _)

/-- The second launch's array: the graph stage of graph `j 1` at time step `j 0`. -/
def gcnArr (c : Dev nD) (j : S16x8x1024x64.Idx) : EReal :=
  Spec.gcn (fun n k => (V c main_v4 : FVec Ideal S8x1024x1024 .f32) (ix3 (j 1) n ⟨64 * (j 0).val + k.val, by have := (j 0).isLt; change _ < 16 at this; omega⟩))
    (fun n m => (V c main_v11 : FVec Ideal S1024x1024 .bf16) (ix2 n m)) (fun n m => (V c main_v3 : FVec Ideal S1024x1024 .bf16) (ix2 n m))
    (fun k h => (V c main_v12 : FVec Ideal S64x256 .bf16) (ix2 k h)) (fun h => (V c main_v13 : FVec Ideal S1x256 .f32) (ix2 0 h))
    (fun h d => (V c main_v14 : FVec Ideal S256x64 .bf16) (ix2 h d))
    (fun d => (V c main_v10 : FVec Ideal S1x512 .f32) (ix2 0 ⟨64 * ((j 0).val % 8) + d.val, by omega⟩))
    (fun d e => (V c main_v16 : FVec Ideal S64x64 .bf16) (ix2 d e)) (fun e => (V c main_v17 : FVec Ideal S1x64 .f32) (ix2 0 e)) (j 2) (j 3)

set_option maxHeartbeats 1000000 in
/-- The second launch leaves that array. -/
theorem final1 (c : Dev nD) : (dat1 V c).arrAt 9 cfg1.N = gcnArr V c := by
  refine (dat1 V c).arrAt_eq_of_covers 9 _ (by decide +kernel) fun t hf y => ?_
  blk_simp
  rw [after1_9]
  refine (out_gcn _ _ _ _ _ _ _ _ _ y (y 0) (y 2) (y 3) rfl rfl rfl).trans ?_
  unfold gcnArr
  congr 1
  · funext n k; unfold xrow; blk_ext [iblk1, idx1 t]
  · funext n k; blk_ext [iblk1, idx1 t]
  · funext n k; blk_ext [iblk1, idx1 t]
  · funext n k; blk_ext [iblk1, idx1 t]
  · funext n; blk_ext [iblk1, idx1 t]
  · funext n k; blk_ext [iblk1, idx1 t]
  · funext n; blk_ext [iblk1, idx1 t]
  · funext n k; blk_ext [iblk1, idx1 t]
  · funext n; blk_ext [iblk1, idx1 t]
  · refine Fin.ext ?_; blk_simp [idx1 t]
  · refine Fin.ext ?_; blk_simp [idx1 t]

end Cert.KernelIdeal.Gcn
-- ==== Proof.HostReads.lean ====
/-
  What the host code before the first two launches leaves in the arrays they read, as a function of the contents it found.
-/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Host

open Idealize.ShloMosaic Idealize.ShloMosaic.TcCoe Idealize.SL.Sem
open Cert.KernelIdeal Cert.KernelIdeal.Gen

variable (W : Valuation τ sig (Elt Ideal))

/-- The transposed memory weights. -/
theorem v1_at (k : Fin 64) (m : Fin 1024) :
    (StableHlo.after hostOps0 W (Proc.devRef .tc main_v1) : FVec Ideal S64x1024 .bf16) (ix2 k m) = (W (Proc.devRef .tc main_arg7) : FVec Ideal S1024x64 .f32) (ix2 m k) := by
  after_results
  pointwise

/-- The memory bias as a row. -/
theorem v2_at (m : Fin 1024) :
    (StableHlo.after hostOps0 W (Proc.devRef .tc main_v2) : FVec Ideal S1x1024 .f32) (ix2 0 m) = (W (Proc.devRef .tc main_arg8) : FVec Ideal S1024 .f32) (ix1 m) := by
  after_results
  pointwise

/-- The source sequences with time and feature on one axis. -/
theorem v4_at (b : Fin 8) (n : Fin 1024) (t : Fin 16) (k : Fin 64) :
    (StableHlo.after hostOps1 W (Proc.devRef .tc main_v4) : FVec Ideal S8x1024x1024 .f32) (ix3 b n ⟨64 * t.val + k.val, by omega⟩) = (W (Proc.devRef .tc main_arg0) : FVec Ideal S8x1024x16x64 .f32) (ix4 b n t k) := by
  after_results
  pointwise

/-- The adjacency. -/
theorem v11_at (n m : Fin 1024) :
    (StableHlo.after hostOps1 W (Proc.devRef .tc main_v11) : FVec Ideal S1024x1024 .bf16) (ix2 n m) = (W (Proc.devRef .tc main_arg2) : FVec Ideal S1024x1024 .f32) (ix2 n m) := by
  after_results
  pointwise

/-- The first layer's weights. -/
theorem v12_at (k : Fin 64) (h : Fin 256) :
    (StableHlo.after hostOps1 W (Proc.devRef .tc main_v12) : FVec Ideal S64x256 .bf16) (ix2 k h) = (W (Proc.devRef .tc main_arg3) : FVec Ideal S64x256 .f32) (ix2 k h) := by
  after_results
  pointwise

/-- The first layer's bias as a row. -/
theorem v13_at (h : Fin 256) :
    (StableHlo.after hostOps1 W (Proc.devRef .tc main_v13) : FVec Ideal S1x256 .f32) (ix2 0 h) = (W (Proc.devRef .tc main_arg4) : FVec Ideal S256 .f32) (ix1 h) := by
  after_results
  pointwise

/-- The second layer's weights. -/
theorem v14_at (h : Fin 256) (d : Fin 64) :
    (StableHlo.after hostOps1 W (Proc.devRef .tc main_v14) : FVec Ideal S256x64 .bf16) (ix2 h d) = (W (Proc.devRef .tc main_arg5) : FVec Ideal S256x64 .f32) (ix2 h d) := by
  after_results
  pointwise

/-- Two times the second layer's bias, eight times over. -/
theorem v10_at (p : Fin 8) (d : Fin 64) :
    (StableHlo.after hostOps1 W (Proc.devRef .tc main_v10) : FVec Ideal S1x512 .f32) (ix2 0 ⟨64 * p.val + d.val, by omega⟩)
      = Ideal.ofBits .f32 0x40000000#32 * (W (Proc.devRef .tc main_arg6) : FVec Ideal S64 .f32) (ix1 d) := by
  after_results
  pointwise
  exact congrArg (fun q => Ideal.ofBits .f32 0x40000000#32 * (W (Proc.devRef .tc main_arg6) : FVec Ideal S64 .f32) (ix1 q)) (Fin.ext (by dsimp only; omega))

/-- The transposed linear weights. -/
theorem v16_at (d e : Fin 64) :
    (StableHlo.after hostOps1 W (Proc.devRef .tc main_v16) : FVec Ideal S64x64 .bf16) (ix2 d e) = (W (Proc.devRef .tc main_arg9) : FVec Ideal S64x64 .f32) (ix2 e d) := by
  after_results
  pointwise

/-- The linear bias as a row. -/
theorem v17_at (e : Fin 64) :
    (StableHlo.after hostOps1 W (Proc.devRef .tc main_v17) : FVec Ideal S1x64 .f32) (ix2 0 e) = (W (Proc.devRef .tc main_arg10) : FVec Ideal S64 .f32) (ix1 e) := by
  after_results
  pointwise

end Cert.KernelIdeal.Host
-- ==== Proof.HostGru.lean ====
/-
  What the host code before the recurrent launch leaves in the arrays the launch reads, as a function of the contents it found.
-/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Host

open Idealize.ShloMosaic Idealize.ShloMosaic.TcCoe Idealize.SL.Sem
open Cert.KernelIdeal Cert.KernelIdeal.Gen

variable (W : Valuation τ sig (Elt Ideal))

/-- The graph stage's rows, all the graphs on one axis. -/
theorem v19_at (t : Fin 16) (b : Fin 8) (n : Fin 1024) (k : Fin 64) :
    (StableHlo.after hostOps2 W (Proc.devRef .tc main_v19) : FVec Ideal S16x8192x64 .bf16) (ix3 t ⟨1024 * b.val + n.val, by omega⟩ k) = (W (Proc.devRef .tc main_v18) : FVec Ideal S16x8x1024x64 .bf16) (ix4 t b n k) := by
  after_results
  pointwise

/-- The first layer's input weights, transposed. -/
theorem v21_at (k : Fin 64) (j : Fin 192) :
    (StableHlo.after hostOps2 W (Proc.devRef .tc main_v21) : FVec Ideal S64x192 .bf16) (ix2 k j) = (W (Proc.devRef .tc main_arg11) : FVec Ideal S192x64 .f32) (ix2 j k) := by
  after_results
  pointwise

/-- The first layer's state weights, transposed. -/
theorem v24_at (k : Fin 64) (j : Fin 192) :
    (StableHlo.after hostOps2 W (Proc.devRef .tc main_v24) : FVec Ideal S64x192 .bf16) (ix2 k j) = (W (Proc.devRef .tc main_arg12) : FVec Ideal S192x64 .f32) (ix2 j k) := by
  after_results
  pointwise

/-- The second layer's state weights, transposed. -/
theorem v26_at (k : Fin 64) (j : Fin 192) :
    (StableHlo.after hostOps2 W (Proc.devRef .tc main_v26) : FVec Ideal S64x192 .bf16) (ix2 k j) = (W (Proc.devRef .tc main_arg16) : FVec Ideal S192x64 .f32) (ix2 j k) := by
  after_results
  pointwise

/-- The second layer's input weights, transposed. -/
theorem v30_at (k : Fin 64) (j : Fin 192) :
    (StableHlo.after hostOps2 W (Proc.devRef .tc main_v30) : FVec Ideal S64x192 .bf16) (ix2 k j) = (W (Proc.devRef .tc main_arg15) : FVec Ideal S192x64 .f32) (ix2 j k) := by
  after_results
  pointwise

/-- The first layer's input bias as a row. -/
theorem v22_at (j : Fin 192) :
    (StableHlo.after hostOps2 W (Proc.devRef .tc main_v22) : FVec Ideal S1x192 .f32) (ix2 0 j) = (W (Proc.devRef .tc main_arg13) : FVec Ideal S192 .f32) (ix1 j) := by
  after_results
  pointwise

/-- The first layer's state bias as a row. -/
theorem v27_at (j : Fin 192) :
    (StableHlo.after hostOps2 W (Proc.devRef .tc main_v27) : FVec Ideal S1x192 .f32) (ix2 0 j) = (W (Proc.devRef .tc main_arg14) : FVec Ideal S192 .f32) (ix1 j) := by
  after_results
  pointwise

/-- The second layer's state bias as a row. -/
theorem v28_at (j : Fin 192) :
    (StableHlo.after hostOps2 W (Proc.devRef .tc main_v28) : FVec Ideal S1x192 .f32) (ix2 0 j) = (W (Proc.devRef .tc main_arg18) : FVec Ideal S192 .f32) (ix1 j) := by
  after_results
  pointwise

/-- The second layer's input bias as a row. -/
theorem v31_at (j : Fin 192) :
    (StableHlo.after hostOps2 W (Proc.devRef .tc main_v31) : FVec Ideal S1x192 .f32) (ix2 0 j) = (W (Proc.devRef .tc main_arg17) : FVec Ideal S192 .f32) (ix1 j) := by
  after_results
  pointwise

end Cert.KernelIdeal.Host
-- ==== Proof.HostAttn.lean ====
/-
  What the host code before the attention launch leaves in the arrays the launch reads, as a function of the contents it found.
-/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Host

open Idealize.ShloMosaic Idealize.ShloMosaic.TcCoe Idealize.SL.Sem
open Cert.KernelIdeal Cert.KernelIdeal.Gen

variable (W : Valuation τ sig (Elt Ideal))

/-- The recurrent stage's states with the rows first. -/
theorem v33_at (n : Fin 8192) (t : Fin 16) (k : Fin 64) :
    (StableHlo.after hostOps3 W (Proc.devRef .tc main_v33) : FVec Ideal S8192x16x64 .f32) (ix3 n t k) = (W (Proc.devRef .tc main_v32) : FVec Ideal S16x8192x64 .f32) (ix3 t n k) := by
  after_results
  pointwise

/-- The query weights, transposed. -/
theorem v55_at (k c : Fin 64) :
    (StableHlo.after hostOps3_8 W (Proc.devRef .tc main_v55) : FVec Ideal S64x64 .bf16) (ix2 k c) = (W (Proc.devRef .tc main_arg19) : FVec Ideal S64x64 .f32) (ix2 c k) := by
  after_results
  pointwise

/-- The key weights, transposed. -/
theorem v58_at (k c : Fin 64) :
    (StableHlo.after hostOps3_8 W (Proc.devRef .tc main_v58) : FVec Ideal S64x64 .bf16) (ix2 k c) = (W (Proc.devRef .tc main_arg21) : FVec Ideal S64x64 .f32) (ix2 c k) := by
  after_results
  pointwise

/-- The value weights, transposed. -/
theorem v61_at (k c : Fin 64) :
    (StableHlo.after hostOps3_8 W (Proc.devRef .tc main_v61) : FVec Ideal S64x64 .bf16) (ix2 k c) = (W (Proc.devRef .tc main_arg23) : FVec Ideal S64x64 .f32) (ix2 c k) := by
  after_results
  pointwise

/-- The output weights, transposed. -/
theorem v64_at (k c : Fin 64) :
    (StableHlo.after hostOps3_8 W (Proc.devRef .tc main_v64) : FVec Ideal S64x64 .bf16) (ix2 k c) = (W (Proc.devRef .tc main_arg25) : FVec Ideal S64x64 .f32) (ix2 c k) := by
  after_results
  pointwise

/-- The query bias as a row. -/
theorem v56_at (c : Fin 64) :
    (StableHlo.after hostOps3_8 W (Proc.devRef .tc main_v56) : FVec Ideal S1x64 .f32) (ix2 0 c) = (W (Proc.devRef .tc main_arg20) : FVec Ideal S64 .f32) (ix1 c) := by
  after_results
  pointwise

/-- The key bias as a row. -/
theorem v59_at (c : Fin 64) :
    (StableHlo.after hostOps3_8 W (Proc.devRef .tc main_v59) : FVec Ideal S1x64 .f32) (ix2 0 c) = (W (Proc.devRef .tc main_arg22) : FVec Ideal S64 .f32) (ix1 c) := by
  after_results
  pointwise

/-- The value bias as a row. -/
theorem v62_at (c : Fin 64) :
    (StableHlo.after hostOps3_8 W (Proc.devRef .tc main_v62) : FVec Ideal S1x64 .f32) (ix2 0 c) = (W (Proc.devRef .tc main_arg24) : FVec Ideal S64 .f32) (ix1 c) := by
  after_results
  pointwise

/-- The output bias as a row. -/
theorem v65_at (c : Fin 64) :
    (StableHlo.after hostOps3_8 W (Proc.devRef .tc main_v65) : FVec Ideal S1x64 .f32) (ix2 0 c) = (W (Proc.devRef .tc main_arg26) : FVec Ideal S64 .f32) (ix1 c) := by
  after_results
  pointwise

/-- The normalisation's scale as a row. -/
theorem v66_at (c : Fin 64) :
    (StableHlo.after hostOps3_8 W (Proc.devRef .tc main_v66) : FVec Ideal S1x64 .f32) (ix2 0 c) = (W (Proc.devRef .tc main_arg27) : FVec Ideal S64 .f32) (ix1 c) := by
  after_results
  pointwise

/-- The normalisation's shift as a row. -/
theorem v67_at (c : Fin 64) :
    (StableHlo.after hostOps3_8 W (Proc.devRef .tc main_v67) : FVec Ideal S1x64 .f32) (ix2 0 c) = (W (Proc.devRef .tc main_arg28) : FVec Ideal S64 .f32) (ix1 c) := by
  after_results
  pointwise

/-- The first closing layer's weights, transposed. -/
theorem v69_at (k : Fin 1024) (f : Fin 256) :
    (StableHlo.after hostOps3_8 W (Proc.devRef .tc main_v69) : FVec Ideal S1024x256 .bf16) (ix2 k f) = (W (Proc.devRef .tc main_arg29) : FVec Ideal S256x1024 .f32) (ix2 f k) := by
  after_results
  pointwise

/-- The first closing layer's bias as a row. -/
theorem v70_at (f : Fin 256) :
    (StableHlo.after hostOps3_8 W (Proc.devRef .tc main_v70) : FVec Ideal S1x256 .f32) (ix2 0 f) = (W (Proc.devRef .tc main_arg30) : FVec Ideal S256 .f32) (ix1 f) := by
  after_results
  pointwise

/-- The second closing layer's weights, transposed. -/
theorem v72_at (f : Fin 256) (o : Fin 2) :
    (StableHlo.after hostOps3_8 W (Proc.devRef .tc main_v72) : FVec Ideal S256x2 .bf16) (ix2 f o) = (W (Proc.devRef .tc main_arg31) : FVec Ideal S2x256 .f32) (ix2 o f) := by
  after_results
  pointwise

/-! The two tables the host code makes: the mask and the lanes of one head. -/

/-- The steps' numbers. -/
theorem v34_eq : (StableHlo.after hostOps3 W (Proc.devRef .tc main_v34) : IVec S16 32) = iotaInDim S16 32 0 := by after_results
/-- The lanes' numbers. -/
theorem v35_eq : (StableHlo.after hostOps3 W (Proc.devRef .tc main_v35) : IVec S64 32) = iotaInDim S64 32 0 := by after_results
/-- The divisor of the lanes' numbers. -/
theorem c_eq : (StableHlo.after hostOps3 W (Proc.devRef .tc main_c) : IVec S_ 32) = constantI S_ 32 16#32 := by after_results

/-- A lane's key step. -/
theorem v36_at (h : (W (Proc.devRef .tc main_v35) : IVec S64 32) = iotaInDim S64 32 0) (hc : (W (Proc.devRef .tc main_c) : IVec S_ 32) = constantI S_ 32 16#32) :
    ∀ l : Fin 64, (StableHlo.after hostOps3_1 W (Proc.devRef .tc main_v36) : IVec S64 32) (ix1 l) = BitVec.ofNat 32 (l.val % 16) := by
  after_results
  rw [h, hc]
  decide +kernel

/-- Whether a lane's key step is at most the query step. -/
theorem v41_at (t : Fin 16) (l : Fin 64) : (StableHlo.after hostOps3_2 W (Proc.devRef .tc main_v41) : IVec S16x64 1) (ix2 t l)
    = IntOp.cmpi .sle ((W (Proc.devRef .tc main_v36) : IVec S64 32) (ix1 l)) ((W (Proc.devRef .tc main_v34) : IVec S16 32) (ix1 t)) := by
  after_results
  pointwise

/-- The mask's entry where a place counts. -/
theorem cst0_eq : (StableHlo.after hostOps3_2 W (Proc.devRef .tc main_cst_0) : FVec Ideal S_ .f32) = constant (F := Ideal) S_ .f32 0x00000000#32 := by after_results
/-- The mask's entry where a place is left out. -/
theorem cst1_eq : (StableHlo.after hostOps3_2 W (Proc.devRef .tc main_cst_1) : FVec Ideal S_ .f32) = constant (F := Ideal) S_ .f32 0x3F800000#32 := by after_results

/-- The mask: zero where the comparison holds, one elsewhere. -/
theorem v42_at (t : Fin 16) (l : Fin 64) : (StableHlo.after hostOps3_3 W (Proc.devRef .tc main_v42) : FVec Ideal S16x64 .f32) (ix2 t l)
    = (if (W (Proc.devRef .tc main_v41) : IVec S16x64 1) (ix2 t l) = 1#1 then (W (Proc.devRef .tc main_cst_0) : FVec Ideal S_ .f32) ix0 else (W (Proc.devRef .tc main_cst_1) : FVec Ideal S_ .f32) ix0) := by
  after_results
  refine (congrFun (show _ = select (W (Proc.devRef .tc main_v41) : IVec S16x64 1)
    (broadcastInDim S16x64 ![] bcast_S_S16x64 (W (Proc.devRef .tc main_cst_0) : FVec Ideal S_ .f32))
    (broadcastInDim S16x64 ![] bcast_S_S16x64 (W (Proc.devRef .tc main_cst_1) : FVec Ideal S_ .f32)) from rfl) (ix2 t l)).trans ?_
  pointwise
  rfl

/-- The mask passes this stretch of operations unchanged. -/
theorem v43_eq : (StableHlo.after hostOps3_4 W (Proc.devRef .tc main_v43) : FVec Ideal S16x64 .f32) = (W (Proc.devRef .tc main_v42) : FVec Ideal S16x64 .f32) := by
  after_results
  rfl

/-- The lanes' numbers down a column. -/
theorem v45_eq : ∀ m : Fin 64, (StableHlo.after hostOps3_4 W (Proc.devRef .tc main_v45) : IVec S64x1 32) (ix2 m 0) = BitVec.ofNat 32 m.val := by
  after_results
  decide +kernel
/-- The divisor of the column's numbers. -/
theorem c2_eq : (StableHlo.after hostOps3_4 W (Proc.devRef .tc main_c_2) : IVec S_ 32) = constantI S_ 32 16#32 := by after_results

/-- A row lane's head. -/
theorem v46_at (h : ∀ m : Fin 64, (W (Proc.devRef .tc main_v45) : IVec S64x1 32) (ix2 m 0) = BitVec.ofNat 32 m.val)
    (hc : (W (Proc.devRef .tc main_c_2) : IVec S_ 32) = constantI S_ 32 16#32) :
    ∀ m : Fin 64, (StableHlo.after hostOps3_5 W (Proc.devRef .tc main_v46) : IVec S64x1 32) (ix2 m 0) = BitVec.ofNat 32 (m.val / 16) := by
  have e : (W (Proc.devRef .tc main_v45) : IVec S64x1 32) = fun i => BitVec.ofNat 32 (i 0).val := by
    funext i
    refine (congrArg _ ((eq_ix2 i).trans (congrArg (ix2 (i 0)) (Fin.ext (by have h1 : (i 1).val < 1 := (i 1).isLt; change (i 1).val = 0; omega))))).trans (h (i 0))
  after_results
  rw [e, hc]
  decide +kernel

/-- The lanes' numbers along a row. -/
theorem v48_at : ∀ l : Fin 64, (StableHlo.after hostOps3_6 W (Proc.devRef .tc main_v48) : IVec S1x64 32) (ix2 0 l) = BitVec.ofNat 32 l.val := by
  after_results
  decide +kernel
/-- The divisor of the row's numbers. -/
theorem c3_eq : (StableHlo.after hostOps3_6 W (Proc.devRef .tc main_c_3) : IVec S_ 32) = constantI S_ 32 16#32 := by after_results

/-- A column lane's head. -/
theorem v49_at (h : ∀ l : Fin 64, (W (Proc.devRef .tc main_v48) : IVec S1x64 32) (ix2 0 l) = BitVec.ofNat 32 l.val)
    (hc : (W (Proc.devRef .tc main_c_3) : IVec S_ 32) = constantI S_ 32 16#32) :
    ∀ l : Fin 64, (StableHlo.after hostOps3_7 W (Proc.devRef .tc main_v49) : IVec S1x64 32) (ix2 0 l) = BitVec.ofNat 32 (l.val / 16) := by
  have e : (W (Proc.devRef .tc main_v48) : IVec S1x64 32) = fun i => BitVec.ofNat 32 (i 1).val := by
    funext i
    refine (congrArg _ ((eq_ix2 i).trans (congrArg (ix2 · (i 1)) (Fin.ext (by have h1 : (i 0).val < 1 := (i 0).isLt; change (i 0).val = 0; omega))))).trans (h (i 1))
  after_results
  rw [e, hc]
  decide +kernel

/-- The lanes of one head. -/
theorem v53_at (m l : Fin 64) : (StableHlo.after hostOps3_8 W (Proc.devRef .tc main_v53) : FVec Ideal S64x64 .bf16) (ix2 m l)
    = FloatOps.uitofp (F := Ideal) .bf16 (IntOp.cmpi .eq ((W (Proc.devRef .tc main_v46) : IVec S64x1 32) (ix2 m 0)) ((W (Proc.devRef .tc main_v49) : IVec S1x64 32) (ix2 0 l))) := by
  after_results
  pointwise

end Cert.KernelIdeal.Host
-- ==== Proof.GruSpec.lean ====
/-
  The mathematics of the recurrent stage: the gated cell in the two forms it is written in, two stacked layers
  stepped together from zero, and that the two forms give the same states, all of them real numbers.
-/
module

public import Idealize.ShloMosaic.Lib.Pointwise

@[expose] public section

noncomputable section

namespace Cert.Spec

open Idealize.ShloMosaic

/-- A row through a linear layer with 192 outputs. -/
def lin (h : Fin 64 → EReal) (w : Fin 64 → Fin 192 → EReal) (b : Fin 192 → EReal) (j : Fin 192) : EReal :=
  (∑ k : Fin 64, h k * w k j) + b j

/-- The reset gate. -/
def reset (g gh : Fin 192 → EReal) (d : Fin 64) : EReal :=
  Ideal.logistic (g ⟨d.val, by omega⟩ + gh ⟨d.val, by omega⟩)

/-- The update gate. -/
def update (g gh : Fin 192 → EReal) (d : Fin 64) : EReal :=
  Ideal.logistic (g ⟨64 + d.val, by omega⟩ + gh ⟨64 + d.val, by omega⟩)

/-- The new candidate. -/
def cand (g gh : Fin 192 → EReal) (d : Fin 64) : EReal :=
  Ideal.tanh (g ⟨128 + d.val, by omega⟩ + reset g gh d * gh ⟨128 + d.val, by omega⟩)

/-- The cell as `n + z (h - n)`. -/
def cellK (g gh : Fin 192 → EReal) (h : Fin 64 → EReal) (d : Fin 64) : EReal :=
  cand g gh d + update g gh d * (h d - cand g gh d)

/-- The cell as `(1 - z) n + z h`. -/
def cellR (g gh : Fin 192 → EReal) (h : Fin 64 → EReal) (d : Fin 64) : EReal :=
  (1 - update g gh d) * cand g gh d + update g gh d * h d

/-- The states of the two stacked layers after `t` steps over the sequence `x`, with the cell `c`. -/
def states (c : (Fin 192 → EReal) → (Fin 192 → EReal) → (Fin 64 → EReal) → Fin 64 → EReal) (x : ℕ → Fin 64 → EReal)
    (wi0 : Fin 64 → Fin 192 → EReal) (bi0 : Fin 192 → EReal) (wh0 : Fin 64 → Fin 192 → EReal) (bh0 : Fin 192 → EReal)
    (wi1 : Fin 64 → Fin 192 → EReal) (bi1 : Fin 192 → EReal) (wh1 : Fin 64 → Fin 192 → EReal) (bh1 : Fin 192 → EReal) :
    ℕ → (Fin 64 → EReal) × (Fin 64 → EReal)
  | 0 => (fun _ => 0, fun _ => 0)
  | t + 1 =>
    let s := states c x wi0 bi0 wh0 bh0 wi1 bi1 wh1 bh1 t
    let h := c (lin (x t) wi0 bi0) (lin s.1 wh0 bh0) s.1
    (h, c (lin h wi1 bi1) (lin s.2 wh1 bh1) s.2)

/-- The states of one layer after `t` steps over the sequence `x`, with the cell `c`. -/
def single (c : (Fin 192 → EReal) → (Fin 192 → EReal) → (Fin 64 → EReal) → Fin 64 → EReal) (x : ℕ → Fin 64 → EReal)
    (wi : Fin 64 → Fin 192 → EReal) (bi : Fin 192 → EReal) (wh : Fin 64 → Fin 192 → EReal) (bh : Fin 192 → EReal) : ℕ → Fin 64 → EReal
  | 0 => fun _ => 0
  | t + 1 => c (lin (x t) wi bi) (lin (single c x wi bi wh bh t) wh bh) (single c x wi bi wh bh t)

/-- Two layers stepped together are the first layer over the sequence and the second over the first one's states. -/
theorem states_single (c : (Fin 192 → EReal) → (Fin 192 → EReal) → (Fin 64 → EReal) → Fin 64 → EReal) (x : ℕ → Fin 64 → EReal)
    (wi0 : Fin 64 → Fin 192 → EReal) (bi0 : Fin 192 → EReal) (wh0 : Fin 64 → Fin 192 → EReal) (bh0 : Fin 192 → EReal)
    (wi1 : Fin 64 → Fin 192 → EReal) (bi1 : Fin 192 → EReal) (wh1 : Fin 64 → Fin 192 → EReal) (bh1 : Fin 192 → EReal) (t : ℕ) :
    states c x wi0 bi0 wh0 bh0 wi1 bi1 wh1 bh1 t
      = (single c x wi0 bi0 wh0 bh0 t, single c (fun s => single c x wi0 bi0 wh0 bh0 (s + 1)) wi1 bi1 wh1 bh1 t) := by
  induction t with
  | zero => rfl
  | succ t ih => simp only [states, ih]; rfl

/-- The states of a layer after at most 16 steps depend on the sequence's first 16 entries. -/
theorem single_congr (c : (Fin 192 → EReal) → (Fin 192 → EReal) → (Fin 64 → EReal) → Fin 64 → EReal) {x x' : ℕ → Fin 64 → EReal}
    (wi : Fin 64 → Fin 192 → EReal) (bi : Fin 192 → EReal) (wh : Fin 64 → Fin 192 → EReal) (bh : Fin 192 → EReal) (hx : ∀ s < 16, x s = x' s) :
    ∀ t ≤ 16, single c x wi bi wh bh t = single c x' wi bi wh bh t
  | 0, _ => rfl
  | t + 1, h => by
    unfold single
    rw [single_congr c wi bi wh bh hx t (by omega), hx t (by omega)]

/-- An extended real that is a real number. -/
def Real' (x : EReal) : Prop := ∃ r : ℝ, x = (r : EReal)

/-- The hyperbolic tangent is a real number everywhere. -/
theorem real_tanh (x : EReal) : Real' (Ideal.tanh x) := by
  induction x with
  | bot => exact ⟨-1, by rw [EReal.coe_neg]; rfl⟩
  | top => exact ⟨1, rfl⟩
  | coe r => exact ⟨Real.tanh r, rfl⟩

/-- The logistic function is a real number everywhere. -/
theorem real_logistic (x : EReal) : Real' (Ideal.logistic x) := by
  induction x with
  | bot =>
    refine ⟨0, ?_⟩
    rw [Ideal.logistic, EReal.neg_bot, show Ideal.exp ⊤ = ⊤ from rfl, EReal.add_top_of_ne_bot (by rw [← EReal.coe_one]; exact EReal.coe_ne_bot 1)]
    simp [Ideal.div]
  | top =>
    refine ⟨1, ?_⟩
    rw [Ideal.logistic, EReal.neg_top, show Ideal.exp ⊥ = 0 from rfl]
    simp [Ideal.div]
  | coe r =>
    refine ⟨(1 + Real.exp (-r))⁻¹, ?_⟩
    have h : (1 + Real.exp (-r)) ≠ 0 := by positivity
    have e : (1 : EReal) + Ideal.exp (-(r : EReal)) = ((1 + Real.exp (-r) : ℝ) : EReal) := by
      rw [← EReal.coe_neg, EReal.coe_add]; rfl
    rw [Ideal.logistic, e, Ideal.div, if_neg (by exact_mod_cast h), one_mul, EReal.coe_inv]

/-- At a real state the two forms of the cell agree and give a real number. -/
theorem cell_eq (g gh : Fin 192 → EReal) (h : Fin 64 → EReal) (d : Fin 64) (hh : Real' (h d)) :
    cellK g gh h d = cellR g gh h d ∧ Real' (cellR g gh h d) := by
  obtain ⟨z, hz⟩ : Real' (update g gh d) := real_logistic _
  obtain ⟨n, hn⟩ : Real' (cand g gh d) := real_tanh _
  obtain ⟨r, hr⟩ := hh
  rw [cellK, cellR, hz, hn, hr, ← EReal.coe_one]
  norm_cast
  exact ⟨by ring, ⟨_, rfl⟩⟩

section
variable (x : ℕ → Fin 64 → EReal)
    (wi0 : Fin 64 → Fin 192 → EReal) (bi0 : Fin 192 → EReal) (wh0 : Fin 64 → Fin 192 → EReal) (bh0 : Fin 192 → EReal)
    (wi1 : Fin 64 → Fin 192 → EReal) (bi1 : Fin 192 → EReal) (wh1 : Fin 64 → Fin 192 → EReal) (bh1 : Fin 192 → EReal)

/-- The states are real, and the same with either form of the cell. -/
theorem states_eq (t : ℕ) :
    states cellK x wi0 bi0 wh0 bh0 wi1 bi1 wh1 bh1 t = states cellR x wi0 bi0 wh0 bh0 wi1 bi1 wh1 bh1 t
    ∧ ∀ d, Real' ((states cellR x wi0 bi0 wh0 bh0 wi1 bi1 wh1 bh1 t).1 d) ∧ Real' ((states cellR x wi0 bi0 wh0 bh0 wi1 bi1 wh1 bh1 t).2 d) := by
  induction t with
  | zero => exact ⟨rfl, fun d => ⟨⟨0, rfl⟩, ⟨0, rfl⟩⟩⟩
  | succ t ih =>
    obtain ⟨e, hr⟩ := ih
    simp only [states]
    rw [e]
    generalize states cellR x wi0 bi0 wh0 bh0 wi1 bi1 wh1 bh1 t = s at hr
    have h1 : cellK (lin (x t) wi0 bi0) (lin s.1 wh0 bh0) s.1 = cellR (lin (x t) wi0 bi0) (lin s.1 wh0 bh0) s.1 :=
      funext fun d => (cell_eq _ _ _ d (hr d).1).1
    rw [h1]
    refine ⟨Prod.ext rfl (funext fun d => (cell_eq _ _ _ d (hr d).2).1), fun d => ⟨(cell_eq _ _ _ d (hr d).1).2, (cell_eq _ _ _ d (hr d).2).2⟩⟩

end

/-- The states depend on nothing but the inputs' entries. -/
theorem states_congr {c : (Fin 192 → EReal) → (Fin 192 → EReal) → (Fin 64 → EReal) → Fin 64 → EReal} {x x' : ℕ → Fin 64 → EReal}
    {wi0 wi0' wh0 wh0' wi1 wi1' wh1 wh1' : Fin 64 → Fin 192 → EReal} {bi0 bi0' bh0 bh0' bi1 bi1' bh1 bh1' : Fin 192 → EReal} {t t' : ℕ} {d d' : Fin 64}
    (hx : ∀ t k, x t k = x' t k) (h1 : ∀ k j, wi0 k j = wi0' k j) (h2 : ∀ j, bi0 j = bi0' j) (h3 : ∀ k j, wh0 k j = wh0' k j) (h4 : ∀ j, bh0 j = bh0' j)
    (h5 : ∀ k j, wi1 k j = wi1' k j) (h6 : ∀ j, bi1 j = bi1' j) (h7 : ∀ k j, wh1 k j = wh1' k j) (h8 : ∀ j, bh1 j = bh1' j) (ht : t = t') (hd : d = d') :
    (states c x wi0 bi0 wh0 bh0 wi1 bi1 wh1 bh1 t).2 d = (states c x' wi0' bi0' wh0' bh0' wi1' bi1' wh1' bh1' t').2 d' := by
  obtain rfl : x = x' := funext₂ hx
  obtain rfl : wi0 = wi0' := funext₂ h1
  obtain rfl : bi0 = bi0' := funext h2
  obtain rfl : wh0 = wh0' := funext₂ h3
  obtain rfl : bh0 = bh0' := funext h4
  obtain rfl : wi1 = wi1' := funext₂ h5
  obtain rfl : bi1 = bi1' := funext h6
  obtain rfl : wh1 = wh1' := funext₂ h7
  obtain rfl : bh1 = bh1' := funext h8
  rw [ht, hd]

end Cert.Spec
-- ==== Proof.GruBlock.lean ====
/-
  The recurrent kernel's block: the 16 unrolled steps are 16 applications of one step on whole blocks, and the
  block stored at a step is the second layer's state.
-/
module

public import proofs.«01_k».proof.Proof.Gen.KernelIdeal.Frame.Region2
public import proofs.«01_k».proof.Proof.GruSpec
public import Idealize.ShloMosaic.Lib.Pointwise
public import Idealize.ShloMosaic.Lib.Pipeline.ValueKit

@[expose] public section

set_option maxRecDepth 16384

noncomputable section

namespace Cert.KernelIdeal.Gru

open Idealize.ShloMosaic Idealize.ShloMosaic.TcCoe Idealize.SL.Sem
open Idealize.ShloMosaic.Pipeline (Dat)
open Cert.KernelIdeal Cert.KernelIdeal.Gen

/-- A block of rows through a linear layer: the product with the weights plus the bias. -/
def linear (h : FVec Ideal S512x64 .f32) (w : FVec Ideal S64x192 .bf16) (b : FVec Ideal S1x192 .f32) : FVec Ideal S512x192 .f32 :=
  addf (matmul dot_S512x64_S64x192_S512x192_1_0_0_1_n_n none (truncf .bf16 h bitsLt_bf16_f32) w (constant S512x192 .f32 0x00000000#32))
    (broadcastTo S512x192 b broadcasts_S1x192_S512x192)

/-- The cell on a block: `n + z (h - n)`. -/
def cell (g gh : FVec Ideal S512x192 .f32) (h : FVec Ideal S512x64 .f32) : FVec Ideal S512x64 .f32 :=
  k2_pay14 h gh g

/-- Every step has its slab of inputs. -/
theorem slab_inb (t : Fin 16) : S16x512x192.Slices ![t.val, 0, 0] S1x512x192 := by
  revert t; decide +kernel

/-- The inputs of step `t`, through the first layer's input weights. -/
def slab (g : FVec Ideal S16x512x192 .f32) (t : Fin 16) : FVec Ideal S512x192 .f32 :=
  shapeCast S512x192 (extractStridedSlice S1x512x192 ![t.val, 0, 0] g (slab_inb t)) shapeCasts_S1x512x192_S512x192

/-- The states of the two layers after `t` steps on a block, from the first layer's inputs `g` of every step. -/
def st (g : FVec Ideal S16x512x192 .f32) (w12 : FVec Ideal S64x192 .bf16) (b18 : FVec Ideal S1x192 .f32)
    (w14 : FVec Ideal S64x192 .bf16) (b20 : FVec Ideal S1x192 .f32) (w16 : FVec Ideal S64x192 .bf16) (b22 : FVec Ideal S1x192 .f32) :
    ℕ → FVec Ideal S512x64 .f32 × FVec Ideal S512x64 .f32
  | 0 => (k2_pay9, k2_pay10)
  | t + 1 =>
    let s := st g w12 b18 w14 b20 w16 b22 t
    let h := cell (slab g ⟨t % 16, Nat.mod_lt _ (by norm_num)⟩) (linear s.1 w12 b18) s.1
    (h, cell (linear h w16 b22) (linear s.2 w14 b20) s.2)

section
variable (x0 : Vec Ideal S16x512x64 .bf16) (x1 : Vec Ideal S64x192 .bf16) (x2 : Vec Ideal S1x192 .f32) (x3 x4 : Vec Ideal S64x192 .bf16)
    (x5 x6 : Vec Ideal S1x192 .f32) (x7 : Vec Ideal S64x192 .bf16) (x8 : Vec Ideal S1x192 .f32)

/-- The states of the two layers after `t` steps, from the input blocks. -/
def S (t : ℕ) : FVec Ideal S512x64 .f32 × FVec Ideal S512x64 .f32 :=
  st (k2_pay101 x0 x1 x2 x3 x4 x5 x6 x7 x8) (k2_pay102 x0 x1 x2 x3 x4 x5 x6 x7 x8) (k2_pay105 x0 x1 x2 x3 x4 x5 x6 x7 x8) (k2_pay103 x0 x1 x2 x3 x4 x5 x6 x7 x8) (k2_pay106 x0 x1 x2 x3 x4 x5 x6 x7 x8) (k2_pay104 x0 x1 x2 x3 x4 x5 x6 x7 x8) (k2_pay107 x0 x1 x2 x3 x4 x5 x6 x7 x8) t

/-- One step of the first layer, from its inputs of that step. -/
theorem first (t : ℕ) : (S x0 x1 x2 x3 x4 x5 x6 x7 x8 (t + 1)).1
    = cell (slab (k2_pay101 x0 x1 x2 x3 x4 x5 x6 x7 x8) ⟨t % 16, Nat.mod_lt _ (by norm_num)⟩) (linear (S x0 x1 x2 x3 x4 x5 x6 x7 x8 t).1 (k2_pay102 x0 x1 x2 x3 x4 x5 x6 x7 x8) (k2_pay105 x0 x1 x2 x3 x4 x5 x6 x7 x8)) (S x0 x1 x2 x3 x4 x5 x6 x7 x8 t).1 := rfl

/-- One step of the second layer, from the first one's new state. -/
theorem second (t : ℕ) : (S x0 x1 x2 x3 x4 x5 x6 x7 x8 (t + 1)).2
    = cell (linear (S x0 x1 x2 x3 x4 x5 x6 x7 x8 (t + 1)).1 (k2_pay104 x0 x1 x2 x3 x4 x5 x6 x7 x8) (k2_pay107 x0 x1 x2 x3 x4 x5 x6 x7 x8)) (linear (S x0 x1 x2 x3 x4 x5 x6 x7 x8 t).2 (k2_pay103 x0 x1 x2 x3 x4 x5 x6 x7 x8) (k2_pay106 x0 x1 x2 x3 x4 x5 x6 x7 x8)) (S x0 x1 x2 x3 x4 x5 x6 x7 x8 t).2 := rfl

/-- The second layer's state after `t` steps, as the one-step slab it is stored in. -/
def stored (t : ℕ) : FVec Ideal S1x512x64 .f32 :=
  shapeCast S1x512x64 (S x0 x1 x2 x3 x4 x5 x6 x7 x8 t).2 shapeCasts_S512x64_S1x512x64

/-- The 16 unrolled steps are 16 steps of the recurrence, and the slab stored at each is the second layer's state after it. -/
theorem out_eq : out2_9 (F := Ideal) x0 x1 x2 x3 x4 x5 x6 x7 x8
    = View.canon [⟨r2_18, stored x0 x1 x2 x3 x4 x5 x6 x7 x8 16⟩, ⟨r2_17, stored x0 x1 x2 x3 x4 x5 x6 x7 x8 15⟩, ⟨r2_16, stored x0 x1 x2 x3 x4 x5 x6 x7 x8 14⟩, ⟨r2_15, stored x0 x1 x2 x3 x4 x5 x6 x7 x8 13⟩,
      ⟨r2_14, stored x0 x1 x2 x3 x4 x5 x6 x7 x8 12⟩, ⟨r2_13, stored x0 x1 x2 x3 x4 x5 x6 x7 x8 11⟩, ⟨r2_12, stored x0 x1 x2 x3 x4 x5 x6 x7 x8 10⟩, ⟨r2_11, stored x0 x1 x2 x3 x4 x5 x6 x7 x8 9⟩,
      ⟨r2_10, stored x0 x1 x2 x3 x4 x5 x6 x7 x8 8⟩, ⟨r2_9, stored x0 x1 x2 x3 x4 x5 x6 x7 x8 7⟩, ⟨r2_8, stored x0 x1 x2 x3 x4 x5 x6 x7 x8 6⟩, ⟨r2_7, stored x0 x1 x2 x3 x4 x5 x6 x7 x8 5⟩,
      ⟨r2_6, stored x0 x1 x2 x3 x4 x5 x6 x7 x8 4⟩, ⟨r2_5, stored x0 x1 x2 x3 x4 x5 x6 x7 x8 3⟩, ⟨r2_4, stored x0 x1 x2 x3 x4 x5 x6 x7 x8 2⟩, ⟨r2_3, stored x0 x1 x2 x3 x4 x5 x6 x7 x8 1⟩] := rfl

/-- A stored slab at a row and a unit is the block it was made of there. -/
theorem slab_at (v : FVec Ideal S512x64 .f32) (x : S1x512x64.Idx) (n : Fin 512) (d : Fin 64) (h1 : (x 1).val = n.val) (h2 : (x 2).val = d.val) :
    shapeCast S1x512x64 v shapeCasts_S512x64_S1x512x64 x = v (ix2 n d) := by
  pointwise
  refine congrArg₂ (fun a b => v (ix2 a b)) (Fin.ext ?_) (Fin.ext ?_) <;> dsimp only <;> omega

/-- The output block at step `t`, row `n`, unit `d`: the second layer's state after that step. -/
theorem out_at (y : S16x512x64.Idx) (t : Fin 16) (n : Fin 512) (d : Fin 64)
    (h0 : (y 0).val = t.val) (h1 : (y 1).val = n.val) (h2 : (y 2).val = d.val) :
    out2_9 (F := Ideal) x0 x1 x2 x3 x4 x5 x6 x7 x8 y = (S x0 x1 x2 x3 x4 x5 x6 x7 x8 (t.val + 1)).2 (ix2 n d) := by
  rw [out_eq]
  canon_tiles x hx
  all_goals
    rw [stored, slab_at _ x n d (by omega) (by omega)]
    exact congrArg (fun k => (S x0 x1 x2 x3 x4 x5 x6 x7 x8 k).2 (ix2 n d)) (by omega)

end

end Cert.KernelIdeal.Gru
-- ==== Proof.GruPoint.lean ====
/-
  The recurrent kernel's block at an index: each row runs through the two stacked layers of `Spec.states`.
-/
module

public import proofs.«01_k».proof.Proof.GruBlock

@[expose] public section

noncomputable section

namespace Cert.KernelIdeal.Gru

open Idealize.ShloMosaic Idealize.ShloMosaic.TcCoe Idealize.SL.Sem
open Cert.KernelIdeal Cert.KernelIdeal.Gen

/-- A linear layer at an index. -/
theorem linear_at (h : FVec Ideal S512x64 .f32) (w : FVec Ideal S64x192 .bf16) (b : FVec Ideal S1x192 .f32) (n : Fin 512) (j : Fin 192) :
    linear h w b (ix2 n j) = Spec.lin (fun k => h (ix2 n k)) (fun k j => w (ix2 k j)) (fun j => b (ix2 0 j)) j := by
  unfold Spec.lin
  pointwise [linear]

/-- The cell at an index. -/
theorem cell_at (g gh : FVec Ideal S512x192 .f32) (h : FVec Ideal S512x64 .f32) (n : Fin 512) (d : Fin 64) :
    cell g gh h (ix2 n d) = Spec.cellK (fun j => g (ix2 n j)) (fun j => gh (ix2 n j)) (fun d => h (ix2 n d)) d := by
  unfold Spec.cellK Spec.cand Spec.update Spec.reset
  pointwise [cell, k2_pay14]

/-- One step's inputs at an index. -/
theorem step_at (g : FVec Ideal S16x512x192 .f32) (t : Fin 16) (n : Fin 512) (j : Fin 192) :
    slab g t (ix2 n j) = g (ix3 t n j) := by
  pointwise [slab]

section
variable (x0 : Vec Ideal S16x512x64 .bf16) (x1 : Vec Ideal S64x192 .bf16) (x2 : Vec Ideal S1x192 .f32) (x3 x4 : Vec Ideal S64x192 .bf16)
    (x5 x6 : Vec Ideal S1x192 .f32) (x7 : Vec Ideal S64x192 .bf16) (x8 : Vec Ideal S1x192 .f32)

/-- The first layer's inputs of every step. -/
theorem gx_at (t : Fin 16) (n : Fin 512) (j : Fin 192) :
    k2_pay101 (F := Ideal) x0 x1 x2 x3 x4 x5 x6 x7 x8 (ix3 t n j)
      = Spec.lin (fun k => x0 (ix3 t n k)) (fun k j => x1 (ix2 k j)) (fun j => x2 (ix2 0 j)) j := by
  unfold Spec.lin
  pointwise [k2_pay101, k2_pay2]

/-- The first layer's hidden weight is read whole. -/
theorem w12_at (k : Fin 64) (j : Fin 192) : k2_pay102 (F := Ideal) x0 x1 x2 x3 x4 x5 x6 x7 x8 (ix2 k j) = x3 (ix2 k j) := by
  pointwise [k2_pay102, k2_pay3]
/-- The second layer's hidden weight is read whole. -/
theorem w14_at (k : Fin 64) (j : Fin 192) : k2_pay103 (F := Ideal) x0 x1 x2 x3 x4 x5 x6 x7 x8 (ix2 k j) = x4 (ix2 k j) := by
  pointwise [k2_pay103, k2_pay4]
/-- The second layer's input weight is read whole. -/
theorem w16_at (k : Fin 64) (j : Fin 192) : k2_pay104 (F := Ideal) x0 x1 x2 x3 x4 x5 x6 x7 x8 (ix2 k j) = x7 (ix2 k j) := by
  pointwise [k2_pay104, k2_pay5]
/-- The first layer's hidden bias is read whole. -/
theorem b18_at (j : Fin 192) : k2_pay105 (F := Ideal) x0 x1 x2 x3 x4 x5 x6 x7 x8 (ix2 0 j) = x5 (ix2 0 j) := by
  pointwise [k2_pay105, k2_pay6]
/-- The second layer's hidden bias is read whole. -/
theorem b20_at (j : Fin 192) : k2_pay106 (F := Ideal) x0 x1 x2 x3 x4 x5 x6 x7 x8 (ix2 0 j) = x6 (ix2 0 j) := by
  pointwise [k2_pay106, k2_pay7]
/-- The second layer's input bias is read whole. -/
theorem b22_at (j : Fin 192) : k2_pay107 (F := Ideal) x0 x1 x2 x3 x4 x5 x6 x7 x8 (ix2 0 j) = x8 (ix2 0 j) := by
  pointwise [k2_pay107, k2_pay8]

/-- The states of a row's two layers. -/
abbrev rowStates (n : Fin 512) : ℕ → (Fin 64 → EReal) × (Fin 64 → EReal) :=
  Spec.states Spec.cellK (fun t k => x0 (ix3 ⟨t % 16, Nat.mod_lt _ (by norm_num)⟩ n k)) (fun k j => x1 (ix2 k j)) (fun j => x2 (ix2 0 j))
    (fun k j => x3 (ix2 k j)) (fun j => x5 (ix2 0 j)) (fun k j => x7 (ix2 k j)) (fun j => x8 (ix2 0 j))
    (fun k j => x4 (ix2 k j)) (fun j => x6 (ix2 0 j))

/-- The block's states are the rows' states. -/
theorem S_at (n : Fin 512) (t : ℕ) :
    (fun d => (S x0 x1 x2 x3 x4 x5 x6 x7 x8 t).1 (ix2 n d)) = (rowStates x0 x1 x2 x3 x4 x5 x6 x7 x8 n t).1 ∧ (fun d => (S x0 x1 x2 x3 x4 x5 x6 x7 x8 t).2 (ix2 n d)) = (rowStates x0 x1 x2 x3 x4 x5 x6 x7 x8 n t).2 := by
  induction t with
  | zero =>
    constructor <;> funext d
    · show k2_pay9 (F := Ideal) (ix2 n d) = 0
      pointwise [k2_pay9]
    · show k2_pay10 (F := Ideal) (ix2 n d) = 0
      pointwise [k2_pay10]
  | succ t ih =>
    have e1 : (fun d => (S x0 x1 x2 x3 x4 x5 x6 x7 x8 (t + 1)).1 (ix2 n d)) = (rowStates x0 x1 x2 x3 x4 x5 x6 x7 x8 n (t + 1)).1 := by
      funext d
      rw [first, cell_at]
      simp only [step_at, linear_at, gx_at, w12_at, b18_at, rowStates, Spec.states, ih.1]
    refine ⟨e1, ?_⟩
    funext d
    rw [second, cell_at]
    simp only [linear_at, w14_at, w16_at, b20_at, b22_at, ih.2, e1]
    simp only [rowStates, Spec.states]

/-- The output block at step `t`, row `n`, unit `d`. -/
theorem out_gru (y : S16x512x64.Idx) (t : Fin 16) (n : Fin 512) (d : Fin 64)
    (h0 : (y 0).val = t.val) (h1 : (y 1).val = n.val) (h2 : (y 2).val = d.val) :
    out2_9 (F := Ideal) x0 x1 x2 x3 x4 x5 x6 x7 x8 y = (rowStates x0 x1 x2 x3 x4 x5 x6 x7 x8 n (t.val + 1)).2 d := by
  rw [out_at x0 x1 x2 x3 x4 x5 x6 x7 x8 y t n d h0 h1 h2]
  exact congrFun (S_at x0 x1 x2 x3 x4 x5 x6 x7 x8 n _).2 d

end

end Cert.KernelIdeal.Gru
-- ==== Proof.GruRegion.lean ====
/-
  The array the recurrent launch leaves: every row's second-layer state after every step.
-/
module

public import proofs.«01_k».proof.Proof.GruPoint

@[expose] public section

set_option maxRecDepth 16384

noncomputable section

namespace Cert.KernelIdeal.Gru

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The windows' block indices: block `t` of the rows, the weights and biases whole. -/
theorem idx2 : ∀ t : Fin cfg2.N, win2_0.index t = ![0, t.val, 0] ∧ win2_1.index t = ![0, 0] ∧ win2_2.index t = ![0, 0]
    ∧ win2_3.index t = ![0, 0] ∧ win2_4.index t = ![0, 0] ∧ win2_5.index t = ![0, 0] ∧ win2_6.index t = ![0, 0] ∧ win2_7.index t = ![0, 0]
    ∧ win2_8.index t = ![0, 0] ∧ win2_9.index t = ![0, t.val, 0] :=
  (by decide +kernel : ∀ t : Fin grid2.N, _)

/-- The recurrent launch's array: row `j 1` after step `j 0`. -/
def gruArr (c : Dev nD) (j : S16x8192x64.Idx) : EReal :=
  (Spec.states Spec.cellK (fun t k => (V c main_v19 : FVec Ideal S16x8192x64 .bf16) (ix3 ⟨t % 16, Nat.mod_lt _ (by norm_num)⟩ (j 1) k))
    (fun k j => (V c main_v21 : FVec Ideal S64x192 .bf16) (ix2 k j)) (fun j => (V c main_v22 : FVec Ideal S1x192 .f32) (ix2 0 j))
    (fun k j => (V c main_v24 : FVec Ideal S64x192 .bf16) (ix2 k j)) (fun j => (V c main_v27 : FVec Ideal S1x192 .f32) (ix2 0 j))
    (fun k j => (V c main_v30 : FVec Ideal S64x192 .bf16) (ix2 k j)) (fun j => (V c main_v31 : FVec Ideal S1x192 .f32) (ix2 0 j))
    (fun k j => (V c main_v26 : FVec Ideal S64x192 .bf16) (ix2 k j)) (fun j => (V c main_v28 : FVec Ideal S1x192 .f32) (ix2 0 j))
    ((j 0).val + 1)).2 (j 2)

set_option maxHeartbeats 1000000 in
/-- The recurrent launch leaves that array. -/
theorem final2 (c : Dev nD) : (dat2 V c).arrAt 9 cfg2.N = gruArr V c := by
  refine (dat2 V c).arrAt_eq_of_covers 9 _ (by decide +kernel) fun i hf y => ?_
  blk_simp
  rw [after2_9]
  refine (out_gru _ _ _ _ _ _ _ _ _ y (y 0) (y 1) (y 2) rfl rfl rfl).trans ?_
  unfold gruArr rowStates
  refine Spec.states_congr ?_ ?_ ?_ ?_ ?_ ?_ ?_ ?_ ?_ ?_ ?_
  · intro t k; blk_ext [iblk2, idx2 i]
  · intro k j; blk_ext [iblk2, idx2 i]
  · intro j; blk_ext [iblk2, idx2 i]
  · intro k j; blk_ext [iblk2, idx2 i]
  · intro j; blk_ext [iblk2, idx2 i]
  · intro k j; blk_ext [iblk2, idx2 i]
  · intro j; blk_ext [iblk2, idx2 i]
  · intro k j; blk_ext [iblk2, idx2 i]
  · intro j; blk_ext [iblk2, idx2 i]
  · blk_simp [idx2 i]
  · refine Fin.ext ?_; blk_simp [idx2 i]

end Cert.KernelIdeal.Gru
-- ==== Proof.AttnSpec.lean ====
/-
  The mathematics of the attention stage, for one row: 16 steps of 64 features, 4 heads of 16 lanes, in the form
  the kernel computes it (one maximum over all heads) and in the form of the reference (one softmax per head),
  the layer normalisation in its two forms, and the two closing linear layers.
-/
module

public import proofs.«01_k».proof.Proof.GruSpec

@[expose] public section

noncomputable section

namespace Cert.Spec

open Idealize.ShloMosaic

/-- A row's features through a linear layer with 64 outputs. -/
def proj (x : Fin 16 → Fin 64 → EReal) (w : Fin 64 → Fin 64 → EReal) (b : Fin 64 → EReal) (t : Fin 16) (c : Fin 64) : EReal :=
  (∑ k : Fin 64, x t k * w k c) + b c

/-- Lane `d` of head `h`. -/
def lane (h : Fin 4) (d : Fin 16) : Fin 64 := ⟨16 * h.val + d.val, by omega⟩

/-- The head of a lane. -/
def headOf (l : Fin 64) : Fin 4 := ⟨l.val / 16, by omega⟩

/-- The place of a lane in its head. -/
def placeOf (l : Fin 64) : Fin 16 := ⟨l.val % 16, by omega⟩

/-- The kernel's masked scores: the queries scaled by a quarter, plus the scaled mask. -/
def scoreK (q k : Fin 16 → Fin 64 → EReal) (mask : Fin 16 → Fin 64 → EReal) (t : Fin 16) (l : Fin 64) : EReal :=
  (∑ d : Fin 16, (q t (lane (headOf l) d) * ((1 / 4 : ℝ) : EReal)) * k (placeOf l) (lane (headOf l) d)) + mask t l * ⊥

/-- The kernel's exponentials: every lane's score less the largest over all lanes. -/
def expK (s : Fin 16 → Fin 64 → EReal) (t : Fin 16) (l : Fin 64) : EReal :=
  Ideal.exp (s t l - Finset.univ.fold max ⊥ fun m => s t m)

/-- The kernel's weights: the exponentials over their sums by `seg`. -/
def softK (s : Fin 16 → Fin 64 → EReal) (seg : Fin 64 → Fin 64 → EReal) (t : Fin 16) (l : Fin 64) : EReal :=
  Ideal.div (expK s t l) (∑ m : Fin 64, expK s t m * seg m l)

/-- The reference's masked scores: over four, and `-∞` at later places. -/
def scoreR (q k : Fin 16 → Fin 64 → EReal) (h : Fin 4) (t j : Fin 16) : EReal :=
  if j ≤ t then Ideal.div (∑ d : Fin 16, q t (lane h d) * k j (lane h d)) ((4 : ℝ) : EReal) else ⊥

/-- The softmax of a row of scores. -/
def softR (s : Fin 4 → Fin 16 → Fin 16 → EReal) (h : Fin 4) (t j : Fin 16) : EReal :=
  Ideal.div (Ideal.exp (s h t j - Finset.univ.fold max ⊥ fun m => s h t m))
    (∑ i : Fin 16, Ideal.exp (s h t i - Finset.univ.fold max ⊥ fun m => s h t m))

/-- The heads' weighted values, laid side by side. -/
def mix (p : Fin 4 → Fin 16 → Fin 16 → EReal) (v : Fin 16 → Fin 64 → EReal) (t : Fin 16) (c : Fin 64) : EReal :=
  ∑ j : Fin 16, p (headOf c) t j * v j c

/-- The mixed heads through the output layer, plus the row itself. -/
def resid (x : Fin 16 → Fin 64 → EReal) (o : Fin 16 → Fin 64 → EReal) (w : Fin 64 → Fin 64 → EReal) (b : Fin 64 → EReal)
    (t : Fin 16) (e : Fin 64) : EReal :=
  proj o w b t e + x t e

/-- The mean of 64 features. -/
def mean (y : Fin 64 → EReal) : EReal := Ideal.div (∑ e : Fin 64, y e) ((64 : ℝ) : EReal)

/-- The variance of 64 features, and the small constant `ε` of the normalisation. -/
def vari (ε : EReal) (y : Fin 64 → EReal) : EReal :=
  Ideal.div (∑ e : Fin 64, (y e - mean y) * (y e - mean y)) ((64 : ℝ) : EReal) + ε

/-- The layer normalisation by a product with the reciprocal root. -/
def normK (ε : EReal) (g b : Fin 64 → EReal) (y : Fin 64 → EReal) (e : Fin 64) : EReal :=
  (y e - mean y) * Ideal.rsqrt (vari ε y) * g e + b e

/-- The layer normalisation by a quotient by the root. -/
def normR (ε : EReal) (g b : Fin 64 → EReal) (y : Fin 64 → EReal) (e : Fin 64) : EReal :=
  Ideal.div (y e - mean y) (Ideal.sqrt (vari ε y)) * g e + b e

/-- The first closing layer, over all 16 steps. -/
def hidden (y : Fin 16 → Fin 64 → EReal) (w : Fin 1024 → Fin 256 → EReal) (b : Fin 256 → EReal) (f : Fin 256) : EReal :=
  (∑ t : Fin 16, ∑ e : Fin 64, y t e * w ⟨64 * t.val + e.val, by omega⟩ f) + b f

/-- The second closing layer, times an eighth. -/
def logit (y : Fin 256 → EReal) (w : Fin 256 → Fin 2 → EReal) (o : Fin 2) : EReal :=
  (∑ f : Fin 256, y f * w f o) * ((1 / 8 : ℝ) : EReal)

/-- The attention stage of one row as the kernel computes it. -/
def attnK (x : Fin 16 → Fin 64 → EReal) (wq : Fin 64 → Fin 64 → EReal) (bq : Fin 64 → EReal) (wk : Fin 64 → Fin 64 → EReal) (bk : Fin 64 → EReal)
    (wv : Fin 64 → Fin 64 → EReal) (bv : Fin 64 → EReal) (wo : Fin 64 → Fin 64 → EReal) (bo : Fin 64 → EReal) (ε : EReal) (g b : Fin 64 → EReal)
    (wl : Fin 1024 → Fin 256 → EReal) (bl : Fin 256 → EReal) (wp : Fin 256 → Fin 2 → EReal) (mask : Fin 16 → Fin 64 → EReal)
    (seg : Fin 64 → Fin 64 → EReal) : Fin 2 → EReal :=
  let p := softK (scoreK (proj x wq bq) (proj x wk bk) mask) seg
  logit (hidden (fun t => normK ε g b (resid x (mix (fun h t j => p t (lane h j)) (proj x wv bv)) wo bo t)) wl bl) wp

/-- The attention stage of one row as the reference states it. -/
def attnR (x : Fin 16 → Fin 64 → EReal) (wq : Fin 64 → Fin 64 → EReal) (bq : Fin 64 → EReal) (wk : Fin 64 → Fin 64 → EReal) (bk : Fin 64 → EReal)
    (wv : Fin 64 → Fin 64 → EReal) (bv : Fin 64 → EReal) (wo : Fin 64 → Fin 64 → EReal) (bo : Fin 64 → EReal) (ε : EReal) (g b : Fin 64 → EReal)
    (wl : Fin 1024 → Fin 256 → EReal) (bl : Fin 256 → EReal) (wp : Fin 256 → Fin 2 → EReal) : Fin 2 → EReal :=
  logit (hidden (fun t => normR ε g b (resid x (mix (softR (scoreR (proj x wq bq) (proj x wk bk))) (proj x wv bv)) wo bo t)) wl bl) wp

/-- The kernel's attention stage on equal operands. -/
theorem attnK_congr {x x' : Fin 16 → Fin 64 → EReal} {wq wq' wk wk' wv wv' wo wo' : Fin 64 → Fin 64 → EReal} {bq bq' bk bk' bv bv' bo bo' : Fin 64 → EReal}
    {ε : EReal} {g g' b b' : Fin 64 → EReal} {wl wl' : Fin 1024 → Fin 256 → EReal} {bl bl' : Fin 256 → EReal} {wp wp' : Fin 256 → Fin 2 → EReal}
    {mask mask' : Fin 16 → Fin 64 → EReal} {seg seg' : Fin 64 → Fin 64 → EReal} {o o' : Fin 2} (hx : ∀ t k, x t k = x' t k)
    (hwq : ∀ k c, wq k c = wq' k c) (hbq : ∀ c, bq c = bq' c) (hwk : ∀ k c, wk k c = wk' k c) (hbk : ∀ c, bk c = bk' c)
    (hwv : ∀ k c, wv k c = wv' k c) (hbv : ∀ c, bv c = bv' c) (hwo : ∀ k c, wo k c = wo' k c) (hbo : ∀ c, bo c = bo' c)
    (hg : ∀ c, g c = g' c) (hb : ∀ c, b c = b' c) (hwl : ∀ k c, wl k c = wl' k c) (hbl : ∀ c, bl c = bl' c) (hwp : ∀ k c, wp k c = wp' k c)
    (hm : ∀ t l, mask t l = mask' t l) (hs : ∀ m l, seg m l = seg' m l) (ho : o = o') :
    attnK x wq bq wk bk wv bv wo bo ε g b wl bl wp mask seg o = attnK x' wq' bq' wk' bk' wv' bv' wo' bo' ε g' b' wl' bl' wp' mask' seg' o' := by
  obtain rfl : x = x' := funext₂ hx
  obtain rfl : wq = wq' := funext₂ hwq
  obtain rfl : bq = bq' := funext hbq
  obtain rfl : wk = wk' := funext₂ hwk
  obtain rfl : bk = bk' := funext hbk
  obtain rfl : wv = wv' := funext₂ hwv
  obtain rfl : bv = bv' := funext hbv
  obtain rfl : wo = wo' := funext₂ hwo
  obtain rfl : bo = bo' := funext hbo
  obtain rfl : g = g' := funext hg
  obtain rfl : b = b' := funext hb
  obtain rfl : wl = wl' := funext₂ hwl
  obtain rfl : bl = bl' := funext hbl
  obtain rfl : wp = wp' := funext₂ hwp
  obtain rfl : mask = mask' := funext₂ hm
  obtain rfl : seg = seg' := funext₂ hs
  rw [ho]

end Cert.Spec
-- ==== Proof.AttnScore.lean ====
/-
  The attention kernel's block, first half: queries, keys, values, masked scores and softmax weights at an index.
-/
module

public import proofs.«01_k».proof.Proof.Gen.KernelIdeal.Frame.Region3
public import proofs.«01_k».proof.Proof.AttnSpec
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen

/-- Row `t` of sequence `n` in the rows laid flat. -/
def row (n : Fin 256) (t : Fin 16) : Fin 4096 := ⟨16 * n.val + t.val, by omega⟩

/-- The word of a quarter is a quarter. -/
theorem quarter : Ideal.ofBits .f32 0x3E800000#32 = ((1 / 4 : ℝ) : EReal) := by
  simp [Ideal.ofBits, Ideal.ieee, -EReal.coe_mul]; norm_num

/-- The named constant `mask` is −∞. -/
theorem mask_named : (Named.named κ "mask" 0xCE6E6B28#32 : Ideal .f32) = (⊥ : EReal) := rfl

/-- The word of −∞ is −∞. -/
theorem minus_inf : Ideal.ofBits .f32 0xFF800000#32 = (⊥ : EReal) := by
  simp [Ideal.ofBits, Ideal.ieee]

section
variable (x0 : FVec Ideal S256x16x64 .f32) (w : FVec Ideal S64x64 .bf16) (b : FVec Ideal S1x64 .f32)

/-- A projection of the rows. -/
abbrev prj (n : Fin 256) : Fin 16 → Fin 64 → EReal :=
  Spec.proj (fun t k => x0 (ix3 n t k)) (fun k c => w (ix2 k c)) (fun c => b (ix2 0 c))

/-- The states with the steps flattened into the rows. -/
theorem x_at (n : Fin 256) (t : Fin 16) (k : Fin 64) : k3_pay1 (F := Ideal) x0 (ix2 (row n t) k) = x0 (ix3 n t k) := by
  unfold row
  pointwise [k3_pay1]

/-- The values at a row, a step and a lane. -/
theorem v_at (n : Fin 256) (t : Fin 16) (c : Fin 64) : k3_pay3 (F := Ideal) x0 w b (ix2 (row n t) c) = prj x0 w b n t c := by
  unfold row prj Spec.proj
  pointwise [k3_pay3, k3_pay2, k3_pay1]

/-- The keys at a row, a step and a lane. -/
theorem k_at (n : Fin 256) (t : Fin 16) (c : Fin 64) : k3_pay9 (F := Ideal) x0 w b (ix2 (row n t) c) = prj x0 w b n t c := by
  unfold row prj Spec.proj
  pointwise [k3_pay9, k3_pay2, k3_pay1]

/-- The queries, scaled by a quarter, at a row, a step and a lane. -/
theorem q_at (n : Fin 256) (t : Fin 16) (c : Fin 64) :
    k3_pay4 (F := Ideal) x0 w b (ix2 (row n t) c) = prj x0 w b n t c * ((1 / 4 : ℝ) : EReal) := by
  rw [← quarter]
  unfold row prj Spec.proj
  pointwise [k3_pay4, k3_pay2, k3_pay1]

end

/-- A head of rows laid flat: sixteen columns, the sequences apart. -/
theorem head_at {φ : FTy} (v : FVec Ideal S4096x64 φ) (o : ℕ) (h : S4096x64.Slices ![0, o] S4096x16) (n : Fin 256) (t d : Fin 16) (ho : o + 16 ≤ 64) :
    shapeCast S256x16x16 (extractStridedSlice S4096x16 ![0, o] v h) shapeCasts_S4096x16_S256x16x16 (ix3 n t d)
      = v (ix2 (row n t) ⟨o + d.val, by omega⟩) := by
  unfold row
  pointwise
  exact congrArg (fun q => v (ix2 q ⟨o + d.val, by omega⟩)) (Fin.ext (by dsimp only; omega))

/-- The masked scores: the heads side by side, plus the scaled mask. -/
def scores (q0 q1 q2 q3 k0 k1 k2 k3 : FVec Ideal S256x16x16 .bf16) (mask : FVec Ideal S16x64 .f32) : FVec Ideal S256x16x64 .f32 :=
  addf (concatenate S256x16x64 2
      [⟨S256x16x16, matmul dot_S256x16x16_S256x16x16_S256x16x16_2_2_1_1_0_0 none q0 k0 (constant S256x16x16 .f32 0x00000000#32)⟩,
       ⟨S256x16x16, matmul dot_S256x16x16_S256x16x16_S256x16x16_2_2_1_1_0_0 none q1 k1 (constant S256x16x16 .f32 0x00000000#32)⟩,
       ⟨S256x16x16, matmul dot_S256x16x16_S256x16x16_S256x16x16_2_2_1_1_0_0 none q2 k2 (constant S256x16x16 .f32 0x00000000#32)⟩,
       ⟨S256x16x16, matmul dot_S256x16x16_S256x16x16_S256x16x16_2_2_1_1_0_0 none q3 k3 (constant S256x16x16 .f32 0x00000000#32)⟩]
      concatenates_S256x16x16_S256x16x16_S256x16x16_S256x16x16_S256x16x64_d2)
    (broadcastTo S256x16x64 (shapeCast S1x16x64 (mulf (shapeCast S16x64 mask shapeCasts_S16x64_S16x64)
      (broadcast S16x64 (Named.named κ "mask" 0xCE6E6B28#32 : Ideal .f32))) shapeCasts_S16x64_S1x16x64) broadcasts_S1x16x64_S256x16x64)

/-- The softmax weights of masked scores. -/
def weights (s : FVec Ideal S256x16x64 .f32) (seg : FVec Ideal S64x64 .bf16) : FVec Ideal S4096x64 .bf16 :=
  have e : FVec Ideal S4096x64 .f32 := shapeCast S4096x64 (exp (subf s (broadcastTo S256x16x64 (shapeCast S256x16x1
    (multiReduction .maximumf [2] S256x16 s 0xFF800000#32 reduces_S256x16x64_S256x16 (.inl rfl) rfl) shapeCasts_S256x16_S256x16x1)
      broadcasts_S256x16x1_S256x16x64))) shapeCasts_S256x16x64_S4096x64
  truncf .bf16 (divf e (matmul dot_S4096x64_S64x64_S4096x64_1_0_0_1_n_n none (truncf .bf16 e bitsLt_bf16_f32)
    (shapeCast S64x64 seg shapeCasts_S64x64_S64x64) (constant S4096x64 .f32 0x00000000#32))) bitsLt_bf16_f32

/-- The block of weights is that of the heads' scores side by side. -/
theorem pay15_eq (v29 v31 v33 v35 : FVec Ideal S256x16x16 .bf16) (v36 : FVec Ideal S4096x64 .bf16) (v38 : FVec Ideal S256x16x16 .bf16)
    (v39 : FVec Ideal S4096x16 .bf16) (v59 : FVec Ideal S16x64 .f32) (v72 : FVec Ideal S64x64 .bf16) :
    k3_pay15 (F := Ideal) v29 v31 v33 v35 v36 v38 v39 v59 v72
      = weights (scores v29 v31 v33 v35 v38 (shapeCast S256x16x16 v39 shapeCasts_S4096x16_S256x16x16)
          (shapeCast S256x16x16 (extractStridedSlice S4096x16 ![0, 32] v36 slices_S4096x64_o0_32_S4096x16) shapeCasts_S4096x16_S256x16x16)
          (shapeCast S256x16x16 (extractStridedSlice S4096x16 ![0, 48] v36 slices_S4096x64_o0_48_S4096x16) shapeCasts_S4096x16_S256x16x16) v59) v72 := rfl

/-- The weights at an index. -/
theorem weights_at (s : FVec Ideal S256x16x64 .f32) (seg : FVec Ideal S64x64 .bf16) (n : Fin 256) (t : Fin 16) (l : Fin 64) :
    weights s seg (ix2 (row n t) l) = Spec.softK (fun t l => s (ix3 n t l)) (fun m l => seg (ix2 m l)) t l := by
  unfold row Spec.softK Spec.expK
  rw [← minus_inf]
  pointwise [weights]

/-- A head's product of queries and keys, at the lane that stands for it. -/
theorem dot_head (Q K : Fin 16 → Fin 64 → EReal) (c : EReal) (t : Fin 16) (l : Fin 64) (h : Fin 4) (p : Fin 16) (hl : l.val = 16 * h.val + p.val) :
    (∑ d : Fin 16, Q t (Spec.lane h d) * c * K p (Spec.lane h d))
      = ∑ d : Fin 16, Q t (Spec.lane (Spec.headOf l) d) * c * K (Spec.placeOf l) (Spec.lane (Spec.headOf l) d) := by
  have e1 : Spec.headOf l = h := Fin.ext (by simp only [Spec.headOf]; omega)
  have e2 : Spec.placeOf l = p := Fin.ext (by simp only [Spec.placeOf]; omega)
  rw [e1, e2]

/-- The masked scores at an index, of queries and keys cut into heads. -/
theorem scores_at (q0 q1 q2 q3 k0 k1 k2 k3 : FVec Ideal S256x16x16 .bf16) (mask : FVec Ideal S16x64 .f32) (n : Fin 256) (Q K : Fin 16 → Fin 64 → EReal)
    (hq0 : ∀ t d, q0 (ix3 n t d) = Q t (Spec.lane 0 d) * ((1 / 4 : ℝ) : EReal)) (hq1 : ∀ t d, q1 (ix3 n t d) = Q t (Spec.lane 1 d) * ((1 / 4 : ℝ) : EReal))
    (hq2 : ∀ t d, q2 (ix3 n t d) = Q t (Spec.lane 2 d) * ((1 / 4 : ℝ) : EReal)) (hq3 : ∀ t d, q3 (ix3 n t d) = Q t (Spec.lane 3 d) * ((1 / 4 : ℝ) : EReal))
    (hk0 : ∀ t d, k0 (ix3 n t d) = K t (Spec.lane 0 d)) (hk1 : ∀ t d, k1 (ix3 n t d) = K t (Spec.lane 1 d))
    (hk2 : ∀ t d, k2 (ix3 n t d) = K t (Spec.lane 2 d)) (hk3 : ∀ t d, k3 (ix3 n t d) = K t (Spec.lane 3 d)) (t : Fin 16) (l : Fin 64) :
    scores q0 q1 q2 q3 k0 k1 k2 k3 mask (ix3 n t l) = Spec.scoreK Q K (fun t l => mask (ix2 t l)) t l := by
  unfold Spec.scoreK
  pointwise [scores]
  rw [mask_named]
  refine congrArg (· + _) ?_
  simp only [hq0, hq1, hq2, hq3, hk0, hk1, hk2, hk3]
  by_cases c0 : l.val < 16
  · rw [dif_pos c0]
    exact dot_head Q K _ t l 0 _ (by simp)
  rw [dif_neg c0]
  by_cases c1 : l.val - 16 < 16
  · rw [dif_pos c1]
    exact dot_head Q K _ t l 1 _ (by simp; omega)
  rw [dif_neg c1]
  by_cases c2 : l.val - 16 - 16 < 16
  · rw [dif_pos c2]
    exact dot_head Q K _ t l 2 _ (by simp; omega)
  rw [dif_neg c2]
  exact dot_head Q K _ t l 3 _ (by simp; omega)

/-- A head's weighted values. -/
def hout (p : FVec Ideal S4096x64 .bf16) (v : FVec Ideal S4096x64 .f32) (o : ℕ) (h : S4096x64.Slices ![0, o] S4096x16) : FVec Ideal S4096x16 .f32 :=
  shapeCast S4096x16 (matmul dot_S256x16x16_S256x16x16_S256x16x16_2_1_1_2_0_0 none
    (shapeCast S256x16x16 (extractStridedSlice S4096x16 ![0, o] p h) shapeCasts_S4096x16_S256x16x16)
    (shapeCast S256x16x16 (extractStridedSlice S4096x16 ![0, o] (truncf .bf16 v bitsLt_bf16_f32) h) shapeCasts_S4096x16_S256x16x16)
    (constant S256x16x16 .f32 0x00000000#32)) shapeCasts_S256x16x16_S4096x16

/-- One head's weighted values at a row, a step and a place. -/
theorem hout_at (p : FVec Ideal S4096x64 .bf16) (v : FVec Ideal S4096x64 .f32) (o : ℕ) (h : S4096x64.Slices ![0, o] S4096x16)
    (n : Fin 256) (t d : Fin 16) (ho : o + 16 ≤ 64) :
    hout p v o h (ix2 (row n t) d) = ∑ j : Fin 16, p (ix2 (row n t) ⟨o + j.val, by omega⟩) * v (ix2 (row n j) ⟨o + d.val, by omega⟩) := by
  simp only [← head_at p o h n t _ ho]
  have e : ∀ j, v (ix2 (row n j) ⟨o + d.val, by omega⟩) = shapeCast S256x16x16 (extractStridedSlice S4096x16 ![0, o] (truncf .bf16 v bitsLt_bf16_f32) h) shapeCasts_S4096x16_S256x16x16 (ix3 n j d) :=
    fun j => (head_at (truncf .bf16 v bitsLt_bf16_f32 : FVec Ideal S4096x64 .bf16) o h n j d ho).symm
  simp only [e]
  unfold hout row
  generalize shapeCast S256x16x16 (extractStridedSlice S4096x16 ![0, o] p h) shapeCasts_S4096x16_S256x16x16 = A
  generalize shapeCast S256x16x16 (extractStridedSlice S4096x16 ![0, o] (truncf .bf16 v bitsLt_bf16_f32) h) shapeCasts_S4096x16_S256x16x16 = B
  pointwise

/-- The heads' weighted values side by side. -/
def mixed (p : FVec Ideal S4096x64 .bf16) (v : FVec Ideal S4096x64 .f32) : FVec Ideal S4096x64 .f32 :=
  concatenate S4096x64 1 [⟨S4096x16, hout p v 0 slices_S4096x64_o0_0_S4096x16⟩, ⟨S4096x16, hout p v 16 slices_S4096x64_o0_16_S4096x16⟩,
    ⟨S4096x16, hout p v 32 slices_S4096x64_o0_32_S4096x16⟩, ⟨S4096x16, hout p v 48 slices_S4096x64_o0_48_S4096x16⟩]
    concatenates_S4096x16_S4096x16_S4096x16_S4096x16_S4096x64_d1

/-- The weighted values at a lane are those of the lane's head. -/
theorem mix_head (p : Fin 4096 → Fin 64 → EReal) (v : Fin 4096 → Fin 64 → EReal) (n : Fin 256) (t : Fin 16) (c : Fin 64) (o : ℕ) (d : ℕ) (hd : d < 16)
    (ho : o + 16 ≤ 64) (h : Fin 4) (e : o = 16 * h.val) (hc : c.val = o + d) :
    (∑ j : Fin 16, p (row n t) ⟨o + j.val, by omega⟩ * v (row n j) ⟨o + d, by omega⟩)
      = Spec.mix (fun h t j => p (row n t) (Spec.lane h j)) (fun t c => v (row n t) c) t c := by
  have e1 : Spec.headOf c = h := Fin.ext (by simp only [Spec.headOf]; omega)
  have e2 : c = ⟨o + d, by omega⟩ := Fin.ext hc
  subst e
  rw [Spec.mix, e1, ← e2]
  rfl

/-- The heads' weighted values side by side, at a row, a step and a lane. -/
theorem mixed_at (p : FVec Ideal S4096x64 .bf16) (v : FVec Ideal S4096x64 .f32) (n : Fin 256) (t : Fin 16) (c : Fin 64) :
    mixed p v (ix2 (row n t) c)
      = Spec.mix (fun h t j => p (ix2 (row n t) (Spec.lane h j))) (fun t c => v (ix2 (row n t) c)) t c := by
  unfold mixed
  have H := fun (d : Fin 16) => hout_at p v 0 slices_S4096x64_o0_0_S4096x16 n t d (by norm_num)
  have H1 := fun (d : Fin 16) => hout_at p v 16 slices_S4096x64_o0_16_S4096x16 n t d (by norm_num)
  have H2 := fun (d : Fin 16) => hout_at p v 32 slices_S4096x64_o0_32_S4096x16 n t d (by norm_num)
  have H3 := fun (d : Fin 16) => hout_at p v 48 slices_S4096x64_o0_48_S4096x16 n t d (by norm_num)
  generalize hout p v 0 slices_S4096x64_o0_0_S4096x16 = A0 at H ⊢
  generalize hout p v 16 slices_S4096x64_o0_16_S4096x16 = A1 at H1 ⊢
  generalize hout p v 32 slices_S4096x64_o0_32_S4096x16 = A2 at H2 ⊢
  generalize hout p v 48 slices_S4096x64_o0_48_S4096x16 = A3 at H3 ⊢
  pointwise
  by_cases c0 : c.val < 16
  · rw [dif_pos c0, H]
    exact mix_head (fun r l => p (ix2 r l)) (fun r l => v (ix2 r l)) n t c 0 c.val c0 (by norm_num) 0 rfl (by omega)
  rw [dif_neg c0]
  by_cases c1 : c.val - 16 < 16
  · rw [dif_pos c1, H1]
    exact mix_head (fun r l => p (ix2 r l)) (fun r l => v (ix2 r l)) n t c 16 (c.val - 16) c1 (by norm_num) 1 rfl (by omega)
  rw [dif_neg c1]
  by_cases c2 : c.val - 16 - 16 < 16
  · rw [dif_pos c2, H2]
    exact mix_head (fun r l => p (ix2 r l)) (fun r l => v (ix2 r l)) n t c 32 (c.val - 16 - 16) c2 (by norm_num) 2 rfl (by omega)
  rw [dif_neg c2, H3]
  exact mix_head (fun r l => p (ix2 r l)) (fun r l => v (ix2 r l)) n t c 48 (c.val - 16 - 16 - 16) (by omega) (by norm_num) 3 rfl (by omega)

end Cert.KernelIdeal.Attn
-- ==== Proof.AttnPoint.lean ====
/-
  The attention kernel's block, second half: the output layer, the normalisation, the closing layers, and the whole
  block at an index.
-/
module

public import proofs.«01_k».proof.Proof.AttnScore

@[expose] public section

set_option maxRecDepth 16384

noncomputable section

namespace Cert.KernelIdeal.Attn

open Idealize.ShloMosaic Idealize.ShloMosaic.TcCoe Idealize.SL.Sem
open Cert.KernelIdeal Cert.KernelIdeal.Gen

/-- The word of sixty-four is sixty-four. -/
theorem sixtyfour : Ideal.ofBits .f32 0x42800000#32 = ((64 : ℝ) : EReal) := by
  simp [Ideal.ofBits, Ideal.ieee, -EReal.coe_mul]; norm_num

/-- The word of an eighth is an eighth. -/
theorem eighth : Ideal.ofBits .f32 0x3E000000#32 = ((1 / 8 : ℝ) : EReal) := by
  simp [Ideal.ofBits, Ideal.ieee, -EReal.coe_mul]; norm_num

/-- The small constant of the normalisation. -/
abbrev eps : EReal := Ideal.ofBits .f32 0x358637BD#32

/-- The output layer plus the rows. -/
def residual (x o : FVec Ideal S4096x64 .f32) (w : FVec Ideal S64x64 .bf16) (b : FVec Ideal S1x64 .f32) : FVec Ideal S4096x64 .f32 :=
  addf (addf (matmul dot_S4096x64_S64x64_S4096x64_1_0_0_1_n_n none (truncf .bf16 o bitsLt_bf16_f32) (shapeCast S64x64 w shapeCasts_S64x64_S64x64)
    (constant S4096x64 .f32 0x00000000#32)) (broadcastTo S4096x64 (shapeCast S1x64 b shapeCasts_S1x64_S1x64) broadcasts_S1x64_S4096x64)) x

/-- The rows' means. -/
def means (y : FVec Ideal S4096x64 .f32) : FVec Ideal S4096x1 .f32 :=
  divf (shapeCast S4096x1 (multiReduction .add [1] S4096 y 0x00000000#32 reduces_S4096x64_S4096 (.inl rfl) rfl) shapeCasts_S4096_S4096x1)
    (broadcast S4096x1 (Scalar.ofBits .f32 0x42800000#32 : Ideal .f32))

/-- The rows less their means. -/
def centred (y : FVec Ideal S4096x64 .f32) : FVec Ideal S4096x64 .f32 :=
  subf y (broadcastTo S4096x64 (means y) broadcasts_S4096x1_S4096x64)

/-- The normalised rows, the sequences apart. -/
def normed (y : FVec Ideal S4096x64 .f32) (g b : FVec Ideal S1x64 .f32) : FVec Ideal S256x16x64 .f32 :=
  shapeCast S256x16x64 (addf (mulf (mulf (centred y) (broadcastTo S4096x64
    (rsqrt (addf (means (mulf (centred y) (centred y))) (broadcast S4096x1 (Scalar.ofBits .f32 0x358637BD#32 : Ideal .f32)))) broadcasts_S4096x1_S4096x64))
    (broadcastTo S4096x64 (shapeCast S1x64 g shapeCasts_S1x64_S1x64) broadcasts_S1x64_S4096x64))
    (broadcastTo S4096x64 (shapeCast S1x64 b shapeCasts_S1x64_S1x64) broadcasts_S1x64_S4096x64)) shapeCasts_S4096x64_S256x16x64

/-- The closing projection with the residual at a row, a step and a feature. -/
theorem residual_at (x o : FVec Ideal S4096x64 .f32) (w : FVec Ideal S64x64 .bf16) (b : FVec Ideal S1x64 .f32) (n : Fin 256) (t : Fin 16) (e : Fin 64) :
    residual x o w b (ix2 (row n t) e)
      = Spec.resid (fun t e => x (ix2 (row n t) e)) (fun t c => o (ix2 (row n t) c)) (fun k c => w (ix2 k c)) (fun c => b (ix2 0 c)) t e := by
  simp only [Spec.resid, Spec.proj]
  generalize row n t = r
  pointwise [residual]

/-- The mean of a row. -/
theorem means_at (y : FVec Ideal S4096x64 .f32) (r : Fin 4096) : means y (ix2 r 0) = Spec.mean fun e => y (ix2 r e) := by
  unfold Spec.mean
  rw [← sixtyfour]
  pointwise [means]

/-- A row less its mean. -/
theorem centred_at (y : FVec Ideal S4096x64 .f32) (r : Fin 4096) (e : Fin 64) :
    centred y (ix2 r e) = y (ix2 r e) - Spec.mean fun e => y (ix2 r e) := by
  rw [← means_at]
  generalize hm : means y = M
  unfold centred
  rw [hm]
  pointwise

/-- The normalised row at a feature. -/
theorem normed_at (y : FVec Ideal S4096x64 .f32) (g b : FVec Ideal S1x64 .f32) (n : Fin 256) (t : Fin 16) (e : Fin 64) :
    normed y g b (ix3 n t e)
      = Spec.normK eps (fun e => g (ix2 0 e)) (fun e => b (ix2 0 e)) (fun e => y (ix2 (row n t) e)) e := by
  have hv : Spec.vari eps (fun e => y (ix2 (row n t) e)) = means (mulf (centred y) (centred y)) (ix2 (row n t) 0) + eps := by
    rw [means_at]
    unfold Spec.vari Spec.mean
    refine congrArg (fun s => Ideal.div s _ + eps) (Finset.sum_congr rfl fun e _ => ?_)
    pointwise
    rw [centred_at]
    rfl
  unfold Spec.normK
  rw [hv, ← centred_at]
  unfold normed
  generalize means (mulf (centred y) (centred y)) = M
  generalize centred y = C
  generalize hr : row n t = r
  have e : r = ⟨n.val * 16 + t.val, by omega⟩ := by rw [← hr]; exact Fin.ext (by simp only [row]; omega)
  rw [e]
  pointwise

/-- Sixteen terms added one after another onto a first one. -/
theorem sum_steps (F : Fin 16 → EReal) (b : EReal) :
    (∑ t, F t) + b = b + F 0 + F 1 + F 2 + F 3 + F 4 + F 5 + F 6 + F 7 + F 8 + F 9 + F 10 + F 11 + F 12 + F 13 + F 14 + F 15 := by
  simp only [Fin.sum_univ_castSucc, Finset.univ_eq_empty, Finset.sum_empty, zero_add]
  rw [add_comm]
  simp only [← add_assoc]
  rfl

/-! The closing layers. -/

section
variable (y : FVec Ideal S256x16x64 .f32) (b : FVec Ideal S1x256 .f32)

/-- One step's share of the first closing layer. -/
abbrev share (t : Fin 16) (w : FVec Ideal S64x256 .bf16) (n f : Fin 256) : EReal := ∑ e : Fin 64, y (ix3 n t e) * w (ix2 e f)

/-- The closing layer's sum over the steps 0 to 4. -/
theorem pay20_at (w0 w1 w2 w3 w4 : FVec Ideal S64x256 .bf16) (n f : Fin 256) :
    k3_pay20 (F := Ideal) y b w0 w1 w2 w3 w4 (ix2 n f)
      = b (ix2 0 f) + share y 0 w0 n f + share y 1 w1 n f + share y 2 w2 n f + share y 3 w3 n f + share y 4 w4 n f := by
  unfold share
  pointwise [k3_pay20]

/-- The closing layer's sum with the steps 5 to 10 added. -/
theorem pay22_at (h : FVec Ideal S256x256 .f32) (w5 w6 w7 w8 w9 w10 : FVec Ideal S64x256 .bf16) (n f : Fin 256) :
    k3_pay22 (F := Ideal) y h (k3_pay21 y) w5 w6 w7 w8 w9 w10 (ix2 n f)
      = h (ix2 n f) + share y 5 w5 n f + share y 6 w6 n f + share y 7 w7 n f + share y 8 w8 n f + share y 9 w9 n f + share y 10 w10 n f := by
  unfold share
  pointwise [k3_pay22, k3_pay21]

/-- The closing layer's sum with the last steps added, mapped to the two classes and scaled. -/
theorem pay24_at (h : FVec Ideal S256x256 .f32) (w11 w12 w13 w14 w15 : FVec Ideal S64x256 .bf16) (wp : FVec Ideal S256x2 .bf16) (n : Fin 256) (o : Fin 2) :
    k3_pay24 (F := Ideal) y h (k3_pay23 y) w11 w12 w13 w14 w15 wp (ix2 n o)
      = Spec.logit (fun f => h (ix2 n f) + share y 11 w11 n f + share y 12 w12 n f + share y 13 w13 n f + share y 14 w14 n f + share y 15 w15 n f)
          (fun f o => wp (ix2 f o)) o := by
  unfold share Spec.logit
  rw [← eighth]
  pointwise [k3_pay24, k3_pay23]

end

section
variable (x0 : Vec Ideal S256x16x64 .f32) (x1 : Vec Ideal S64x64 .bf16) (x2 : Vec Ideal S1x64 .f32) (x3 : Vec Ideal S64x64 .bf16) (x4 : Vec Ideal S1x64 .f32)
    (x5 : Vec Ideal S64x64 .bf16) (x6 : Vec Ideal S1x64 .f32) (x7 : Vec Ideal S64x64 .bf16) (x8 x9 x10 : Vec Ideal S1x64 .f32)
    (x11 : Vec Ideal S1024x256 .bf16) (x12 : Vec Ideal S1x256 .f32) (x13 : Vec Ideal S256x2 .bf16) (x14 : Vec Ideal S16x64 .f32) (x15 : Vec Ideal S64x64 .bf16)

/-- The block's softmax weights. -/
abbrev probs : FVec Ideal S4096x64 .bf16 :=
  k3_pay15 (F := Ideal) (k3_pay26 x0 x1 x2 x3 x4 x5 x6 x7 x8 x9 x10 x11 x12 x13 x14 x15) (k3_pay27 x0 x1 x2 x3 x4 x5 x6 x7 x8 x9 x10 x11 x12 x13 x14 x15) (k3_pay28 x0 x1 x2 x3 x4 x5 x6 x7 x8 x9 x10 x11 x12 x13 x14 x15) (k3_pay29 x0 x1 x2 x3 x4 x5 x6 x7 x8 x9 x10 x11 x12 x13 x14 x15) (k3_pay30 x0 x1 x2 x3 x4 x5 x6 x7 x8 x9 x10 x11 x12 x13 x14 x15) (k3_pay31 x0 x1 x2 x3 x4 x5 x6 x7 x8 x9 x10 x11 x12 x13 x14 x15) (k3_pay32 x0 x1 x2 x3 x4 x5 x6 x7 x8 x9 x10 x11 x12 x13 x14 x15) (View.ld x14 r3_3) (View.ld x15 r3_1)

/-- The normalised block is its stages one after another. -/
theorem pay33_eq : k3_pay33 (F := Ideal) x0 x1 x2 x3 x4 x5 x6 x7 x8 x9 x10 x11 x12 x13 x14 x15
    = normed (residual (k3_pay1 (View.ld x0 r3_0)) (mixed (probs x0 x1 x2 x3 x4 x5 x6 x7 x8 x9 x10 x11 x12 x13 x14 x15) (k3_pay25 x0 x1 x2 x3 x4 x5 x6 x7 x8 x9 x10 x11 x12 x13 x14 x15)) (View.ld x7 r3_1) (View.ld x8 r3_2)) (View.ld x9 r3_2) (View.ld x10 r3_2) := rfl

/-- One row's projections. -/
abbrev prow (w : Vec Ideal S64x64 .bf16) (b : Vec Ideal S1x64 .f32) (n : Fin 256) : Fin 16 → Fin 64 → EReal :=
  Spec.proj (fun t k => x0 (ix3 n t k)) (fun k c => w (ix2 k c)) (fun c => b (ix2 0 c))

/-- The block of states is read whole. -/
theorem ld3 (n : Fin 256) (t : Fin 16) (k : Fin 64) : (View.ld x0 r3_0 : FVec Ideal S256x16x64 .f32) (ix3 n t k) = x0 (ix3 n t k) := by pointwise
/-- A square weight is read whole. -/
theorem ld64 (w : Vec Ideal S64x64 .bf16) (k c : Fin 64) : (View.ld w r3_1 : FVec Ideal S64x64 .bf16) (ix2 k c) = w (ix2 k c) := by pointwise
/-- A bias is read whole. -/
theorem ld1 (b : Vec Ideal S1x64 .f32) (c : Fin 64) : (View.ld b r3_2 : FVec Ideal S1x64 .f32) (ix2 0 c) = b (ix2 0 c) := by pointwise
/-- The mask is read whole. -/
theorem ldmask (b : Vec Ideal S16x64 .f32) (t : Fin 16) (c : Fin 64) : (View.ld b r3_3 : FVec Ideal S16x64 .f32) (ix2 t c) = b (ix2 t c) := by pointwise

/-- The projections read from the whole blocks. -/
theorem prj_ld (w : Vec Ideal S64x64 .bf16) (b : Vec Ideal S1x64 .f32) (n : Fin 256) :
    prj (View.ld x0 r3_0) (View.ld w r3_1) (View.ld b r3_2) n = prow x0 w b n :=
  show Spec.proj _ _ _ = Spec.proj _ _ _ from
    congr (congrArg₂ Spec.proj (funext₂ fun t k => ld3 x0 n t k) (funext₂ fun k c => ld64 w k c)) (funext fun c => ld1 b c)

/-- An offset of 16 times the head, and a place, are the head's lane. -/
theorem lane_eq (o : ℕ) (h : Fin 4) (d : Fin 16) (e : o = 16 * h.val) : (⟨o + d.val, by omega⟩ : Fin 64) = Spec.lane h d := by
  subst e; rfl

/-- The softmax weights of a row and a step at a lane. -/
theorem probs_at (n : Fin 256) (t : Fin 16) (l : Fin 64) :
    probs x0 x1 x2 x3 x4 x5 x6 x7 x8 x9 x10 x11 x12 x13 x14 x15 (ix2 (row n t) l)
      = Spec.softK (Spec.scoreK (prow x0 x1 x2 n) (prow x0 x3 x4 n) (fun t l => x14 (ix2 t l))) (fun m l => x15 (ix2 m l)) t l := by
  have hq : ∀ (t : Fin 16) (c : Fin 64), k3_pay4 (F := Ideal) (View.ld x0 r3_0) (View.ld x1 r3_1) (View.ld x2 r3_2) (ix2 (row n t) c)
      = prow x0 x1 x2 n t c * ((1 / 4 : ℝ) : EReal) := fun t c => by
    rw [q_at, prj_ld]
  have hk : ∀ (t : Fin 16) (c : Fin 64), k3_pay9 (F := Ideal) (View.ld x0 r3_0) (View.ld x3 r3_1) (View.ld x4 r3_2) (ix2 (row n t) c)
      = prow x0 x3 x4 n t c := fun t c => by
    rw [k_at, prj_ld]
  rw [probs, pay15_eq, weights_at]
  refine congrFun (congrFun (congrArg₂ Spec.softK (funext₂ fun t l => ?_) (funext₂ fun m l => ld64 x15 m l)) t) l
  rw [scores_at _ _ _ _ _ _ _ _ _ n (prow x0 x1 x2 n) (prow x0 x3 x4 n)]
  · exact congrArg _ (funext₂ fun t l => ldmask x14 t l) |> fun e => congrFun (congrFun e t) l
  · exact fun t d => (head_at (k3_pay4 (F := Ideal) (View.ld x0 r3_0) (View.ld x1 r3_1) (View.ld x2 r3_2)) 0 slices_S4096x64_o0_0_S4096x16 n t d (by norm_num)).trans ((hq t _).trans (by rw [lane_eq 0 0 d rfl]))
  · exact fun t d => (head_at (k3_pay4 (F := Ideal) (View.ld x0 r3_0) (View.ld x1 r3_1) (View.ld x2 r3_2)) 16 slices_S4096x64_o0_16_S4096x16 n t d (by norm_num)).trans ((hq t _).trans (by rw [lane_eq 16 1 d rfl]))
  · exact fun t d => (head_at (k3_pay4 (F := Ideal) (View.ld x0 r3_0) (View.ld x1 r3_1) (View.ld x2 r3_2)) 32 slices_S4096x64_o0_32_S4096x16 n t d (by norm_num)).trans ((hq t _).trans (by rw [lane_eq 32 2 d rfl]))
  · exact fun t d => (head_at (k3_pay4 (F := Ideal) (View.ld x0 r3_0) (View.ld x1 r3_1) (View.ld x2 r3_2)) 48 slices_S4096x64_o0_48_S4096x16 n t d (by norm_num)).trans ((hq t _).trans (by rw [lane_eq 48 3 d rfl]))
  · exact fun t d => (head_at (k3_pay9 (F := Ideal) (View.ld x0 r3_0) (View.ld x3 r3_1) (View.ld x4 r3_2)) 0 slices_S4096x64_o0_0_S4096x16 n t d (by norm_num)).trans ((hk t _).trans (by rw [lane_eq 0 0 d rfl]))
  · exact fun t d => (head_at (k3_pay9 (F := Ideal) (View.ld x0 r3_0) (View.ld x3 r3_1) (View.ld x4 r3_2)) 16 slices_S4096x64_o0_16_S4096x16 n t d (by norm_num)).trans ((hk t _).trans (by rw [lane_eq 16 1 d rfl]))
  · exact fun t d => (head_at (k3_pay9 (F := Ideal) (View.ld x0 r3_0) (View.ld x3 r3_1) (View.ld x4 r3_2)) 32 slices_S4096x64_o0_32_S4096x16 n t d (by norm_num)).trans ((hk t _).trans (by rw [lane_eq 32 2 d rfl]))
  · exact fun t d => (head_at (k3_pay9 (F := Ideal) (View.ld x0 r3_0) (View.ld x3 r3_1) (View.ld x4 r3_2)) 48 slices_S4096x64_o0_48_S4096x16 n t d (by norm_num)).trans ((hk t _).trans (by rw [lane_eq 48 3 d rfl]))

/-- The normalised rows at an index. -/
theorem pay33_at (n : Fin 256) (t : Fin 16) (e : Fin 64) :
    k3_pay33 (F := Ideal) x0 x1 x2 x3 x4 x5 x6 x7 x8 x9 x10 x11 x12 x13 x14 x15 (ix3 n t e)
      = Spec.normK eps (fun e => x9 (ix2 0 e)) (fun e => x10 (ix2 0 e))
          (Spec.resid (fun t k => x0 (ix3 n t k))
            (Spec.mix (fun h t j => Spec.softK (Spec.scoreK (prow x0 x1 x2 n) (prow x0 x3 x4 n) (fun t l => x14 (ix2 t l))) (fun m l => x15 (ix2 m l)) t (Spec.lane h j))
              (prow x0 x5 x6 n)) (fun k c => x7 (ix2 k c)) (fun c => x8 (ix2 0 c)) t) e := by
  have hv : ∀ (t : Fin 16) (c : Fin 64), k3_pay25 (F := Ideal) x0 x1 x2 x3 x4 x5 x6 x7 x8 x9 x10 x11 x12 x13 x14 x15 (ix2 (row n t) c) = prow x0 x5 x6 n t c := fun t c => by
    rw [k3_pay25, v_at, prj_ld]
  rw [pay33_eq, normed_at]
  refine congrFun (congr (congr (congrArg (Spec.normK eps) (funext fun e => ld1 x9 e)) (funext fun e => ld1 x10 e)) (funext fun e => ?_)) e
  rw [residual_at]
  refine congrFun (congrFun (congr (congr (congrArg₂ Spec.resid (funext₂ fun t k => (x_at _ n t k).trans (ld3 x0 n t k)) (funext₂ fun t c => ?_))
    (funext₂ fun k c => ld64 x7 k c)) (funext fun c => ld1 x8 c)) t) e
  rw [mixed_at]
  exact congrFun (congrFun (congrArg₂ Spec.mix (funext₃ fun h t j => probs_at _ _ _ _ _ _ _ _ _ _ _ _ _ _ _ _ n t (Spec.lane h j)) (funext₂ fun t c => hv t c)) t) c

/-- The output block at row `n`. -/
theorem out_attn (y : S256x2.Idx) (n : Fin 256) (o : Fin 2) (h0 : (y 0).val = n.val) (h1 : (y 1).val = o.val) :
    out3_16 (F := Ideal) x0 x1 x2 x3 x4 x5 x6 x7 x8 x9 x10 x11 x12 x13 x14 x15 y
      = Spec.attnK (fun t k => x0 (ix3 n t k)) (fun k c => x1 (ix2 k c)) (fun c => x2 (ix2 0 c)) (fun k c => x3 (ix2 k c)) (fun c => x4 (ix2 0 c))
          (fun k c => x5 (ix2 k c)) (fun c => x6 (ix2 0 c)) (fun k c => x7 (ix2 k c)) (fun c => x8 (ix2 0 c)) eps (fun e => x9 (ix2 0 e)) (fun e => x10 (ix2 0 e))
          (fun k f => x11 (ix2 k f)) (fun f => x12 (ix2 0 f)) (fun f o => x13 (ix2 f o)) (fun t l => x14 (ix2 t l)) (fun m l => x15 (ix2 m l)) o := by
  unfold out3_16
  canon_tiles x hx
  rw [show x = ix2 n o from (eq_ix2 x).trans (congrArg₂ ix2 (Fin.ext (by omega)) (Fin.ext (by omega))), pay24_at]
  unfold Spec.attnK
  have hy := fun t e => pay33_at x0 x1 x2 x3 x4 x5 x6 x7 x8 x9 x10 x11 x12 x13 x14 x15 n t e
  generalize k3_pay33 (F := Ideal) x0 x1 x2 x3 x4 x5 x6 x7 x8 x9 x10 x11 x12 x13 x14 x15 = y at hy ⊢
  refine congrFun (congrArg₂ Spec.logit (funext fun f => ?_) (funext₂ fun f o => by pointwise)) o
  rw [pay22_at, pay20_at]
  unfold Spec.hidden
  simp only [← hy]
  rw [sum_steps (fun t => ∑ e : Fin 64, y (ix3 n t e) * x11 (ix2 ⟨64 * t.val + e.val, by omega⟩ f))]
  unfold share
  pointwise

end

end Cert.KernelIdeal.Attn
-- ==== Proof.AttnRegion.lean ====
/-
  The array the attention launch leaves: every row's two numbers.
-/
module

public import proofs.«01_k».proof.Proof.AttnPoint

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The windows' block indices: block `t` of the rows and of the result, everything else whole. -/
theorem idx3 : ∀ t : Fin cfg3.N, win3_0.index t = ![t.val, 0, 0] ∧ win3_16.index t = ![t.val, 0]
    ∧ win3_1.index t = ![0, 0]
    ∧ win3_2.index t = ![0, 0]
    ∧ win3_3.index t = ![0, 0]
    ∧ win3_4.index t = ![0, 0]
    ∧ win3_5.index t = ![0, 0]
    ∧ win3_6.index t = ![0, 0]
    ∧ win3_7.index t = ![0, 0]
    ∧ win3_8.index t = ![0, 0]
    ∧ win3_9.index t = ![0, 0]
    ∧ win3_10.index t = ![0, 0]
    ∧ win3_11.index t = ![0, 0]
    ∧ win3_12.index t = ![0, 0]
    ∧ win3_13.index t = ![0, 0]
    ∧ win3_14.index t = ![0, 0]
    ∧ win3_15.index t = ![0, 0] :=
  (by decide +kernel : ∀ t : Fin grid3.N, _)

/-- The attention launch's array: row `j 0`'s two numbers. -/
def attnArr (c0 : Dev nD) (j : S8192x2.Idx) : EReal :=
  Spec.attnK (fun t k => (V c0 main_v33 : FVec Ideal S8192x16x64 .f32) (ix3 (j 0) t k))
    (fun k c => (V c0 main_v55 : FVec Ideal S64x64 .bf16) (ix2 k c))
    (fun c => (V c0 main_v56 : FVec Ideal S1x64 .f32) (ix2 0 c))
    (fun k c => (V c0 main_v58 : FVec Ideal S64x64 .bf16) (ix2 k c))
    (fun c => (V c0 main_v59 : FVec Ideal S1x64 .f32) (ix2 0 c))
    (fun k c => (V c0 main_v61 : FVec Ideal S64x64 .bf16) (ix2 k c))
    (fun c => (V c0 main_v62 : FVec Ideal S1x64 .f32) (ix2 0 c))
    (fun k c => (V c0 main_v64 : FVec Ideal S64x64 .bf16) (ix2 k c))
    (fun c => (V c0 main_v65 : FVec Ideal S1x64 .f32) (ix2 0 c)) eps
    (fun c => (V c0 main_v66 : FVec Ideal S1x64 .f32) (ix2 0 c))
    (fun c => (V c0 main_v67 : FVec Ideal S1x64 .f32) (ix2 0 c))
    (fun k c => (V c0 main_v69 : FVec Ideal S1024x256 .bf16) (ix2 k c))
    (fun c => (V c0 main_v70 : FVec Ideal S1x256 .f32) (ix2 0 c))
    (fun k c => (V c0 main_v72 : FVec Ideal S256x2 .bf16) (ix2 k c))
    (fun k c => (V c0 main_v43 : FVec Ideal S16x64 .f32) (ix2 k c))
    (fun k c => (V c0 main_v53 : FVec Ideal S64x64 .bf16) (ix2 k c)) (j 1)

set_option maxHeartbeats 1000000 in
/-- The attention launch leaves that array. -/
theorem final3 (c0 : Dev nD) : (dat3 V c0).arrAt 16 cfg3.N = attnArr V c0 := by
  refine (dat3 V c0).arrAt_eq_of_covers 16 _ (by decide +kernel) fun i hf y => ?_
  blk_simp
  rw [after3_16]
  refine (out_attn _ _ _ _ _ _ _ _ _ _ _ _ _ _ _ _ y (y 0) (y 1) rfl rfl).trans ?_
  unfold attnArr
  refine Spec.attnK_congr ?_ ?_ ?_ ?_ ?_ ?_ ?_ ?_ ?_ ?_ ?_ ?_ ?_ ?_ ?_ ?_ ?_
  · intro t k; blk_ext [iblk3, idx3 i]
  · intro k c; blk_ext [iblk3, idx3 i]
  · intro c; blk_ext [iblk3, idx3 i]
  · intro k c; blk_ext [iblk3, idx3 i]
  · intro c; blk_ext [iblk3, idx3 i]
  · intro k c; blk_ext [iblk3, idx3 i]
  · intro c; blk_ext [iblk3, idx3 i]
  · intro k c; blk_ext [iblk3, idx3 i]
  · intro c; blk_ext [iblk3, idx3 i]
  · intro c; blk_ext [iblk3, idx3 i]
  · intro c; blk_ext [iblk3, idx3 i]
  · intro k c; blk_ext [iblk3, idx3 i]
  · intro c; blk_ext [iblk3, idx3 i]
  · intro k c; blk_ext [iblk3, idx3 i]
  · intro k c; blk_ext [iblk3, idx3 i]
  · intro k c; blk_ext [iblk3, idx3 i]
  · refine Fin.ext ?_; blk_simp [idx3 i]

end Cert.KernelIdeal.Attn
-- ==== Proof.Whole.lean ====
/-
  The stages as functions of the program's arrays: the graph stage's sequence of one row, and the row's recurrent
  states.
-/
module

public import proofs.«01_k».proof.Proof.Spec
public import proofs.«01_k».proof.Proof.AttnSpec

@[expose] public section

noncomputable section

namespace Cert.Spec

open Idealize.ShloMosaic

section
variable (x0 : FVec Ideal ⟨4, ![8, 1024, 16, 64]⟩ .f32) (x1 : FVec Ideal ⟨2, ![1024, 64]⟩ .f32) (x2 : FVec Ideal ⟨2, ![1024, 1024]⟩ .f32)
    (x3 : FVec Ideal ⟨2, ![64, 256]⟩ .f32) (x4 : FVec Ideal ⟨1, ![256]⟩ .f32) (x5 : FVec Ideal ⟨2, ![256, 64]⟩ .f32) (x6 : FVec Ideal ⟨1, ![64]⟩ .f32)
    (x7 : FVec Ideal ⟨2, ![1024, 64]⟩ .f32) (x8 : FVec Ideal ⟨1, ![1024]⟩ .f32) (x9 : FVec Ideal ⟨2, ![64, 64]⟩ .f32) (x10 : FVec Ideal ⟨1, ![64]⟩ .f32)

/-- The graph stage's result for graph `b`, node `n`, step `t` and feature `e`. -/
def graph (b : Fin 8) (n : Fin 1024) (t : Fin 16) (e : Fin 64) : EReal :=
  gcn (fun n k => x0 (ix4 b n t k)) (fun n m => x2 (ix2 n m)) (hnew (fun n k => x1 (ix2 n k)) (fun k m => x7 (ix2 m k)) (fun m => x8 (ix1 m)))
    (fun k h => x3 (ix2 k h)) (fun h => x4 (ix1 h)) (fun h d => x5 (ix2 h d)) (fun d => x6 (ix1 d) + x6 (ix1 d))
    (fun d e => x9 (ix2 e d)) (fun e => x10 (ix1 e)) n e

/-- The sequence of row `r`: its graph is `r / 1024`, its node `r % 1024`. -/
def graphSeq (r : Fin 8192) (t : ℕ) (k : Fin 64) : EReal :=
  graph x0 x1 x2 x3 x4 x5 x6 x7 x8 x9 x10 ⟨r.val / 1024, by omega⟩ ⟨r.val % 1024, by omega⟩ ⟨t % 16, by omega⟩ k
end

section
variable (xs : ℕ → Fin 64 → EReal) (x11 x12 : FVec Ideal ⟨2, ![192, 64]⟩ .f32) (x13 x14 : FVec Ideal ⟨1, ![192]⟩ .f32) (x15 x16 : FVec Ideal ⟨2, ![192, 64]⟩ .f32)
    (x17 x18 : FVec Ideal ⟨1, ![192]⟩ .f32)

/-- The second layer's states of a sequence, after each of its 16 steps, with the cell `c`. -/
def hid (c : (Fin 192 → EReal) → (Fin 192 → EReal) → (Fin 64 → EReal) → Fin 64 → EReal) (t : Fin 16) (k : Fin 64) : EReal :=
  (states c xs (fun k j => x11 (ix2 j k)) (fun j => x13 (ix1 j)) (fun k j => x12 (ix2 j k)) (fun j => x14 (ix1 j))
    (fun k j => x15 (ix2 j k)) (fun j => x17 (ix1 j)) (fun k j => x16 (ix2 j k)) (fun j => x18 (ix1 j)) (t.val + 1)).2 k

/-- The two forms of the cell give the same states. -/
theorem hid_eq : hid xs x11 x12 x13 x14 x15 x16 x17 x18 cellK = hid xs x11 x12 x13 x14 x15 x16 x17 x18 cellR := by
  funext t k
  unfold hid
  rw [(states_eq _ _ _ _ _ _ _ _ _ _).1]

/-- The states are real numbers. -/
theorem hid_real (t : Fin 16) (k : Fin 64) : Real' (hid xs x11 x12 x13 x14 x15 x16 x17 x18 cellR t k) :=
  ((states_eq _ _ _ _ _ _ _ _ _ _).2 k).2
end

/-- The mask: one where a lane's key step comes after the query step. -/
def maskT (t : Fin 16) (l : Fin 64) : EReal := if l.val % 16 ≤ t.val then 0 else 1

/-- One where two lanes are of one head. -/
def segT (m l : Fin 64) : EReal := if m.val / 16 = l.val / 16 then 1 else 0

end Cert.Spec
-- ==== Proof.KernelValue.lean ====
/-
  The kernel's result as a function of its arguments, launch after launch.
-/
module

public import proofs.«01_k».proof.Proof.Regions
public import proofs.«01_k».proof.Proof.HostReads
public import proofs.«01_k».proof.Proof.HostGru
public import proofs.«01_k».proof.Proof.HostAttn
public import proofs.«01_k».proof.Proof.GruRegion
public import proofs.«01_k».proof.Proof.AttnRegion
public import proofs.«01_k».proof.Proof.Whole

@[expose] public section

set_option maxRecDepth 16384

noncomputable section

namespace Cert.KernelIdeal.Result

open Idealize.ShloMosaic Idealize.ShloMosaic.TcCoe Idealize.SL.Sem
open Cert.KernelIdeal Cert.KernelIdeal.Gen Cert.KernelIdeal.Host

/-- Twice a number is the number added to itself. -/
theorem two_mul' (x : EReal) : Ideal.ofBits .f32 0x40000000#32 * x = x + x := by
  have h2 : Ideal.ofBits .f32 0x40000000#32 = ((2 : ℝ) : EReal) := by
    simp [Ideal.ofBits, Ideal.ieee, -EReal.coe_mul]; norm_num
  rw [h2]
  induction x with
  | bot => simp [EReal.coe_mul_bot_of_pos]
  | coe x => rw [← EReal.coe_mul, ← EReal.coe_add, two_mul]
  | top => simp [EReal.coe_mul_top_of_pos]

/-- The word of one is one. -/
theorem one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- The word of zero is zero. -/
theorem zero_f32 : Ideal.ofBits .f32 0x00000000#32 = (0 : EReal) := by
  simp [Ideal.ofBits, Ideal.ieee]

variable (m : (ℓ : Loc nD τ sig) → Buf (Elt Ideal) ℓ) (ρ : Dev nD → PrngReg)

/-- What the second launch finds as the learned adjacency. -/
theorem hnew_entry (c : Dev nD) (n k : Fin 1024) : (V3 m ρ c main_v3 : FVec Ideal S1024x1024 .bf16) (ix2 n k)
    = Spec.hnew (fun n k => (m ((c.tc : Thread nD τ).loc main_arg1) : FVec Ideal S1024x64 .f32) (ix2 n k))
        (fun k n => (m ((c.tc : Thread nD τ).loc main_arg7) : FVec Ideal S1024x64 .f32) (ix2 n k))
        (fun n => (m ((c.tc : Thread nD τ).loc main_arg8) : FVec Ideal S1024 .f32) (ix1 n)) n k := by
  have h : (V3 m ρ c main_v3 : FVec Ideal S1024x1024 .bf16) = (dat0 (V1 m ρ) c).arrAt 3 cfg0.N :=
    (W3_of m ρ c main_v3 (by decide)).trans (W2_arr m ρ c 3)
  rw [h, Gcn.final0]
  dsimp only
  congr 1
  · funext k n; exact v1_at (W0 m ρ c) k n
  · funext n; exact v2_at (W0 m ρ c) n

/-- The graph launch's array. -/
theorem gcn_at (c : Dev nD) (t : Fin 16) (b : Fin 8) (n : Fin 1024) (e : Fin 64) :
    (W4 m ρ c (Proc.devRef .tc main_v18) : FVec Ideal S16x8x1024x64 .bf16) (ix4 t b n e)
      = Spec.graph (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b n t e := by
  have h : (W4 m ρ c (Proc.devRef .tc main_v18) : FVec Ideal S16x8x1024x64 .bf16) = (dat1 (V3 m ρ) c).arrAt 9 cfg1.N := W4_arr m ρ c 9
  rw [h, Gcn.final1]
  unfold Gcn.gcnArr Spec.graph
  have ha : ∀ a ∈ argRefs, W2 m ρ c (Proc.devRef .tc a) = m ((c : Thread nD τ).loc a) := W2_args m ρ c
  congr 1
  · funext n k; exact (v4_at (W2 m ρ c) b n t k).trans (congrFun (ha main_arg0 (by decide)) _)
  · funext n k; exact hnew_entry m ρ c n k
  · funext h; exact (v13_at (W2 m ρ c) h).trans (congrFun (ha main_arg4 (by decide)) _)
  · funext d
    refine (v10_at (W2 m ρ c) ⟨t.val % 8, by omega⟩ d).trans ((two_mul' _).trans ?_)
    rw [ha main_arg6 (by decide)]
  · funext d e; exact (v16_at (W2 m ρ c) d e).trans (congrFun (ha main_arg9 (by decide)) _)
  · funext e; exact (v17_at (W2 m ρ c) e).trans (congrFun (ha main_arg10 (by decide)) _)

/-- The graph stage's sequence of a row. -/
abbrev seqK (c : Dev nD) (r : Fin 8192) : ℕ → Fin 64 → EReal :=
  Spec.graphSeq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) r

/-- The recurrent states of a row. -/
abbrev hidK (c : Dev nD) (r : Fin 8192) : Fin 16 → Fin 64 → EReal :=
  Spec.hid (seqK m c r) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) Spec.cellK

/-- The recurrent launch's array. -/
theorem gru_at (c : Dev nD) (t : Fin 16) (r : Fin 8192) (k : Fin 64) :
    (W6 m ρ c (Proc.devRef .tc main_v32) : FVec Ideal S16x8192x64 .f32) (ix3 t r k) = hidK m c r t k := by
  have h : (W6 m ρ c (Proc.devRef .tc main_v32) : FVec Ideal S16x8192x64 .f32) = (dat2 (V5 m ρ) c).arrAt 9 cfg2.N := W6_arr m ρ c 9
  rw [h, Gru.final2]
  unfold Gru.gruArr hidK Spec.hid
  have ha : ∀ a ∈ argRefs, W4 m ρ c (Proc.devRef .tc a) = m ((c : Thread nD τ).loc a) := W4_args m ρ c
  refine Spec.states_congr ?_ ?_ ?_ ?_ ?_ ?_ ?_ ?_ ?_ rfl rfl
  · intro t k
    have e : (ix3 (⟨t % 16, Nat.mod_lt _ (by norm_num)⟩ : Fin 16) r k : S16x8192x64.Idx)
        = ix3 ⟨t % 16, Nat.mod_lt _ (by norm_num)⟩ ⟨1024 * (r.val / 1024) + r.val % 1024, by omega⟩ k :=
      congrArg (fun q => ix3 _ q k) (Fin.ext (by dsimp only; omega))
    refine (congrArg (W5 m ρ c (Proc.devRef .tc main_v19) : FVec Ideal S16x8192x64 .bf16) e).trans ?_
    exact (v19_at (W4 m ρ c) _ ⟨r.val / 1024, by omega⟩ ⟨r.val % 1024, by omega⟩ k).trans (gcn_at m ρ c _ _ _ k)
  · exact fun k j => (v21_at (W4 m ρ c) k j).trans (congrFun (ha main_arg11 (by decide)) _)
  · exact fun j => (v22_at (W4 m ρ c) j).trans (congrFun (ha main_arg13 (by decide)) _)
  · exact fun k j => (v24_at (W4 m ρ c) k j).trans (congrFun (ha main_arg12 (by decide)) _)
  · exact fun j => (v27_at (W4 m ρ c) j).trans (congrFun (ha main_arg14 (by decide)) _)
  · exact fun k j => (v30_at (W4 m ρ c) k j).trans (congrFun (ha main_arg15 (by decide)) _)
  · exact fun j => (v31_at (W4 m ρ c) j).trans (congrFun (ha main_arg17 (by decide)) _)
  · exact fun k j => (v26_at (W4 m ρ c) k j).trans (congrFun (ha main_arg16 (by decide)) _)
  · exact fun j => (v28_at (W4 m ρ c) j).trans (congrFun (ha main_arg18 (by decide)) _)

/-- The mask the attention launch finds. -/
theorem mask_entry (c : Dev nD) (t : Fin 16) (l : Fin 64) :
    (V15 m ρ c main_v43 : FVec Ideal S16x64 .f32) (ix2 t l) = Spec.maskT t l := by
  have h : (V15 m ρ c main_v43 : FVec Ideal S16x64 .f32) = W11 m ρ c (Proc.devRef .tc main_v43) :=
    (W15_of m ρ c main_v43 (by decide)).trans ((W14_of m ρ c main_v43 (by decide)).trans ((W13_of m ρ c main_v43 (by decide)).trans (W12_of m ρ c main_v43 (by decide))))
  have h34 : (W8 m ρ c (Proc.devRef .tc main_v34) : IVec S16 32) = iotaInDim S16 32 0 := (W8_of m ρ c main_v34 (by decide)).trans (v34_eq (W6 m ρ c))
  have h36 : (W8 m ρ c (Proc.devRef .tc main_v36) : IVec S64 32) (ix1 l) = BitVec.ofNat 32 (l.val % 16) := v36_at (W7 m ρ c) (v35_eq (W6 m ρ c)) (c_eq (W6 m ρ c)) l
  rw [h]
  refine (congrFun (v43_eq (W10 m ρ c)) (ix2 t l)).trans ((v42_at (W9 m ρ c) t l).trans ?_)
  have h41 := v41_at (W8 m ρ c) t l
  rw [h36, h34] at h41
  have hb : (W9 m ρ c (Proc.devRef .tc main_v41) : IVec S16x64 1) (ix2 t l) = if l.val % 16 ≤ t.val then 1#1 else 0#1 :=
    h41.trans ((by decide +kernel : ∀ (t : Fin 16) (l : Fin 64), IntOp.cmpi .sle (BitVec.ofNat 32 (l.val % 16)) ((iotaInDim S16 32 0 : IVec S16 32) (ix1 t)) = if l.val % 16 ≤ t.val then 1#1 else 0#1) t l)
  have h0 : (W9 m ρ c (Proc.devRef .tc main_cst_0) : FVec Ideal S_ .f32) = constant (F := Ideal) S_ .f32 0x00000000#32 := cst0_eq (W8 m ρ c)
  have h1 : (W9 m ρ c (Proc.devRef .tc main_cst_1) : FVec Ideal S_ .f32) = constant (F := Ideal) S_ .f32 0x3F800000#32 := cst1_eq (W8 m ρ c)
  rw [hb, h0, h1]
  unfold Spec.maskT
  by_cases q : l.val % 16 ≤ t.val
  · simp only [if_pos q, if_true]
    exact zero_f32
  · rw [if_neg q, if_neg q]
    exact (if_neg (show ¬ (0#1 : BitVec 1) = 1#1 by decide)).trans one_f32

/-- The table of heads the attention launch finds. -/
theorem seg_entry (c : Dev nD) (a l : Fin 64) :
    (V15 m ρ c main_v53 : FVec Ideal S64x64 .bf16) (ix2 a l) = Spec.segT a l := by
  have h46 : (W14 m ρ c (Proc.devRef .tc main_v46) : IVec S64x1 32) (ix2 a 0) = BitVec.ofNat 32 (a.val / 16) := by
    have e : (W14 m ρ c (Proc.devRef .tc main_v46) : IVec S64x1 32) = W12 m ρ c (Proc.devRef .tc main_v46) :=
      (W14_of m ρ c main_v46 (by decide)).trans (W13_of m ρ c main_v46 (by decide))
    rw [e]
    exact v46_at (W11 m ρ c) (v45_eq (W10 m ρ c)) (c2_eq (W10 m ρ c)) a
  have h49 : (W14 m ρ c (Proc.devRef .tc main_v49) : IVec S1x64 32) (ix2 0 l) = BitVec.ofNat 32 (l.val / 16) :=
    v49_at (W13 m ρ c) (v48_at (W12 m ρ c)) (c3_eq (W12 m ρ c)) l
  refine (v53_at (W14 m ρ c) a l).trans ?_
  rw [h46, h49, (by decide +kernel : ∀ a l : Fin 64, IntOp.cmpi .eq (BitVec.ofNat 32 (a.val / 16)) (BitVec.ofNat 32 (l.val / 16)) = if a.val / 16 = l.val / 16 then 1#1 else 0#1) a l]
  unfold Spec.segT
  by_cases q : a.val / 16 = l.val / 16
  · simp only [if_pos q]
    show (((1#1 : BitVec 1).toNat : ℝ) : EReal) = 1
    norm_num
  · simp only [if_neg q]
    show (((0#1 : BitVec 1).toNat : ℝ) : EReal) = 0
    norm_num

/-- The kernel's result at row `r` and output `o`. -/
theorem res_at (c : Dev nD) (r : Fin 8192) (o : Fin 2) :
    ((Gen.dat3 (V15 m ρ) c).arrAt 16 cfg3.N : FVec Ideal S8192x2 .f32) (ix2 r o)
      = Spec.attnK (hidK m c r)
        (fun k c' => (m ((c.tc : Thread nD τ).loc main_arg19) : FVec Ideal S64x64 .f32) (ix2 c' k)) (fun c' => (m ((c.tc : Thread nD τ).loc main_arg20) : FVec Ideal S64 .f32) (ix1 c'))
        (fun k c' => (m ((c.tc : Thread nD τ).loc main_arg21) : FVec Ideal S64x64 .f32) (ix2 c' k)) (fun c' => (m ((c.tc : Thread nD τ).loc main_arg22) : FVec Ideal S64 .f32) (ix1 c'))
        (fun k c' => (m ((c.tc : Thread nD τ).loc main_arg23) : FVec Ideal S64x64 .f32) (ix2 c' k)) (fun c' => (m ((c.tc : Thread nD τ).loc main_arg24) : FVec Ideal S64 .f32) (ix1 c'))
        (fun k c' => (m ((c.tc : Thread nD τ).loc main_arg25) : FVec Ideal S64x64 .f32) (ix2 c' k)) (fun c' => (m ((c.tc : Thread nD τ).loc main_arg26) : FVec Ideal S64 .f32) (ix1 c')) Attn.eps
        (fun c' => (m ((c.tc : Thread nD τ).loc main_arg27) : FVec Ideal S64 .f32) (ix1 c')) (fun c' => (m ((c.tc : Thread nD τ).loc main_arg28) : FVec Ideal S64 .f32) (ix1 c'))
        (fun k c' => (m ((c.tc : Thread nD τ).loc main_arg29) : FVec Ideal S256x1024 .f32) (ix2 c' k)) (fun c' => (m ((c.tc : Thread nD τ).loc main_arg30) : FVec Ideal S256 .f32) (ix1 c'))
        (fun k c' => (m ((c.tc : Thread nD τ).loc main_arg31) : FVec Ideal S2x256 .f32) (ix2 c' k))
        Spec.maskT Spec.segT o := by
  rw [Attn.final3]
  unfold Attn.attnArr
  have ha : ∀ a ∈ argRefs, W14 m ρ c (Proc.devRef .tc a) = m ((c : Thread nD τ).loc a) := W14_args m ρ c
  refine Spec.attnK_congr ?_ ?_ ?_ ?_ ?_ ?_ ?_ ?_ ?_ ?_ ?_ ?_ ?_ ?_ ?_ ?_ rfl
  · intro t k
    have h : (V15 m ρ c main_v33 : FVec Ideal S8192x16x64 .f32) = W7 m ρ c (Proc.devRef .tc main_v33) :=
      (W15_of m ρ c main_v33 (by decide)).trans ((W14_of m ρ c main_v33 (by decide)).trans ((W13_of m ρ c main_v33 (by decide)).trans
        ((W12_of m ρ c main_v33 (by decide)).trans ((W11_of m ρ c main_v33 (by decide)).trans ((W10_of m ρ c main_v33 (by decide)).trans
        ((W9_of m ρ c main_v33 (by decide)).trans (W8_of m ρ c main_v33 (by decide))))))))
    rw [h]
    exact (v33_at (W6 m ρ c) r t k).trans (gru_at m ρ c t r k)
  · exact fun k c' => (v55_at (W14 m ρ c) k c').trans (congrFun (ha main_arg19 (by decide)) _)
  · exact fun c' => (v56_at (W14 m ρ c) c').trans (congrFun (ha main_arg20 (by decide)) _)
  · exact fun k c' => (v58_at (W14 m ρ c) k c').trans (congrFun (ha main_arg21 (by decide)) _)
  · exact fun c' => (v59_at (W14 m ρ c) c').trans (congrFun (ha main_arg22 (by decide)) _)
  · exact fun k c' => (v61_at (W14 m ρ c) k c').trans (congrFun (ha main_arg23 (by decide)) _)
  · exact fun c' => (v62_at (W14 m ρ c) c').trans (congrFun (ha main_arg24 (by decide)) _)
  · exact fun k c' => (v64_at (W14 m ρ c) k c').trans (congrFun (ha main_arg25 (by decide)) _)
  · exact fun c' => (v65_at (W14 m ρ c) c').trans (congrFun (ha main_arg26 (by decide)) _)
  · exact fun c' => (v66_at (W14 m ρ c) c').trans (congrFun (ha main_arg27 (by decide)) _)
  · exact fun c' => (v67_at (W14 m ρ c) c').trans (congrFun (ha main_arg28 (by decide)) _)
  · exact fun k c' => (v69_at (W14 m ρ c) k c').trans (congrFun (ha main_arg29 (by decide)) _)
  · exact fun c' => (v70_at (W14 m ρ c) c').trans (congrFun (ha main_arg30 (by decide)) _)
  · exact fun k c' => (v72_at (W14 m ρ c) k c').trans (congrFun (ha main_arg31 (by decide)) _)
  · exact mask_entry m ρ c
  · exact seg_entry m ρ c

end Cert.KernelIdeal.Result
-- ==== Proof.AttnMath.lean ====
/-
  The two forms of the attention stage agree: at real queries and keys a softmax over one head does not feel which
  real number is taken off all its scores, and a product with the reciprocal root is the quotient by the root of a
  positive number.
-/
module

public import proofs.«01_k».proof.Proof.Whole

@[expose] public section

noncomputable section

namespace Cert.Spec

open Idealize.ShloMosaic

/-- The sum of two real numbers is real. -/
theorem Real'.add {x y : EReal} (hx : Real' x) (hy : Real' y) : Real' (x + y) := by
  obtain ⟨a, rfl⟩ := hx
  obtain ⟨b, rfl⟩ := hy
  exact ⟨a + b, (EReal.coe_add a b).symm⟩

/-- The product of two real numbers is real. -/
theorem Real'.mul {x y : EReal} (hx : Real' x) (hy : Real' y) : Real' (x * y) := by
  obtain ⟨a, rfl⟩ := hx
  obtain ⟨b, rfl⟩ := hy
  exact ⟨a * b, (EReal.coe_mul a b).symm⟩

/-- A finite sum of real numbers, in the reals. -/
theorem coe_sum' {ι : Type} [Fintype ι] (f : ι → ℝ) : (∑ i, ((f i : ℝ) : EReal)) = ((∑ i, f i : ℝ) : EReal) :=
  (map_sum (⟨⟨fun r : ℝ => (r : EReal), EReal.coe_zero⟩, EReal.coe_add⟩ : ℝ →+ EReal) f Finset.univ).symm

/-- A finite sum of real numbers is real. -/
theorem Real'.sum {ι : Type} [Fintype ι] {f : ι → EReal} (hf : ∀ i, Real' (f i)) : Real' (∑ i, f i) := by
  choose g hg using hf
  exact ⟨∑ i, g i, by rw [← coe_sum']; exact Finset.sum_congr rfl fun i _ => hg i⟩

/-- A linear layer of real numbers is real. -/
theorem proj_real {x : Fin 16 → Fin 64 → EReal} {w : Fin 64 → Fin 64 → EReal} {b : Fin 64 → EReal} (hx : ∀ t k, Real' (x t k))
    (hw : ∀ k c, Real' (w k c)) (hb : ∀ c, Real' (b c)) (t : Fin 16) (c : Fin 64) : Real' (proj x w b t c) :=
  (Real'.sum fun k => (hx t k).mul (hw k c)).add (hb c)

/-- The largest of finitely many extended reals below infinity, not all of them minus infinity, is real. -/
theorem fold_real {ι : Type} [Fintype ι] (f : ι → EReal) (h : ∀ i, f i < ⊤) (i₀ : ι) (h₀ : ⊥ < f i₀) :
    ∃ M : ℝ, Finset.univ.fold max ⊥ f = (M : EReal) := by
  have hlt : Finset.univ.fold max ⊥ f < ⊤ := (Finset.fold_max_lt _).mpr ⟨bot_lt_top, fun i _ => h i⟩
  have hgt : ⊥ < Finset.univ.fold max ⊥ f := lt_of_lt_of_le h₀ ((Finset.le_fold_max _).mpr (Or.inr ⟨i₀, Finset.mem_univ _, le_rfl⟩))
  exact ⟨_, (EReal.coe_toReal hlt.ne hgt.ne').symm⟩

/-- A causal row of scores: real up to the query step, minus infinity after it. -/
def causal (r : Fin 4 → Fin 16 → Fin 16 → ℝ) (h : Fin 4) (t j : Fin 16) : EReal := if j ≤ t then (r h t j : EReal) else ⊥

/-- The exponential of a causal score less a real number. -/
def cexp (r : Fin 4 → Fin 16 → Fin 16 → ℝ) (h : Fin 4) (t j : Fin 16) (M : ℝ) : ℝ := if j ≤ t then Real.exp (r h t j - M) else 0

/-- The exponential of a masked score less a real number is the masked exponential. -/
theorem exp_causal (r : Fin 4 → Fin 16 → Fin 16 → ℝ) (h : Fin 4) (t j : Fin 16) (M : ℝ) :
    Ideal.exp (causal r h t j - (M : EReal)) = (cexp r h t j M : EReal) := by
  unfold causal cexp
  by_cases c : j ≤ t
  · rw [if_pos c, if_pos c, ← EReal.coe_sub]; rfl
  · rw [if_neg c, if_neg c, EReal.bot_sub]; rfl

/-- A masked exponential less one number is the one less another, times a factor that depends on neither place. -/
theorem cexp_shift (r : Fin 4 → Fin 16 → Fin 16 → ℝ) (h : Fin 4) (t j : Fin 16) (M N : ℝ) :
    cexp r h t j M = Real.exp (N - M) * cexp r h t j N := by
  unfold cexp
  by_cases c : j ≤ t
  · rw [if_pos c, if_pos c, ← Real.exp_add]; congr 1; ring
  · rw [if_neg c, if_neg c, mul_zero]

/-- A row of masked exponentials has a positive sum. -/
theorem cexp_sum_pos (r : Fin 4 → Fin 16 → Fin 16 → ℝ) (h : Fin 4) (t : Fin 16) (M : ℝ) : 0 < ∑ j, cexp r h t j M := by
  refine Finset.sum_pos' (fun j _ => ?_) ⟨0, Finset.mem_univ _, ?_⟩
  · unfold cexp; split
    · exact (Real.exp_pos _).le
    · exact le_rfl
  · unfold cexp; rw [if_pos (Fin.zero_le t)]; exact Real.exp_pos _

/-- No masked score is +∞. -/
theorem causal_lt (r : Fin 4 → Fin 16 → Fin 16 → ℝ) (h : Fin 4) (t j : Fin 16) : causal r h t j < ⊤ := by
  unfold causal; split
  · exact EReal.coe_lt_top _
  · exact bot_lt_top

/-- A row's first masked score is a real number, so it is above −∞. -/
theorem causal_zero (r : Fin 4 → Fin 16 → Fin 16 → ℝ) (h : Fin 4) (t : Fin 16) : ⊥ < causal r h t 0 := by
  unfold causal; rw [if_pos (Fin.zero_le t)]; exact EReal.bot_lt_coe _

/-- The quotient of two real numbers. -/
theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- A sum over the lanes of one head. -/
theorem seg_sum (f : Fin 64 → EReal) (l : Fin 64) : (∑ m : Fin 64, f m * segT m l) = ∑ j : Fin 16, f (lane (headOf l) j) := by
  have tile : ∀ (h : Fin 4) (j : Fin 16) (p : h.val * 16 + j.val < 64), (⟨h.val * 16 + j.val, p⟩ : Fin 64) = lane h j :=
    fun h j p => Fin.ext (by simp only [lane]; omega)
  rw [Fin.sum_univ_tiles 4 16 rfl fun m => f m * segT m l]
  simp only [tile]
  rw [Finset.sum_eq_single (headOf l)]
  · refine Finset.sum_congr rfl fun j _ => ?_
    unfold segT
    rw [if_pos (by simp only [lane, headOf]; omega), mul_one]
  · intro h _ hh
    refine Finset.sum_eq_zero fun j _ => ?_
    have hne : h.val ≠ l.val / 16 := fun e => hh (Fin.ext e)
    unfold segT
    rw [if_neg (by simp only [lane]; omega), mul_zero]
  · intro h; exact absurd (Finset.mem_univ _) h

/-- The kernel's weights of a causal row are the reference's. -/
theorem soft_eq (r : Fin 4 → Fin 16 → Fin 16 → ℝ) (h : Fin 4) (t j : Fin 16) :
    softK (fun t l => causal r (headOf l) t (placeOf l)) segT t (lane h j) = softR (causal r) h t j := by
  have hh : ∀ i, headOf (lane h i) = h := fun i => Fin.ext (by simp only [headOf, lane]; omega)
  have hp : ∀ i, placeOf (lane h i) = i := fun i => Fin.ext (by simp only [placeOf, lane]; omega)
  obtain ⟨M, hM⟩ := fold_real (fun m => causal r (headOf m) t (placeOf m)) (fun m => causal_lt _ _ _ _) 0 (causal_zero _ _ _)
  obtain ⟨N, hN⟩ := fold_real (fun m => causal r h t m) (fun m => causal_lt _ _ _ _) 0 (causal_zero _ _ _)
  unfold softK softR
  rw [seg_sum, hN]
  simp only [expK, hM, hh, hp, exp_causal, coe_sum']
  rw [div_real _ _ (cexp_sum_pos r h t M).ne', div_real _ _ (cexp_sum_pos r h t N).ne']
  congr 1
  rw [cexp_shift r h t j M N, Finset.sum_congr rfl fun i _ => cexp_shift r h t i M N, ← Finset.mul_sum,
    mul_div_mul_left _ _ (Real.exp_pos _).ne']

/-- The reference's scores of real queries and keys. -/
theorem scoreR_real (q k : Fin 16 → Fin 64 → ℝ) :
    scoreR (fun t c => (q t c : EReal)) (fun t c => (k t c : EReal)) = causal fun h t j => (∑ d : Fin 16, q t (lane h d) * k j (lane h d)) / 4 := by
  funext h t j
  unfold scoreR causal
  simp only [← EReal.coe_mul, coe_sum']
  rw [div_real _ _ (by norm_num)]

/-- The kernel's scores of real queries and keys. -/
theorem scoreK_real (q k : Fin 16 → Fin 64 → ℝ) :
    scoreK (fun t c => (q t c : EReal)) (fun t c => (k t c : EReal)) maskT
      = fun t l => causal (fun h t j => (∑ d : Fin 16, q t (lane h d) * k j (lane h d)) / 4) (headOf l) t (placeOf l) := by
  funext t l
  unfold scoreK causal maskT
  simp only [← EReal.coe_mul, coe_sum']
  by_cases c : l.val % 16 ≤ t.val
  · rw [if_pos c, if_pos (show placeOf l ≤ t from c), zero_mul, add_zero, Finset.sum_div]
    refine congrArg _ (Finset.sum_congr rfl fun d _ => ?_)
    ring
  · rw [if_neg c, if_neg (show ¬ placeOf l ≤ t from c), one_mul, EReal.add_bot]

/-- No square is negative, infinities included. -/
theorem sq_nonneg' (x : EReal) : 0 ≤ x * x := by
  induction x with
  | bot => simp
  | coe r => rw [← EReal.coe_mul]; exact_mod_cast mul_self_nonneg r
  | top => simp

/-- The variance plus a positive number is positive. -/
theorem vari_pos (e : ℝ) (he : 0 < e) (y : Fin 64 → EReal) : 0 < vari (e : EReal) y := by
  have h : 0 ≤ Ideal.div (∑ i : Fin 64, (y i - mean y) * (y i - mean y)) ((64 : ℝ) : EReal) := by
    rw [Ideal.div, if_neg (by norm_num), ← EReal.coe_inv]
    exact mul_nonneg (Finset.sum_nonneg fun i _ => sq_nonneg' _) (by norm_num)
  exact lt_of_lt_of_le (by exact_mod_cast he) (le_add_of_nonneg_left h)

/-- A product with the reciprocal root is the quotient by the root. -/
theorem mul_rsqrt (a v : EReal) (hv : 0 < v) : a * Ideal.rsqrt v = Ideal.div a (Ideal.sqrt v) := by
  induction v with
  | bot => exact absurd hv (by simp)
  | top =>
    show a * 0 = Ideal.div a ⊤
    rw [Ideal.div, if_neg (by simp), EReal.inv_top]
  | coe r =>
    have hr : 0 < r := by exact_mod_cast hv
    have hs : Real.sqrt r ≠ 0 := (Real.sqrt_pos.mpr hr).ne'
    have e1 : Ideal.rsqrt (r : EReal) = (((Real.sqrt r)⁻¹ : ℝ) : EReal) := by
      show (if r < 0 then ⊥ else if r = 0 then ⊤ else (((Real.sqrt r)⁻¹ : ℝ) : EReal)) = _
      rw [if_neg hr.not_gt, if_neg hr.ne']
    have e2 : Ideal.sqrt (r : EReal) = ((Real.sqrt r : ℝ) : EReal) := by
      show (if r < 0 then ⊥ else ((Real.sqrt r : ℝ) : EReal)) = _
      rw [if_neg hr.not_gt]
    rw [e1, e2, Ideal.div, if_neg (by exact_mod_cast hs), EReal.coe_inv]

/-- The two forms of the normalisation agree. -/
theorem norm_eq (e : ℝ) (he : 0 < e) : normK (e : EReal) = normR (e : EReal) := by
  funext g b y i
  unfold normK normR
  rw [mul_rsqrt _ _ (vari_pos e he y)]

/-- The two forms of the attention stage agree at a real row with real query and key layers. -/
theorem attn_eq (x : Fin 16 → Fin 64 → EReal) (wq : Fin 64 → Fin 64 → EReal) (bq : Fin 64 → EReal) (wk : Fin 64 → Fin 64 → EReal) (bk : Fin 64 → EReal)
    (wv : Fin 64 → Fin 64 → EReal) (bv : Fin 64 → EReal) (wo : Fin 64 → Fin 64 → EReal) (bo : Fin 64 → EReal) (e : ℝ) (he : 0 < e) (g b : Fin 64 → EReal)
    (wl : Fin 1024 → Fin 256 → EReal) (bl : Fin 256 → EReal) (wp : Fin 256 → Fin 2 → EReal)
    (hx : ∀ t k, Real' (x t k)) (hwq : ∀ k c, Real' (wq k c)) (hbq : ∀ c, Real' (bq c)) (hwk : ∀ k c, Real' (wk k c)) (hbk : ∀ c, Real' (bk c)) :
    attnK x wq bq wk bk wv bv wo bo e g b wl bl wp maskT segT = attnR x wq bq wk bk wv bv wo bo e g b wl bl wp := by
  choose q hq using proj_real hx hwq hbq
  choose k hk using proj_real hx hwk hbk
  have eq : proj x wq bq = fun t c => (q t c : EReal) := funext₂ hq
  have ek : proj x wk bk = fun t c => (k t c : EReal) := funext₂ hk
  unfold attnK attnR
  rw [eq, ek, scoreR_real, scoreK_real, norm_eq e he]
  simp only [soft_eq]

end Cert.Spec
-- ==== Proof.RefGraph.lean ====
/-
  The sequence the reference's recurrent layers run over: the two graph convolutions, each with its own second bias, added and mapped
  by the linear layer.
-/
module

public import proofs.«01_k».proof.Proof.Gen.ReferenceIdeal
public import proofs.«01_k».proof.Proof.Whole
public import Idealize.ShloMosaic.Lib.Pointwise

@[expose] public section

set_option maxRecDepth 16384

noncomputable section

namespace Cert.ReferenceIdeal.Graph

open Idealize.ShloMosaic Idealize.ShloMosaic.TcCoe Idealize.SL.Sem
open Idealize.ShloMosaic.StableHlo
open Cert.ReferenceIdeal Cert.ReferenceIdeal.Gen

variable (x0 : FVec Ideal S8x1024x16x64 .f32) (x1 : FVec Ideal S1024x64 .f32) (x2 : FVec Ideal S1024x1024 .f32) (x3 : FVec Ideal S64x256 .f32)
  (x4 : FVec Ideal S256 .f32) (x5 : FVec Ideal S256x64 .f32) (x6 : FVec Ideal S64 .f32) (x7 : FVec Ideal S1024x64 .f32) (x8 : FVec Ideal S1024 .f32)
  (x9 : FVec Ideal S64x64 .f32) (x10 : FVec Ideal S64 .f32)

local notation "Wide" => FVec Ideal S8x16x1024x256 FTy.f32
local notation "Node" => FVec Ideal S8x16x1024x64 FTy.f32
local notation "Adj" => FVec Ideal S1024x1024 FTy.f32

/-- The learned adjacency. -/
def learned : Adj :=
  addf (Host.dotGeneral (F := Ideal) (φ₁ := .f32) (φ₂ := .f32) dot_S1024x64_S64x1024_S1024x1024_1_0_0_1_n_n none x1 (transpose S64x1024 [1, 0] x7 transposes_S1024x64_S64x1024_1_0))
    (broadcastInDim S1024x1024 ![0, 1] bcast_S1x1024_S1024x1024_0_1 (broadcastInDim S1x1024 ![1] bcast_S1024_S1x1024_1 x8))

/-- The features of every graph at every time step. -/
def features : Wide :=
  Host.dotGeneral (F := Ideal) (φ₁ := .f32) (φ₂ := .f32) dot_S8x16x1024x64_S64x256_S8x16x1024x256_3_0_012_1_n_n none (transpose S8x16x1024x64 [0, 2, 1, 3] x0 transposes_S8x1024x16x64_S8x16x1024x64_0_2_1_3) x3

/-- The first convolution with an adjacency, mapped by the second weight. -/
def support (A : Adj) (f : Wide) : Node :=
  Host.dotGeneral (F := Ideal) (φ₁ := .f32) (φ₂ := .f32) dot_S8x16x1024x256_S256x64_S8x16x1024x64_3_0_012_1_n_n none (maximumf (addf
    (transpose S8x16x1024x256 [1, 2, 0, 3] (Host.dotGeneral (F := Ideal) (φ₁ := .f32) (φ₂ := .f32) dot_S1024x1024_S8x16x1024x256_S1024x8x16x256_1_2_0_013_n_n none A f) transposes_S1024x8x16x256_S8x16x1024x256_1_2_0_3)
    (broadcastInDim S8x16x1024x256 ![0, 1, 2, 3] bcast_S1x1x1x256_S8x16x1024x256_0_1_2_3 (broadcastInDim S1x1x1x256 ![1, 2, 3] bcast_S1x1x256_S1x1x1x256_1_2_3
      (broadcastInDim S1x1x256 ![1, 2] bcast_S1x256_S1x1x256_1_2 (broadcastInDim S1x256 ![1] bcast_S256_S1x256_1 x4)))))
    (broadcastInDim S8x16x1024x256 ![] bcast_S_S8x16x1024x256 (constant S_ .f32 0x00000000#32))) x5

/-- The second convolution with an adjacency. -/
def conv (A : Adj) (s : Node) : Node :=
  addf (transpose S8x16x1024x64 [1, 2, 0, 3] (Host.dotGeneral (F := Ideal) (φ₁ := .f32) (φ₂ := .f32) dot_S1024x1024_S8x16x1024x64_S1024x8x16x64_1_2_0_013_n_n none A s) transposes_S1024x8x16x64_S8x16x1024x64_1_2_0_3)
    (broadcastInDim S8x16x1024x64 ![0, 1, 2, 3] bcast_S1x1x1x64_S8x16x1024x64_0_1_2_3 (broadcastInDim S1x1x1x64 ![1, 2, 3] bcast_S1x1x64_S1x1x1x64_1_2_3
      (broadcastInDim S1x1x64 ![1, 2] bcast_S1x64_S1x1x64_1_2 (broadcastInDim S1x64 ![1] bcast_S64_S1x64_1 x6))))

/-- The linear layer after the convolutions, with the steps inside a node. -/
def mapped (g : Node) : FVec Ideal S8x1024x16x64 .f32 :=
  addf (Host.dotGeneral (F := Ideal) (φ₁ := .f32) (φ₂ := .f32) dot_S8x1024x16x64_S64x64_S8x1024x16x64_3_0_012_1_n_n none (transpose S8x1024x16x64 [0, 2, 1, 3] g transposes_S8x16x1024x64_S8x1024x16x64_0_2_1_3)
      (transpose S64x64 [1, 0] x9 transposes_S64x64_S64x64_1_0))
    (broadcastInDim S8x1024x16x64 ![0, 1, 2, 3] bcast_S1x1x1x64_S8x1024x16x64_0_1_2_3 (broadcastInDim S1x1x1x64 ![3] bcast_S64_S1x1x1x64_3 x10))

/-- The graph stage. -/
def stage : FVec Ideal S8x1024x16x64 .f32 :=
  mapped x9 x10 (addf (conv x6 x2 (support x4 x5 x2 (features x0 x3))) (conv x6 (learned x1 x7 x8) (support x4 x5 (learned x1 x7 x8) (features x0 x3))))

/-- The graph stage with one row for each graph and node. -/
def rows : FVec Ideal S8192x16x64 .f32 :=
  shapeCast S8192x16x64 (stage x0 x1 x2 x3 x4 x5 x6 x7 x8 x9 x10) shapeCasts_S8x1024x16x64_S8192x16x64

/-- The learned adjacency at two nodes. -/
theorem learned_at (n m : Fin 1024) : learned x1 x7 x8 (ix2 n m)
    = Spec.hnew (fun n k => x1 (ix2 n k)) (fun k m => x7 (ix2 m k)) (fun m => x8 (ix1 m)) n m := by
  pointwise [learned, Spec.hnew]

/-- The features of one graph at one time step. -/
theorem features_at (b : Fin 8) (t : Fin 16) (n : Fin 1024) (h : Fin 256) : features x0 x3 (ix4 b t n h)
    = Spec.feat (fun n k => x0 (ix4 b n t k)) (fun k h => x3 (ix2 k h)) n h := by
  pointwise [features, Spec.feat]

/-- The support of one graph at one time step. -/
theorem support_at (A : Adj) (f : Wide) (b : Fin 8) (t : Fin 16) (n : Fin 1024) (d : Fin 64) : support x4 x5 A f (ix4 b t n d)
    = Spec.support (fun n m => A (ix2 n m)) (fun n h => f (ix4 b t n h)) (fun h => x4 (ix1 h)) (fun h d => x5 (ix2 h d)) n d := by
  pointwise [support, Spec.support]

/-- The second convolution of one graph at one time step. -/
theorem conv_at (A : Adj) (s : Node) (b : Fin 8) (t : Fin 16) (n : Fin 1024) (d : Fin 64) : conv x6 A s (ix4 b t n d)
    = (∑ m : Fin 1024, A (ix2 n m) * s (ix4 b t m d)) + x6 (ix1 d) := by
  pointwise [conv]

/-- The linear layer of one graph at one time step. -/
theorem mapped_at (g : Node) (b : Fin 8) (t : Fin 16) (n : Fin 1024) (e : Fin 64) : mapped x9 x10 g (ix4 b n t e)
    = (∑ d : Fin 64, g (ix4 b t n d) * x9 (ix2 e d)) + x10 (ix1 e) := by
  pointwise [mapped]

/-- The graph stage of one graph at one time step, with the second bias counted twice. -/
theorem stage_at (t : Fin 16) (b : Fin 8) (n : Fin 1024) (e : Fin 64) : stage x0 x1 x2 x3 x4 x5 x6 x7 x8 x9 x10 (ix4 b n t e)
    = Spec.graph x0 x1 x2 x3 x4 x5 x6 x7 x8 x9 x10 b n t e := by
  unfold stage
  rw [mapped_at]
  unfold Spec.graph Spec.gcn
  refine congrArg (· + x10 (ix1 e)) (Finset.sum_congr rfl fun d _ => congrArg (· * x9 (ix2 e d)) ?_)
  refine (congrArg₂ (· + ·) (conv_at x6 x2 (support x4 x5 x2 (features x0 x3)) b t n d)
    (conv_at x6 (learned x1 x7 x8) (support x4 x5 (learned x1 x7 x8) (features x0 x3)) b t n d)).trans ?_
  simp only [support_at, features_at, learned_at]
  unfold Spec.conv
  exact add_add_add_comm _ _ _ _

/-- The sequence at step `t` of row `r`. -/
theorem rows_at (r : Fin 8192) (t : Fin 16) (k : Fin 64) : rows x0 x1 x2 x3 x4 x5 x6 x7 x8 x9 x10 (ix3 r t k)
    = Spec.graphSeq x0 x1 x2 x3 x4 x5 x6 x7 x8 x9 x10 r t.val k := by
  have ht : (⟨t.val % 16, by omega⟩ : Fin 16) = t := Fin.ext (Nat.mod_eq_of_lt t.isLt)
  unfold Spec.graphSeq
  rw [ht, ← stage_at]
  generalize hA : stage x0 x1 x2 x3 x4 x5 x6 x7 x8 x9 x10 = A
  obtain ⟨b, n, rfl⟩ : ∃ (b : Fin 8) (n : Fin 1024), r = ⟨b.val * 1024 + n.val, by omega⟩ :=
    ⟨⟨r.val / 1024, by omega⟩, ⟨r.val % 1024, by omega⟩, Fin.ext (by dsimp only; omega)⟩
  have hb : (⟨(b.val * 1024 + n.val) / 1024, by omega⟩ : Fin 8) = b := Fin.ext (by dsimp only; omega)
  have hn : (⟨(b.val * 1024 + n.val) % 1024, by omega⟩ : Fin 1024) = n := Fin.ext (by dsimp only; omega)
  simp only [hb, hn]
  pointwise [rows, hA]

end Cert.ReferenceIdeal.Graph
-- ==== Proof.RefStep.lean ====
/-
  The reference's recurrent layer: its cell at a row, its 16 steps, and the array of the states after each step.
-/
module

public import proofs.«01_k».proof.Proof.Gen.ReferenceIdeal
public import proofs.«01_k».proof.Proof.Whole
public import Idealize.ShloMosaic.Lib.Pointwise

@[expose] public section

set_option maxRecDepth 16384

noncomputable section

namespace Cert.ReferenceIdeal.Layer

open Idealize.ShloMosaic Idealize.ShloMosaic.TcCoe Idealize.SL.Sem
open Idealize.ShloMosaic.StableHlo
open Cert.ReferenceIdeal Cert.ReferenceIdeal.Gen

/-- The word of one is one. -/
theorem one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- All rows through a linear layer with 192 outputs. -/
def layer (h : FVec Ideal S8192x64 .f32) (w : FVec Ideal S192x64 .f32) (b : FVec Ideal S192 .f32) : FVec Ideal S8192x192 .f32 :=
  addf (Host.dotGeneral dot_S8192x64_S64x192_S8192x192_1_0_0_1_n_n none h (transpose S64x192 [1, 0] w transposes_S192x64_S64x192_1_0))
    (broadcastInDim S8192x192 ![0, 1] bcast_S1x192_S8192x192_0_1 (broadcastInDim S1x192 ![1] bcast_S192_S1x192_1 b))

/-- The array of ones. -/
def ones : FVec Ideal S8192x64 .f32 := broadcastInDim S8192x64 ![] bcast_S_S8192x64 (constant (F := Ideal) S_ .f32 0x3F800000#32)

/-- The logistic function of the sum of two arrays. -/
def gate (a b : FVec Ideal S8192x64 .f32) : FVec Ideal S8192x64 .f32 :=
  Host.divf ones (addf ones (Host.exp (Host.negf (addf a b))))

/-- All rows through the cell. -/
def cell (g gh : FVec Ideal S8192x192 .f32) (h : FVec Ideal S8192x64 .f32) : FVec Ideal S8192x64 .f32 :=
  addf (mulf (subf ones (gate (extractStridedSlice S8192x64 ![0, 64] g slices_S8192x192_S8192x64_0_64) (extractStridedSlice S8192x64 ![0, 64] gh slices_S8192x192_S8192x64_0_64)))
    (Host.tanh (addf (extractStridedSlice S8192x64 ![0, 128] g slices_S8192x192_S8192x64_0_128)
      (mulf (gate (extractStridedSlice S8192x64 ![0, 0] g slices_S8192x192_S8192x64_0_0) (extractStridedSlice S8192x64 ![0, 0] gh slices_S8192x192_S8192x64_0_0))
        (extractStridedSlice S8192x64 ![0, 128] gh slices_S8192x192_S8192x64_0_128)))))
    (mulf (gate (extractStridedSlice S8192x64 ![0, 64] g slices_S8192x192_S8192x64_0_64) (extractStridedSlice S8192x64 ![0, 64] gh slices_S8192x192_S8192x64_0_64)) h)

/-- The linear layer at a row is the row through the linear layer. -/
theorem layer_at (h : FVec Ideal S8192x64 .f32) (w : FVec Ideal S192x64 .f32) (b : FVec Ideal S192 .f32) (r : Fin 8192) (j : Fin 192) :
    layer h w b (ix2 r j) = Spec.lin (fun k => h (ix2 r k)) (fun k j => w (ix2 j k)) (fun j => b (ix1 j)) j := by
  unfold Spec.lin
  pointwise [layer]

/-- The gate at a row and a unit. -/
theorem gate_at (a b : FVec Ideal S8192x64 .f32) (r : Fin 8192) (d : Fin 64) : gate a b (ix2 r d) = Ideal.logistic (a (ix2 r d) + b (ix2 r d)) := by
  unfold Ideal.logistic
  rw [← one_f32]
  pointwise [gate, ones]

/-- The cell at a row is the cell of the row. -/
theorem cell_at (g gh : FVec Ideal S8192x192 .f32) (h : FVec Ideal S8192x64 .f32) (r : Fin 8192) (d : Fin 64) :
    cell g gh h (ix2 r d) = Spec.cellR (fun j => g (ix2 r j)) (fun j => gh (ix2 r j)) (fun k => h (ix2 r k)) d := by
  unfold Spec.cellR Spec.cand Spec.update Spec.reset
  pointwise [cell, ones, gate_at, one_f32]

/-- The word of zero is zero. -/
theorem zero_f32 : Ideal.ofBits .f32 0x00000000#32 = (0 : EReal) := by
  simp [Ideal.ofBits, Ideal.ieee]

/-- Every step has its rows. -/
theorem fits (t : Fin 16) : S8192x16x64.Slices ![0, t.val, 0] S8192x1x64 :=
  (by decide +kernel : ∀ t : Fin 16, S8192x16x64.Slices ![0, t.val, 0] S8192x1x64) t

/-- The rows of one step. -/
def stepRows (x : FVec Ideal S8192x16x64 .f32) (t : Fin 16) : FVec Ideal S8192x64 .f32 :=
  shapeCast S8192x64 (extractStridedSlice S8192x1x64 ![0, t.val, 0] x (fits t)) shapeCasts_S8192x1x64_S8192x64

/-- The rows of a step at a row. -/
theorem stepRows_at (x : FVec Ideal S8192x16x64 .f32) (t : Fin 16) (r : Fin 8192) (k : Fin 64) : stepRows x t (ix2 r k) = x (ix3 r t k) := by
  pointwise [stepRows]

/-- The states after `t` steps over `x`, from zero. -/
def after (x : FVec Ideal S8192x16x64 .f32) (wi wh : FVec Ideal S192x64 .f32) (bi bh : FVec Ideal S192 .f32) : ℕ → FVec Ideal S8192x64 .f32
  | 0 => broadcastInDim S8192x64 ![] bcast_S_S8192x64 (constant (F := Ideal) S_ .f32 0x00000000#32)
  | t + 1 => cell (layer (stepRows x ⟨t % 16, Nat.mod_lt _ (by norm_num)⟩) wi bi) (layer (after x wi wh bi bh t) wh bh) (after x wi wh bi bh t)

/-- The states after `t` steps at a row are the row's states after `t` steps. -/
theorem after_at (x : FVec Ideal S8192x16x64 .f32) (wi wh : FVec Ideal S192x64 .f32) (bi bh : FVec Ideal S192 .f32) (r : Fin 8192) :
    ∀ (t : ℕ) (d : Fin 64), after x wi wh bi bh t (ix2 r d) = Spec.single Spec.cellR (fun t k => x (ix3 r ⟨t % 16, Nat.mod_lt _ (by norm_num)⟩ k))
      (fun k j => wi (ix2 j k)) (fun j => bi (ix1 j)) (fun k j => wh (ix2 j k)) (fun j => bh (ix1 j)) t d
  | 0, d => zero_f32
  | t + 1, d => by
    unfold after Spec.single
    rw [cell_at]
    simp only [layer_at, stepRows_at, after_at x wi wh bi bh r t]

/-- One step's states, with the step as an axis. -/
def slab (h : FVec Ideal S8192x64 .f32) : FVec Ideal S8192x1x64 .f32 :=
  broadcastInDim S8192x1x64 ![0, 2] bcast_S8192x64_S8192x1x64_0_2 h

/-- The states after every step, side by side. -/
def stack (h : ℕ → FVec Ideal S8192x64 .f32) : FVec Ideal S8192x16x64 .f32 :=
  concatenate S8192x16x64 1 [⟨S8192x1x64, slab (h 1)⟩, ⟨S8192x1x64, slab (h 2)⟩, ⟨S8192x1x64, slab (h 3)⟩, ⟨S8192x1x64, slab (h 4)⟩,
    ⟨S8192x1x64, slab (h 5)⟩, ⟨S8192x1x64, slab (h 6)⟩, ⟨S8192x1x64, slab (h 7)⟩, ⟨S8192x1x64, slab (h 8)⟩,
    ⟨S8192x1x64, slab (h 9)⟩, ⟨S8192x1x64, slab (h 10)⟩, ⟨S8192x1x64, slab (h 11)⟩, ⟨S8192x1x64, slab (h 12)⟩,
    ⟨S8192x1x64, slab (h 13)⟩, ⟨S8192x1x64, slab (h 14)⟩, ⟨S8192x1x64, slab (h 15)⟩, ⟨S8192x1x64, slab (h 16)⟩]
    concatenates_S8192x1x64_S8192x1x64_S8192x1x64_S8192x1x64_S8192x1x64_S8192x1x64_S8192x1x64_S8192x1x64_S8192x1x64_S8192x1x64_S8192x1x64_S8192x1x64_S8192x1x64_S8192x1x64_S8192x1x64_S8192x1x64_S8192x16x64_d1

/-- The stack at a step is that step's states. -/
theorem stack_at (h : ℕ → FVec Ideal S8192x64 .f32) (r : Fin 8192) (t : Fin 16) (d : Fin 64) : stack h (ix3 r t d) = h (t.val + 1) (ix2 r d) := by
  pointwise [stack, slab]
  fin_cases t <;> rfl

/-- One recurrent layer: the states after every step over `x`, from zero. -/
def run (x : FVec Ideal S8192x16x64 .f32) (wi wh : FVec Ideal S192x64 .f32) (bi bh : FVec Ideal S192 .f32) : FVec Ideal S8192x16x64 .f32 :=
  stack (after x wi wh bi bh)

/-- The layer at a row and a step. -/
theorem run_at (x : FVec Ideal S8192x16x64 .f32) (wi wh : FVec Ideal S192x64 .f32) (bi bh : FVec Ideal S192 .f32) (r : Fin 8192) (t : Fin 16) (d : Fin 64) :
    run x wi wh bi bh (ix3 r t d) = Spec.single Spec.cellR (fun t k => x (ix3 r ⟨t % 16, Nat.mod_lt _ (by norm_num)⟩ k))
      (fun k j => wi (ix2 j k)) (fun j => bi (ix1 j)) (fun k j => wh (ix2 j k)) (fun j => bh (ix1 j)) (t.val + 1) d :=
  (stack_at _ r t d).trans (after_at x wi wh bi bh r _ d)

/-- Two layers over a sequence: the states of the second one after every step. -/
theorem two_at (x : FVec Ideal S8192x16x64 .f32) (wi0 wh0 : FVec Ideal S192x64 .f32) (bi0 bh0 : FVec Ideal S192 .f32)
    (wi1 wh1 : FVec Ideal S192x64 .f32) (bi1 bh1 : FVec Ideal S192 .f32) (y : ℕ → Fin 64 → EReal) (r : Fin 8192)
    (hy : ∀ (t : Fin 16) (k : Fin 64), x (ix3 r t k) = y t.val k) (t : Fin 16) (d : Fin 64) :
    run (run x wi0 wh0 bi0 bh0) wi1 wh1 bi1 bh1 (ix3 r t d) = Spec.hid y wi0 wh0 bi0 bh0 wi1 wh1 bi1 bh1 Spec.cellR t d := by
  unfold Spec.hid
  rw [Spec.states_single, run_at]
  dsimp only
  rw [Spec.single_congr Spec.cellR _ _ _ _ (fun s hs => funext fun k => ?_) (t.val + 1) (by omega)]
  rw [run_at]
  dsimp only
  rw [Nat.mod_eq_of_lt hs, Spec.single_congr Spec.cellR _ _ _ _ (fun s' hs' => funext fun k' => ?_) (s + 1) (by omega)]
  rw [hy]
  dsimp only
  rw [Nat.mod_eq_of_lt hs']

end Cert.ReferenceIdeal.Layer
-- ==== Proof.RefAttn.lean ====
/-
  The reference's attention stage: the operations after the recurrent layers, in stages, and the result at an index.
-/
module

public import proofs.«01_k».proof.Proof.Gen.ReferenceIdeal
public import Idealize.ShloMosaic.Lib.Pointwise
public import proofs.«01_k».proof.Proof.AttnSpec

@[expose] public section

set_option maxRecDepth 65536
set_option maxHeartbeats 1000000

noncomputable section

namespace Cert.ReferenceIdeal.Attn

open Idealize.ShloMosaic Idealize.ShloMosaic.TcCoe Idealize.SL.Sem
open Idealize.ShloMosaic.StableHlo
open Cert.ReferenceIdeal Cert.ReferenceIdeal.Gen

local notation "Rows" => FVec Ideal S8192x16x64 FTy.f32
local notation "Scores" => FVec Ideal S8192x4x16x16 FTy.f32
local notation "Mat" => FVec Ideal S64x64 FTy.f32
local notation "Bias" => FVec Ideal S64 FTy.f32

/-- A bias over the rows. -/
def spread (b : Bias) : Rows :=
  broadcastInDim S8192x16x64 ![0, 1, 2] bcast_S1x1x64_S8192x16x64_0_1_2 (broadcastInDim S1x1x64 ![2] bcast_S64_S1x1x64_2 b)

/-- A linear layer of the rows. -/
def lin (x : Rows) (w : Mat) (b : Bias) : Rows :=
  addf (Host.dotGeneral (F := Ideal) (φ₁ := .f32) (φ₂ := .f32) dot_S8192x16x64_S64x64_S8192x16x64_2_0_01_1_n_n none x (transpose S64x64 [1, 0] w transposes_S64x64_S64x64_1_0)) (spread b)

/-- The rows cut into heads. -/
def heads (p : Rows) : Scores :=
  transpose S8192x4x16x16 [0, 2, 1, 3] (shapeCast S8192x16x4x16 p shapeCasts_S8192x16x64_S8192x16x4x16) transposes_S8192x16x4x16_S8192x4x16x16_0_2_1_3

/-- The product of the heads with the keys' heads, over four. -/
def scores (q k : Scores) : Scores :=
  Host.divf (Host.dotGeneral dot_S8192x4x16x16_S8192x4x16x16_S8192x4x16x16_3_2_2_3_01_01 none q
    (transpose S8192x4x16x16 [0, 1, 3, 2] k transposes_S8192x4x16x16_S8192x4x16x16_0_1_3_2))
    (broadcastInDim S8192x4x16x16 ![] bcast_S_S8192x4x16x16 (constant S_ .f32 0x40800000#32))

/-- The places after a step. -/
def later : IVec S16x16 1 :=
  select (cmpi .sge (addi (iotaInDim S16x16 32 0) (broadcastInDim S16x16 ![] bcast_S_S16x16 (constantI S_ 32 0#32))) (iotaInDim S16x16 32 1))
    (broadcastInDim S16x16 ![] bcast_S_S16x16 (constantI S_ 1 0#1)) (broadcastInDim S16x16 ![] bcast_S_S16x16 (constantI S_ 1 1#1))

/-- The scores with `-∞` at the later places. -/
def masked (s : Scores) : Scores :=
  select (broadcastInDim S8192x4x16x16 ![0, 1, 2, 3] bcast_S1x1x16x16_S8192x4x16x16_0_1_2_3 (broadcastInDim S1x1x16x16 ![2, 3] bcast_S16x16_S1x1x16x16_2_3 later))
    (broadcastInDim S8192x4x16x16 ![] bcast_S_S8192x4x16x16 (id (constant S_ .f32 0xFF800000#32))) s

/-- A value per head and step, over the places. -/
def along (r : FVec Ideal S8192x4x16 .f32) : Scores :=
  broadcastInDim S8192x4x16x16 ![0, 1, 2, 3] bcast_S8192x4x16x1_S8192x4x16x16_0_1_2_3 (broadcastInDim S8192x4x16x1 ![0, 1, 2] bcast_S8192x4x16_S8192x4x16x1_0_1_2 r)

/-- The largest of every row of scores and a starting value. -/
def tops (s : Scores) (v : FVec Ideal S_ .f32) : FVec Ideal S8192x4x16 .f32 :=
  Host.reduce FloatOps.maximumf s v reducesTo_S8192x4x16x16_S8192x4x16_d3 h_S_

/-- The largest score of every row of scores, or `v` when that is larger. -/
def atLeast (v : FVec Ideal S_ .f32) (r : FVec Ideal S8192x4x16 .f32) : FVec Ideal S8192x4x16 .f32 :=
  maximumf (broadcastInDim S8192x4x16 ![] bcast_S_S8192x4x16 v) r

/-- The largest score of every row of scores. -/
def largest (s : Scores) : FVec Ideal S8192x4x16 .f32 :=
  atLeast (constant S_ .f32 0xFF800000#32) (tops s (constant S_ .f32 0xFF800000#32))

/-- The exponentials. -/
def expo (s : Scores) : Scores := Host.exp (subf s (along (largest s)))

/-- The sums of rows of exponentials. -/
def total (e : Scores) : FVec Ideal S8192x4x16 .f32 :=
  Host.reduceAdd e (constant S_ .f32 0x00000000#32) reducesTo_S8192x4x16x16_S8192x4x16_d3 h_S_

/-- The rows of exponentials over their sums. -/
def soft (e : Scores) : Scores := Host.divf e (along (total e))

/-- The heads' weighted values, laid side by side. -/
def mixed (p v : Scores) : Rows :=
  shapeCast S8192x16x64 (transpose S8192x16x4x16 [0, 2, 1, 3] (Host.dotGeneral (F := Ideal) (φ₁ := .f32) (φ₂ := .f32) dot_S8192x4x16x16_S8192x4x16x16_S8192x4x16x16_3_2_2_3_01_01 none p v)
    transposes_S8192x4x16x16_S8192x16x4x16_0_2_1_3) shapeCasts_S8192x16x4x16_S8192x16x64

/-- The means over the features. -/
def means (y : Rows) : FVec Ideal S8192x16x1 .f32 :=
  Host.divf (broadcastInDim S8192x16x1 ![0, 1] bcast_S8192x16_S8192x16x1_0_1
    (Host.reduceAdd y (constant S_ .f32 0x00000000#32) reducesTo_S8192x16x64_S8192x16_d2 h_S_))
    (broadcastInDim S8192x16x1 ![] bcast_S_S8192x16x1 (constant S_ .f32 0x42800000#32))

/-- The rows less their means. -/
def centred (y : Rows) : Rows :=
  subf y (broadcastInDim S8192x16x64 ![0, 1, 2] bcast_S8192x16x1_S8192x16x64_0_1_2 (means y))

/-- The roots of the variances. -/
def roots (v : FVec Ideal S8192x16x1 .f32) : FVec Ideal S8192x16x1 .f32 :=
  Host.sqrt (addf v (broadcastInDim S8192x16x1 ![] bcast_S_S8192x16x1 (constant S_ .f32 0x358637BD#32)))

/-- Centred rows over roots, scaled and shifted. -/
def shifted (d : Rows) (s : FVec Ideal S8192x16x1 .f32) (g b : Bias) : Rows :=
  addf (mulf (Host.divf d (broadcastInDim S8192x16x64 ![0, 1, 2] bcast_S8192x16x1_S8192x16x64_0_1_2 s)) (spread g)) (spread b)

/-- The number of entries of a row, less no degrees of freedom. -/
def count : FVec Ideal S_ .f32 := subf (constant S_ .f32 0x42800000#32) (sitofp .f32 (constantI S_ 32 0#32))

/-- The sums of the rows' squares over a number. -/
def squares (d : Rows) (n : FVec Ideal S_ .f32) : FVec Ideal S8192x16x1 .f32 :=
  Host.divf (broadcastInDim S8192x16x1 ![0, 1] bcast_S8192x16_S8192x16x1_0_1
    (Host.reduceAdd (mulf d d) (constant S_ .f32 0x00000000#32) reducesTo_S8192x16x64_S8192x16_d2 h_S_))
    (broadcastInDim S8192x16x1 ![] bcast_S_S8192x16x1 n)

/-- The values where a number is positive, and no number elsewhere. -/
def guarded (n : FVec Ideal S_ .f32) (v : FVec Ideal S8192x16x1 .f32) : FVec Ideal S8192x16x1 .f32 :=
  select (broadcastInDim S8192x16x1 ![] bcast_S_S8192x16x1 (cmpf .ogt n (constant S_ .f32 0x00000000#32))) v
    (broadcastInDim S8192x16x1 ![] bcast_S_S8192x16x1 (id (constant S_ .f32 0x7FC00000#32)))

/-- The normalised rows. -/
def normed (y : Rows) (g b : Bias) : Rows :=
  shifted (centred y) (roots (guarded count (squares (centred y) count))) g b

/-- The first closing layer. -/
def hidden (y : Rows) (w : FVec Ideal S256x1024 .f32) (b : FVec Ideal S256 .f32) : FVec Ideal S8192x256 .f32 :=
  addf (Host.dotGeneral (F := Ideal) (φ₁ := .f32) (φ₂ := .f32) dot_S8192x1024_S1024x256_S8192x256_1_0_0_1_n_n none (shapeCast S8192x1024 y shapeCasts_S8192x16x64_S8192x1024)
    (transpose S1024x256 [1, 0] w transposes_S256x1024_S1024x256_1_0))
    (broadcastInDim S8192x256 ![0, 1] bcast_S1x256_S8192x256_0_1 (broadcastInDim S1x256 ![1] bcast_S256_S1x256_1 b))

/-- The second closing layer, times an eighth. -/
def logits (h : FVec Ideal S8192x256 .f32) (w : FVec Ideal S2x256 .f32) : FVec Ideal S8192x2 .f32 :=
  mulf (Host.dotGeneral (F := Ideal) (φ₁ := .f32) (φ₂ := .f32) dot_S8192x256_S256x2_S8192x2_1_0_0_1_n_n none h (transpose S256x2 [1, 0] w transposes_S2x256_S256x2_1_0))
    (broadcastInDim S8192x2 ![] bcast_S_S8192x2 (constant S_ .f32 0x3E000000#32))

/-- The attention stage before the normalisation. -/
def attended (x : Rows) (wq : Mat) (bq : Bias) (wk : Mat) (bk : Bias) (wv : Mat) (bv : Bias) (wo : Mat) (bo : Bias) : Rows :=
  addf (lin (mixed (soft (expo (masked (scores (heads (lin x wq bq)) (heads (lin x wk bk)))))) (heads (lin x wv bv))) wo bo) x

/-- A linear layer at a row, a step and a feature. -/
theorem lin_at (x : Rows) (w : Mat) (b : Bias) (n : Fin 8192) (t : Fin 16) (c : Fin 64) :
    lin x w b (ix3 n t c) = Spec.proj (fun t k => x (ix3 n t k)) (fun k c => w (ix2 c k)) (fun c => b (ix1 c)) t c := by
  pointwise [lin, spread, Spec.proj]

/-- The heads at a row, a head, a step and a place are the head's lane of the row. -/
theorem heads_at (p : Rows) (n : Fin 8192) (h : Fin 4) (t d : Fin 16) : heads p (ix4 n h t d) = p (ix3 n t (Spec.lane h d)) := by
  have e : Spec.lane h d = ⟨h.val * 16 + d.val, by omega⟩ := Fin.ext (by simp only [Spec.lane]; omega)
  rw [e]
  pointwise [heads]

/-- The word of four is four. -/
theorem four : Ideal.ofBits .f32 0x40800000#32 = ((4 : ℝ) : EReal) := by
  simp [Ideal.ofBits, Ideal.ieee, -EReal.coe_mul]; norm_num

/-- The word of sixty-four is sixty-four. -/
theorem sixtyfour : Ideal.ofBits .f32 0x42800000#32 = ((64 : ℝ) : EReal) := by
  simp [Ideal.ofBits, Ideal.ieee, -EReal.coe_mul]; norm_num

/-- The word of an eighth is an eighth. -/
theorem eighth : Ideal.ofBits .f32 0x3E000000#32 = ((1 / 8 : ℝ) : EReal) := by
  simp [Ideal.ofBits, Ideal.ieee, -EReal.coe_mul]; norm_num

/-- The word of −∞ is −∞. -/
theorem minus_infinity : Ideal.ofBits .f32 0xFF800000#32 = ⊥ := by
  simp [Ideal.ofBits, Ideal.ieee]

/-- A score: the product over the places of a head, over four. -/
theorem scores_at (q k : Scores) (n : Fin 8192) (h : Fin 4) (t j : Fin 16) :
    scores q k (ix4 n h t j) = Ideal.div (∑ d : Fin 16, q (ix4 n h t d) * k (ix4 n h j d)) ((4 : ℝ) : EReal) := by
  rw [← four]
  pointwise [scores]

/-- The places after a step are those that aren't at most the step. -/
theorem later_at : ∀ t j : Fin 16, later (ix2 t j) = if j ≤ t then 0#1 else 1#1 := by
  decide +kernel

/-- A masked score: −∞ at the later places. -/
theorem masked_at (s : Scores) (n : Fin 8192) (h : Fin 4) (t j : Fin 16) :
    masked s (ix4 n h t j) = if j ≤ t then s (ix4 n h t j) else ⊥ := by
  have e : masked s (ix4 n h t j) = if later (ix2 t j) = 1#1 then Ideal.ofBits .f32 0xFF800000#32 else s (ix4 n h t j) := by
    generalize hl : later = l
    unfold masked
    rw [hl]
    pointwise
    rfl
  rw [e, later_at, minus_infinity]
  by_cases hj : j ≤ t
  · rw [if_pos hj, if_pos hj, if_neg (show ¬ (0#1 : BitVec 1) = 1#1 by decide)]
  · rw [if_neg hj, if_neg hj, if_pos rfl]

/-- A value per head and step is the same at every place. -/
theorem along_at (r : FVec Ideal S8192x4x16 .f32) (n : Fin 8192) (h : Fin 4) (t j : Fin 16) : along r (ix4 n h t j) = r (ix3 n h t) := by
  pointwise [along]

/-- The largest of a row of scores and the starting value. -/
theorem tops_at (s : Scores) (v : FVec Ideal S_ .f32) (n : Fin 8192) (h : Fin 4) (t : Fin 16) :
    tops s v (ix3 n h t) = Finset.univ.fold max (v (Shape.Idx.first h_S_)) fun j : Fin 16 => s (ix4 n h t j) := by
  pointwise [tops]

/-- Where `v` is −∞ the larger of it and a row's largest is the row's largest. -/
theorem atLeast_at (v : FVec Ideal S_ .f32) (r : FVec Ideal S8192x4x16 .f32) (j : S8192x4x16.Idx) (hv : ∀ i, v i = ⊥) : atLeast v r j = r j := by
  have e : atLeast v r j = max (broadcastInDim S8192x4x16 ![] bcast_S_S8192x4x16 v j) (r j) := rfl
  rw [e]
  unfold broadcastInDim
  rw [hv]
  exact max_eq_right bot_le

/-- The scalar minus infinity. -/
theorem start_at (i : S_.Idx) : (constant S_ .f32 0xFF800000#32 : FVec Ideal S_ .f32) i = ⊥ := minus_infinity

/-- The largest score of a row. -/
theorem largest_at (s : Scores) (n : Fin 8192) (h : Fin 4) (t : Fin 16) :
    largest s (ix3 n h t) = Finset.univ.fold max ⊥ fun j : Fin 16 => s (ix4 n h t j) := by
  unfold largest
  rw [atLeast_at _ _ _ start_at, tops_at, start_at]

/-- An exponential: of a score less the row's largest. -/
theorem expo_at (s : Scores) (n : Fin 8192) (h : Fin 4) (t j : Fin 16) :
    expo s (ix4 n h t j) = Ideal.exp (s (ix4 n h t j) - Finset.univ.fold max ⊥ fun j : Fin 16 => s (ix4 n h t j)) := by
  rw [← largest_at, ← along_at (largest s) n h t j]
  generalize hl : along (largest s) = l
  unfold expo
  rw [hl]
  pointwise

/-- The sum of a row of exponentials. -/
theorem total_at (e : Scores) (n : Fin 8192) (h : Fin 4) (t : Fin 16) : total e (ix3 n h t) = ∑ j : Fin 16, e (ix4 n h t j) := by
  pointwise [total]

/-- The softmax of a row of scores. -/
theorem soft_at (s : Scores) (n : Fin 8192) (h : Fin 4) (t j : Fin 16) :
    soft (expo s) (ix4 n h t j) = Spec.softR (fun h t j => s (ix4 n h t j)) h t j := by
  unfold Spec.softR
  simp only [← expo_at]
  rw [← total_at, ← along_at (total (expo s)) n h t j]
  generalize ht : along (total (expo s)) = l
  unfold soft
  rw [ht]
  pointwise

/-- The weighted values at a lane are those of the lane's head and place. -/
theorem mixed_at (p v : Scores) (n : Fin 8192) (t : Fin 16) (c : Fin 64) :
    mixed p v (ix3 n t c) = ∑ j : Fin 16, p (ix4 n (Spec.headOf c) t j) * v (ix4 n (Spec.headOf c) j (Spec.placeOf c)) := by
  obtain ⟨h, d, rfl⟩ : ∃ (h : Fin 4) (d : Fin 16), c = ⟨h.val * 16 + d.val, by omega⟩ :=
    ⟨⟨c.val / 16, by omega⟩, ⟨c.val % 16, by omega⟩, Fin.ext (by dsimp only; omega)⟩
  have eh : Spec.headOf ⟨h.val * 16 + d.val, by omega⟩ = h := Fin.ext (by simp only [Spec.headOf]; omega)
  have ed : Spec.placeOf ⟨h.val * 16 + d.val, by omega⟩ = d := Fin.ext (by simp only [Spec.placeOf]; omega)
  rw [eh, ed]
  pointwise [mixed]

/-- The mean of a row. -/
theorem means_at (y : Rows) (n : Fin 8192) (t : Fin 16) : means y (ix3 n t 0) = Spec.mean fun e => y (ix3 n t e) := by
  unfold Spec.mean
  rw [← sixtyfour]
  pointwise [means]

/-- A row less its mean. -/
theorem centred_at (y : Rows) (n : Fin 8192) (t : Fin 16) (e : Fin 64) :
    centred y (ix3 n t e) = y (ix3 n t e) - Spec.mean fun e => y (ix3 n t e) := by
  rw [← means_at]
  generalize hm : means y = M
  unfold centred
  rw [hm]
  pointwise

/-- A centred row over a root, scaled and shifted, at a feature. -/
theorem shifted_at (d : Rows) (s : FVec Ideal S8192x16x1 .f32) (g b : Bias) (n : Fin 8192) (t : Fin 16) (e : Fin 64) :
    shifted d (roots s) g b (ix3 n t e)
      = Ideal.div (d (ix3 n t e)) (Ideal.sqrt (s (ix3 n t 0) + Ideal.ofBits .f32 0x358637BD#32)) * g (ix1 e) + b (ix1 e) := by
  pointwise [shifted, roots, spread]

/-- A row has 64 entries. -/
theorem count_at (i : S_.Idx) : count i = ((64 : ℝ) : EReal) := by
  have e : count i = Ideal.ofBits .f32 0x42800000#32 - ((((0#32 : BitVec 32).toInt : ℤ) : ℝ) : EReal) := rfl
  rw [e, sixtyfour]
  simp

/-- Where the number is 64 the guard leaves the values. -/
theorem guarded_at (n : FVec Ideal S_ .f32) (v : FVec Ideal S8192x16x1 .f32) (j : S8192x16x1.Idx) (hn : ∀ i, n i = ((64 : ℝ) : EReal)) :
    guarded n v j = v j := by
  have hc : (broadcastInDim S8192x16x1 ![] bcast_S_S8192x16x1 (cmpf .ogt n (constant S_ .f32 0x00000000#32))) j = 1#1 := by
    unfold broadcastInDim
    have hz : Ideal.ofBits .f32 0x00000000#32 = (0 : EReal) := by simp [Ideal.ofBits, Ideal.ieee]
    refine (show _ = Ideal.cmp .ogt (n _) (Ideal.ofBits .f32 0x00000000#32) from rfl).trans ?_
    rw [hn, hz]
    have h : (0 : EReal) < ((64 : ℝ) : EReal) := EReal.coe_pos.mpr (by norm_num)
    simp [Ideal.cmp, h]
  exact if_pos hc

/-- The sum of a row's squares over a number. -/
theorem squares_at (d : Rows) (k : FVec Ideal S_ .f32) (n : Fin 8192) (t : Fin 16) :
    squares d k (ix3 n t 0) = Ideal.div (∑ e : Fin 64, d (ix3 n t e) * d (ix3 n t e)) (k ix0) := by
  pointwise [squares]

/-- The normalised row at a feature. -/
theorem normed_at (y : Rows) (g b : Bias) (n : Fin 8192) (t : Fin 16) (e : Fin 64) :
    normed y g b (ix3 n t e)
      = Spec.normR (Ideal.ofBits .f32 0x358637BD#32) (fun e => g (ix1 e)) (fun e => b (ix1 e)) (fun e => y (ix3 n t e)) e := by
  have hv : Spec.vari (Ideal.ofBits .f32 0x358637BD#32) (fun e => y (ix3 n t e))
      = guarded count (squares (centred y) count) (ix3 n t 0) + Ideal.ofBits .f32 0x358637BD#32 := by
    rw [guarded_at _ _ _ count_at, squares_at, count_at]
    simp only [centred_at]
    rfl
  unfold Spec.normR
  rw [hv, ← centred_at]
  exact shifted_at (centred y) (guarded count (squares (centred y) count)) g b n t e

/-- The first closing layer: the sum over the steps and the features. -/
theorem hidden_at (y : Rows) (w : FVec Ideal S256x1024 .f32) (b : FVec Ideal S256 .f32) (n : Fin 8192) (f : Fin 256) :
    hidden y w b (ix2 n f) = Spec.hidden (fun t e => y (ix3 n t e)) (fun k f => w (ix2 f k)) (fun f => b (ix1 f)) f := by
  have e : hidden y w b (ix2 n f) = (∑ k : Fin 1024, (shapeCast S8192x1024 y shapeCasts_S8192x16x64_S8192x1024 : FVec Ideal S8192x1024 .f32) (ix2 n k) * w (ix2 f k)) + b (ix1 f) := by
    generalize hY : (shapeCast S8192x1024 y shapeCasts_S8192x16x64_S8192x1024 : FVec Ideal S8192x1024 .f32) = Y
    unfold hidden
    rw [hY]
    pointwise
  rw [e, Fin.sum_univ_tiles 16 64 rfl]
  unfold Spec.hidden
  refine congrArg (· + b (ix1 f)) (Finset.sum_congr rfl fun t _ => Finset.sum_congr rfl fun k _ => congrArg₂ (· * ·) ?_ ?_)
  · pointwise
  · exact congrArg (fun q => w (ix2 f q)) (Fin.ext (by dsimp only; omega))

/-- The second closing layer, times an eighth. -/
theorem logits_at (h : FVec Ideal S8192x256 .f32) (w : FVec Ideal S2x256 .f32) (n : Fin 8192) (o : Fin 2) :
    logits h w (ix2 n o) = Spec.logit (fun f => h (ix2 n f)) (fun f o => w (ix2 o f)) o := by
  unfold Spec.logit
  rw [← eighth]
  pointwise [logits]

/-- A masked score from the states. -/
theorem scored_at (x : Rows) (wq : Mat) (bq : Bias) (wk : Mat) (bk : Bias) (n : Fin 8192) (h : Fin 4) (t j : Fin 16) :
    masked (scores (heads (lin x wq bq)) (heads (lin x wk bk))) (ix4 n h t j)
      = Spec.scoreR (Spec.proj (fun t k => x (ix3 n t k)) (fun k c => wq (ix2 c k)) (fun c => bq (ix1 c)))
          (Spec.proj (fun t k => x (ix3 n t k)) (fun k c => wk (ix2 c k)) (fun c => bk (ix1 c))) h t j := by
  rw [masked_at, scores_at]
  simp only [heads_at, lin_at]
  rfl

/-- The lane of a lane's head and place is the lane. -/
theorem lane_split (c : Fin 64) : Spec.lane (Spec.headOf c) (Spec.placeOf c) = c :=
  Fin.ext (by simp only [Spec.lane, Spec.headOf, Spec.placeOf]; omega)

/-- A row before the normalisation. -/
theorem attended_at (x : Rows) (wq : Mat) (bq : Bias) (wk : Mat) (bk : Bias) (wv : Mat) (bv : Bias) (wo : Mat) (bo : Bias) (n : Fin 8192)
    (t : Fin 16) (e : Fin 64) :
    attended x wq bq wk bk wv bv wo bo (ix3 n t e)
      = Spec.resid (fun t k => x (ix3 n t k)) (Spec.mix (Spec.softR (Spec.scoreR
            (Spec.proj (fun t k => x (ix3 n t k)) (fun k c => wq (ix2 c k)) (fun c => bq (ix1 c)))
            (Spec.proj (fun t k => x (ix3 n t k)) (fun k c => wk (ix2 c k)) (fun c => bk (ix1 c)))))
          (Spec.proj (fun t k => x (ix3 n t k)) (fun k c => wv (ix2 c k)) (fun c => bv (ix1 c))))
          (fun k c => wo (ix2 c k)) (fun c => bo (ix1 c)) t e := by
  have hs : (fun h t j => masked (scores (heads (lin x wq bq)) (heads (lin x wk bk))) (ix4 n h t j)) = _ :=
    funext fun h => funext₂ fun t j => scored_at x wq bq wk bk n h t j
  have hm : (fun (t : Fin 16) (c : Fin 64) => mixed (soft (expo (masked (scores (heads (lin x wq bq)) (heads (lin x wk bk)))))) (heads (lin x wv bv)) (ix3 n t c))
      = Spec.mix (Spec.softR (Spec.scoreR
            (Spec.proj (fun t k => x (ix3 n t k)) (fun k c => wq (ix2 c k)) (fun c => bq (ix1 c)))
            (Spec.proj (fun t k => x (ix3 n t k)) (fun k c => wk (ix2 c k)) (fun c => bk (ix1 c)))))
          (Spec.proj (fun t k => x (ix3 n t k)) (fun k c => wv (ix2 c k)) (fun c => bv (ix1 c))) := by
    funext t c
    rw [mixed_at]
    unfold Spec.mix
    refine Finset.sum_congr rfl fun j _ => congrArg₂ (· * ·) ?_ ?_
    · rw [soft_at, hs]
    · rw [heads_at, lin_at, lane_split]
  have ha : attended x wq bq wk bk wv bv wo bo (ix3 n t e)
      = lin (mixed (soft (expo (masked (scores (heads (lin x wq bq)) (heads (lin x wk bk)))))) (heads (lin x wv bv))) wo bo (ix3 n t e) + x (ix3 n t e) := rfl
  rw [ha, lin_at, hm]
  rfl

/-- The stages together, at an index of the result. -/
theorem stages_at (x : Rows) (wq : Mat) (bq : Bias) (wk : Mat) (bk : Bias) (wv : Mat) (bv : Bias) (wo : Mat) (bo g b : Bias)
    (wl : FVec Ideal S256x1024 .f32) (bl : FVec Ideal S256 .f32) (wp : FVec Ideal S2x256 .f32) (n : Fin 8192) (o : Fin 2) :
    logits (hidden (normed (attended x wq bq wk bk wv bv wo bo) g b) wl bl) wp (ix2 n o)
      = Spec.attnR (fun t k => x (ix3 n t k)) (fun k c => wq (ix2 c k)) (fun c => bq (ix1 c)) (fun k c => wk (ix2 c k)) (fun c => bk (ix1 c))
          (fun k c => wv (ix2 c k)) (fun c => bv (ix1 c)) (fun k c => wo (ix2 c k)) (fun c => bo (ix1 c)) (Ideal.ofBits .f32 0x358637BD#32)
          (fun c => g (ix1 c)) (fun c => b (ix1 c)) (fun k c => wl (ix2 c k)) (fun c => bl (ix1 c)) (fun k c => wp (ix2 c k)) o := by
  have hn : (fun (t : Fin 16) (e : Fin 64) => normed (attended x wq bq wk bk wv bv wo bo) g b (ix3 n t e)) = _ :=
    funext₂ fun t e => normed_at (attended x wq bq wk bk wv bv wo bo) g b n t e
  have hh : (fun f : Fin 256 => hidden (normed (attended x wq bq wk bk wv bv wo bo) g b) wl bl (ix2 n f)) = _ :=
    funext fun f => hidden_at (normed (attended x wq bq wk bk wv bv wo bo) g b) wl bl n f
  rw [logits_at, hh, hn]
  simp only [attended_at]
  rfl

end Cert.ReferenceIdeal.Attn
-- ==== Proof.RefNet.lean ====
/-
  The whole reference as stages of the arguments, and its result at an index.
-/
module

public import proofs.«01_k».proof.Proof.Gen.ReferenceIdeal.Run
public import proofs.«01_k».proof.Proof.RefGraph
public import proofs.«01_k».proof.Proof.RefStep
public import proofs.«01_k».proof.Proof.RefAttn

@[expose] public section

set_option maxRecDepth 65536
set_option maxHeartbeats 1000000

noncomputable section

namespace Cert.ReferenceIdeal.Net

open Idealize.ShloMosaic Idealize.ShloMosaic.TcCoe Idealize.SL.Sem
open Idealize.ShloMosaic.StableHlo
open Cert.ReferenceIdeal Cert.ReferenceIdeal.Gen Cert.ReferenceIdeal.Value

/-- The graph stage's rows are its stages. -/
theorem graph_eq (V : Valuation τ sig (Elt Ideal)) : res_main_v47 V = Graph.rows (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := rfl

/-- The first recurrent layer is the layer over the graph stage's rows. -/
theorem first_eq (V : Valuation τ sig (Elt Ideal)) : res_main_v705 V = Layer.run (res_main_v47 V) (V (Proc.devRef .tc main_arg11)) (V (Proc.devRef .tc main_arg12)) (V (Proc.devRef .tc main_arg13)) (V (Proc.devRef .tc main_arg14)) := rfl

/-- The second recurrent layer is the layer over the first one's states. -/
theorem second_eq (V : Valuation τ sig (Elt Ideal)) : res_main_v1363 V = Layer.run (res_main_v705 V) (V (Proc.devRef .tc main_arg15)) (V (Proc.devRef .tc main_arg16)) (V (Proc.devRef .tc main_arg17)) (V (Proc.devRef .tc main_arg18)) := rfl

/-- The result as the stages after the recurrent layers. -/
def result (V : Valuation τ sig (Elt Ideal)) : FVec Ideal S8192x2 .f32 :=
  Attn.logits (Attn.hidden (Attn.normed (Attn.attended (res_main_v1363 V) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)))
    (V (Proc.devRef .tc main_arg27)) (V (Proc.devRef .tc main_arg28))) (V (Proc.devRef .tc main_arg29)) (V (Proc.devRef .tc main_arg30))) (V (Proc.devRef .tc main_arg31))

/-- The second layer's states at a row and a step, from the arguments. -/
theorem states_at (V : Valuation τ sig (Elt Ideal)) (r : Fin 8192) (t : Fin 16) (k : Fin 64) :
    (res_main_v1363 V : FVec Ideal S8192x16x64 .f32) (ix3 r t k) = Spec.hid (Spec.graphSeq (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) r)
      (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) Spec.cellR t k := by
  rw [second_eq, first_eq, graph_eq]
  exact Layer.two_at _ _ _ _ _ _ _ _ _ _ r (fun t k => Graph.rows_at _ _ _ _ _ _ _ _ _ _ _ r t k) t k

end Cert.ReferenceIdeal.Net
-- ==== Proof.Finite.lean ====
/-
  The precondition read back: the query and key weights and biases it names hold real numbers only.
-/
module

public import proofs.«01_k».proof.Pre_scores_finite
public import proofs.«01_k».proof.Proof.GruSpec
public import Idealize.ShloMosaic.Lib.ReduceAll
public import Idealize.ShloMosaic.Lib.Pointwise

@[expose] public section

set_option maxRecDepth 16384

noncomputable section

namespace Cert.Pre_scores_finite

open Idealize.ShloMosaic

/-- The side conditions of the precondition's operations. -/
theorem facts : Facts where
  bcast_S_S64x64 := by decide
  reducesTo_S64x64_S_d0_1 := by decide
  h_S_ := by decide
  bcast_S_S64 := by decide
  reducesTo_S64_S_d0 := by decide

/-- The pattern the precondition compares with stands for infinity. -/
theorem infinity : Ideal.ofBits .f32 0x7F800000#32 = ⊤ := by
  simp [Ideal.ofBits, Ideal.ieee]

/-- A number whose absolute value is below infinity is real. -/
theorem real_of_lt (x : EReal) (h : max x (-x) < ⊤) : Spec.Real' x := by
  induction x with
  | bot => simp at h
  | top => simp at h
  | coe r => exact ⟨r, rfl⟩

/-- What the comparison of an entry says. -/
theorem real_of_cmp {s : Shape} (x : FVec Ideal s .f32) (v : FVec Ideal s .f32) (i : s.Idx) (hv : v i = ⊤)
    (h : cmpf .olt (Host.absf x) v i = 1#1) : Spec.Real' (x i) := by
  refine real_of_lt _ ?_
  have e : cmpf .olt (Host.absf x) v i = BitVec.ofBool (decide (max (x i) (-(x i)) < v i)) := rfl
  rw [e, hv] at h
  by_contra hc
  rw [decide_eq_false hc] at h
  exact absurd h (by decide)

variable [Facts]
open Facts

/-- The precondition says that the four arrays hold real numbers. -/
theorem real_of_fn (x0 : FVec Ideal S8x1024x16x64 .f32) (x1 : FVec Ideal S1024x64 .f32) (x2 : FVec Ideal S1024x1024 .f32) (x3 : FVec Ideal S64x256 .f32)
    (x4 : FVec Ideal S256 .f32) (x5 : FVec Ideal S256x64 .f32) (x6 : FVec Ideal S64 .f32) (x7 : FVec Ideal S1024x64 .f32) (x8 : FVec Ideal S1024 .f32)
    (x9 : FVec Ideal S64x64 .f32) (x10 : FVec Ideal S64 .f32) (x11 x12 : FVec Ideal S192x64 .f32) (x13 x14 : FVec Ideal S192 .f32)
    (x15 x16 : FVec Ideal S192x64 .f32) (x17 x18 : FVec Ideal S192 .f32) (x19 : FVec Ideal S64x64 .f32) (x20 : FVec Ideal S64 .f32)
    (x21 : FVec Ideal S64x64 .f32) (x22 : FVec Ideal S64 .f32) (x23 : FVec Ideal S64x64 .f32) (x24 : FVec Ideal S64 .f32) (x25 : FVec Ideal S64x64 .f32)
    (x26 x27 x28 : FVec Ideal S64 .f32) (x29 : FVec Ideal S256x1024 .f32) (x30 : FVec Ideal S256 .f32) (x31 : FVec Ideal S2x256 .f32) (x32 : IVec S_ 32)
    (h : fn (F := Ideal) x0 x1 x2 x3 x4 x5 x6 x7 x8 x9 x10 x11 x12 x13 x14 x15 x16 x17 x18 x19 x20 x21 x22 x23 x24 x25 x26 x27 x28 x29 x30 x31 x32 ix0 = 1#1) :
    (∀ i, Spec.Real' (x19 i)) ∧ (∀ i, Spec.Real' (x20 i)) ∧ (∀ i, Spec.Real' (x21 i)) ∧ ∀ i, Spec.Real' (x22 i) := by
  haveI : Subsingleton S_.Idx := ⟨fun a b => funext fun k => k.elim0⟩
  have hm : ∀ i, broadcastInDim S64x64 ![] bcast_S_S64x64 (constant S_ .f32 0x7F800000#32 : FVec Ideal S_ .f32) i = ⊤ := fun _ => infinity
  have hb : ∀ i, broadcastInDim S64 ![] bcast_S_S64 (constant S_ .f32 0x7F800000#32 : FVec Ideal S_ .f32) i = ⊤ := fun _ => infinity
  obtain ⟨h123, h4⟩ := IntOp.andi_eq_one.1 (show IntOp.andi _ _ = 1#1 from h)
  obtain ⟨h12, h3⟩ := IntOp.andi_eq_one.1 (show IntOp.andi _ _ = 1#1 from h123)
  obtain ⟨h1, h2⟩ := IntOp.andi_eq_one.1 (show IntOp.andi _ _ = 1#1 from h12)
  exact ⟨fun i => real_of_cmp _ _ i (hm i) (Host.reduce_andi_all _ _ _ _ _ h1 i), fun i => real_of_cmp _ _ i (hb i) (Host.reduce_andi_all _ _ _ _ _ h2 i),
    fun i => real_of_cmp _ _ i (hm i) (Host.reduce_andi_all _ _ _ _ _ h3 i), fun i => real_of_cmp _ _ i (hb i) (Host.reduce_andi_all _ _ _ _ _ h4 i)⟩

end Cert.Pre_scores_finite
-- ==== Proof.Equal.lean ====
/-
  The two programs' results are one array: the kernel's attention stage of the kernel's states is the reference's
  attention stage of the reference's states.
-/
module

public import proofs.«01_k».proof.Defs
public import proofs.«01_k».proof.Proof.KernelRun
public import proofs.«01_k».proof.Proof.KernelValue
public import proofs.«01_k».proof.Proof.AttnMath
public import proofs.«01_k».proof.Proof.RefNet
public import proofs.«01_k».proof.Proof.Finite

@[expose] public section

set_option maxRecDepth 16384

noncomputable section

namespace Cert.Equal

open Idealize.ShloMosaic Idealize.ShloMosaic.TcCoe Idealize.SL.Sem

/-- The small constant of the normalisation is a positive real number. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The states of row `r` as the reference computes them, from the kernel's argument arrays. -/
def hidR (r : Fin 8192) : Fin 16 → Fin 64 → EReal :=
  Spec.hid (Spec.graphSeq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) r)
    (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) Spec.cellR

/-- The kernel's array is the reference's attention stage of the reference's states, when the query and key layers are real. -/
theorem kernel_at (hwq : ∀ i, Spec.Real' (((m ((c.tc : Thread Cert.KernelIdeal.nD Cert.KernelIdeal.τ).loc Cert.KernelIdeal.main_arg19)) : FVec Ideal Cert.KernelIdeal.S64x64 .f32) i)) (hbq : ∀ i, Spec.Real' (((m ((c.tc : Thread Cert.KernelIdeal.nD Cert.KernelIdeal.τ).loc Cert.KernelIdeal.main_arg20)) : FVec Ideal Cert.KernelIdeal.S64 .f32) i))
    (hwk : ∀ i, Spec.Real' (((m ((c.tc : Thread Cert.KernelIdeal.nD Cert.KernelIdeal.τ).loc Cert.KernelIdeal.main_arg21)) : FVec Ideal Cert.KernelIdeal.S64x64 .f32) i)) (hbk : ∀ i, Spec.Real' (((m ((c.tc : Thread Cert.KernelIdeal.nD Cert.KernelIdeal.τ).loc Cert.KernelIdeal.main_arg22)) : FVec Ideal Cert.KernelIdeal.S64 .f32) i))
    (r : Fin 8192) (o : Fin 2) :
    ((Cert.KernelIdeal.Gen.dat3 (Cert.KernelIdeal.Gen.V15 m ρ) c).arrAt 16 Cert.KernelIdeal.cfg3.N : FVec Ideal Cert.KernelIdeal.S8192x2 .f32) (ix2 r o)
      = Spec.attnR (hidR m c r)
        (fun k c' => ((m ((c.tc : Thread Cert.KernelIdeal.nD Cert.KernelIdeal.τ).loc Cert.KernelIdeal.main_arg19)) : FVec Ideal Cert.KernelIdeal.S64x64 .f32) (ix2 c' k)) (fun c' => ((m ((c.tc : Thread Cert.KernelIdeal.nD Cert.KernelIdeal.τ).loc Cert.KernelIdeal.main_arg20)) : FVec Ideal Cert.KernelIdeal.S64 .f32) (ix1 c')) (fun k c' => ((m ((c.tc : Thread Cert.KernelIdeal.nD Cert.KernelIdeal.τ).loc Cert.KernelIdeal.main_arg21)) : FVec Ideal Cert.KernelIdeal.S64x64 .f32) (ix2 c' k)) (fun c' => ((m ((c.tc : Thread Cert.KernelIdeal.nD Cert.KernelIdeal.τ).loc Cert.KernelIdeal.main_arg22)) : FVec Ideal Cert.KernelIdeal.S64 .f32) (ix1 c')) (fun k c' => ((m ((c.tc : Thread Cert.KernelIdeal.nD Cert.KernelIdeal.τ).loc Cert.KernelIdeal.main_arg23)) : FVec Ideal Cert.KernelIdeal.S64x64 .f32) (ix2 c' k)) (fun c' => ((m ((c.tc : Thread Cert.KernelIdeal.nD Cert.KernelIdeal.τ).loc Cert.KernelIdeal.main_arg24)) : FVec Ideal Cert.KernelIdeal.S64 .f32) (ix1 c')) (fun k c' => ((m ((c.tc : Thread Cert.KernelIdeal.nD Cert.KernelIdeal.τ).loc Cert.KernelIdeal.main_arg25)) : FVec Ideal Cert.KernelIdeal.S64x64 .f32) (ix2 c' k)) (fun c' => ((m ((c.tc : Thread Cert.KernelIdeal.nD Cert.KernelIdeal.τ).loc Cert.KernelIdeal.main_arg26)) : FVec Ideal Cert.KernelIdeal.S64 .f32) (ix1 c'))
        (Ideal.ofBits .f32 0x358637BD#32)
        (fun c' => ((m ((c.tc : Thread Cert.KernelIdeal.nD Cert.KernelIdeal.τ).loc Cert.KernelIdeal.main_arg27)) : FVec Ideal Cert.KernelIdeal.S64 .f32) (ix1 c')) (fun c' => ((m ((c.tc : Thread Cert.KernelIdeal.nD Cert.KernelIdeal.τ).loc Cert.KernelIdeal.main_arg28)) : FVec Ideal Cert.KernelIdeal.S64 .f32) (ix1 c'))
        (fun k c' => ((m ((c.tc : Thread Cert.KernelIdeal.nD Cert.KernelIdeal.τ).loc Cert.KernelIdeal.main_arg29)) : FVec Ideal Cert.KernelIdeal.S256x1024 .f32) (ix2 c' k)) (fun c' => ((m ((c.tc : Thread Cert.KernelIdeal.nD Cert.KernelIdeal.τ).loc Cert.KernelIdeal.main_arg30)) : FVec Ideal Cert.KernelIdeal.S256 .f32) (ix1 c'))
        (fun k c' => ((m ((c.tc : Thread Cert.KernelIdeal.nD Cert.KernelIdeal.τ).loc Cert.KernelIdeal.main_arg31)) : FVec Ideal Cert.KernelIdeal.S2x256 .f32) (ix2 c' k)) o := by
  obtain ⟨e, he, ee⟩ := eps_pos
  have hh : Cert.KernelIdeal.Result.hidK m c r = hidR m c r := Spec.hid_eq _ _ _ _ _ _ _ _ _
  refine (Cert.KernelIdeal.Result.res_at m ρ c r o).trans ?_
  unfold Cert.KernelIdeal.Attn.eps
  rw [hh, ee]
  exact congrFun (Spec.attn_eq _ _ _ _ _ _ _ _ _ e he _ _ _ _ _ (fun t k => Spec.hid_real _ _ _ _ _ _ _ _ _ t k)
    (fun k c' => hwq (ix2 c' k)) (fun c' => hbq (ix1 c')) (fun k c' => hwk (ix2 c' k)) (fun c' => hbk (ix1 c'))) o

/-- On equal argument arrays the reference's array is the kernel's. -/
theorem equal (hwq : ∀ i, Spec.Real' (((m ((c.tc : Thread Cert.KernelIdeal.nD Cert.KernelIdeal.τ).loc Cert.KernelIdeal.main_arg19)) : FVec Ideal Cert.KernelIdeal.S64x64 .f32) i)) (hbq : ∀ i, Spec.Real' (((m ((c.tc : Thread Cert.KernelIdeal.nD Cert.KernelIdeal.τ).loc Cert.KernelIdeal.main_arg20)) : FVec Ideal Cert.KernelIdeal.S64 .f32) i))
    (hwk : ∀ i, Spec.Real' (((m ((c.tc : Thread Cert.KernelIdeal.nD Cert.KernelIdeal.τ).loc Cert.KernelIdeal.main_arg21)) : FVec Ideal Cert.KernelIdeal.S64x64 .f32) i)) (hbk : ∀ i, Spec.Real' (((m ((c.tc : Thread Cert.KernelIdeal.nD Cert.KernelIdeal.τ).loc Cert.KernelIdeal.main_arg22)) : FVec Ideal Cert.KernelIdeal.S64 .f32) i))
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (a26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (a27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (a28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (a29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (a30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) :
    Cert.ReferenceIdeal.Net.result (StableHlo.launchContents m' c) = (Cert.KernelIdeal.Gen.dat3 (Cert.KernelIdeal.Gen.V15 m ρ) c).arrAt 16 Cert.KernelIdeal.cfg3.N := by
  funext j
  have hx : (fun (t : Fin 16) (k : Fin 64) => ((Cert.ReferenceIdeal.Value.res_main_v1363 (StableHlo.launchContents m' c)) : FVec Ideal Cert.ReferenceIdeal.S8192x16x64 .f32) (ix3 (j 0) t k))
      = hidR m c (j 0) := by
    funext t k
    refine (Cert.ReferenceIdeal.Net.states_at (StableHlo.launchContents m' c) (j 0) t k).trans ?_
    unfold StableHlo.launchContents
    rw [a0, a1, a2, a3, a4, a5, a6, a7, a8, a9, a10, a11, a12, a13, a14, a15, a16, a17, a18]
    rfl
  refine (congrArg _ (eq_ix2 j)).trans (Eq.trans ?_ ((congrArg _ (eq_ix2 j)).trans (kernel_at m ρ c hwq hbq hwk hbk (j 0) (j 1))).symm)
  refine (Cert.ReferenceIdeal.Attn.stages_at _ _ _ _ _ _ _ _ _ _ _ _ _ _ (j 0) (j 1)).trans ?_
  rw [hx]
  unfold StableHlo.launchContents
  rw [a19, a20, a21, a22, a23, a24, a25, a26, a27, a28, a29, a30, a31]

end Cert.Equal
-- ==== Proof.lean ====
/-
  The certificate: the two programs' frames, the idealization, and the kernel's array equal to the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments, and ends with every counter at zero. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition the kernel and the reference leave one array, and both leave their arguments. -/
theorem value : Cert.algebraic_KernelIdeal_ReferenceIdeal_pre_scores_finite (hPre_scores_finite := Cert.Pre_scores_finite.facts) := by
  intro m ρ m' ρ' hpre hagree
  refine ⟨fun c => (Cert.KernelIdeal.Gen.dat3 (Cert.KernelIdeal.Gen.V15 m ρ) c).arrAt 16 Cert.KernelIdeal.cfg3.N, ?_, ?_⟩
  · refine (θ_run Cert.KernelIdeal.defs _ _).mono (fun r h c => ⟨(h c).1, ?_⟩) (Cert.KernelIdeal.Run.run m ρ)
    exact ⟨(h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩
  · refine (θ_run Cert.ReferenceIdeal.defs _ _).mono (fun r h c => ⟨(h c).1.trans ?_, (h c).2⟩) (Cert.ReferenceIdeal.Value.run (F := Ideal) m' ρ')
    obtain ⟨a0, a1, a2, a3, a4, a5, a6, a7, a8, a9, a10, a11, a12, a13, a14, a15, a16, a17, a18, a19, a20, a21, a22, a23, a24, a25, a26, a27, a28, a29, a30, a31, a32⟩ := hagree c
    haveI := Cert.Pre_scores_finite.facts
    obtain ⟨hwq, hbq, hwk, hbk⟩ := Cert.Pre_scores_finite.real_of_fn (h := congrFun (hpre c) ix0)
    exact Cert.Equal.equal m ρ m' c hwq hbq hwk hbk a0 a1 a2 a3 a4 a5 a6 a7 a8 a9 a10 a11 a12 a13 a14 a15 a16 a17 a18 a19 a20 a21 a22 a23 a24 a25 a26 a27 a28 a29 a30 a31

/-- Everything the certificate claims. -/
theorem claim : Cert.Claim := ⟨Cert.Kernel.Gen.facts, Cert.KernelIdeal.Gen.facts, Cert.ReferenceIdeal.Gen.facts, Cert.Pre_scores_finite.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  IdealRules.named_const.statement Cert.KernelIdeal.κ "mask" .f32 0xCE6E6B28#32 ⊥ rfl, value⟩

end Cert.Proof

end
